-- ==== Defs.lean ====
def Pre_Kernel [hPre_graphs_in_range : Cert.Pre_graphs_in_range.Facts] (m : (ℓ : Loc Cert.Kernel.nD Cert.Kernel.τ Cert.Kernel.sig) → Buf (Elt Bits) ℓ) : Prop :=
  ∀ c : Dev Cert.Kernel.nD,
    (Cert.Pre_graphs_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_graphs_in_range : Cert.Pre_graphs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_graphs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_graphs_sorted [hPre_graphs_sorted : Cert.Pre_graphs_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_graphs_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_graphs_sorted [hPre_graphs_sorted : Cert.Pre_graphs_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_graphs_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_graphs_in_range : Cert.Pre_graphs_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_graphs_in_range : Cert.Pre_graphs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_graphs_sorted [hKernelIdeal : Cert.KernelIdeal.Facts] [hPre_graphs_sorted : Cert.Pre_graphs_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_graphs_sorted m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_graphs_sorted [hReferenceIdeal : Cert.ReferenceIdeal.Facts] [hPre_graphs_sorted : Cert.Pre_graphs_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_graphs_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_graphs_sorted [hKernelIdeal : Cert.KernelIdeal.Facts] [hReferenceIdeal : Cert.ReferenceIdeal.Facts] [hPre_graphs_sorted : Cert.Pre_graphs_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_graphs_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_graphs_in_range : Cert.Pre_graphs_in_range.Facts) (hPre_graphs_sorted : Cert.Pre_graphs_sorted.Facts),
    quiescent_Kernel (hKernel := hKernel) (hPre_graphs_in_range := hPre_graphs_in_range)
    ∧ quiescent_KernelIdeal (hKernelIdeal := hKernelIdeal) (hPre_graphs_in_range := hPre_graphs_in_range)
    ∧ quiescent_KernelIdeal_pre_graphs_sorted (hKernelIdeal := hKernelIdeal) (hPre_graphs_sorted := hPre_graphs_sorted)
    ∧ quiescent_ReferenceIdeal (hReferenceIdeal := hReferenceIdeal)
    ∧ quiescent_ReferenceIdeal_pre_graphs_sorted (hReferenceIdeal := hReferenceIdeal) (hPre_graphs_sorted := hPre_graphs_sorted)
    ∧ preserves_Kernel_KernelIdeal
    ∧ algebraic_KernelIdeal_ReferenceIdeal_pre_graphs_sorted (hKernelIdeal := hKernelIdeal) (hReferenceIdeal := hReferenceIdeal) (hPre_graphs_sorted := hPre_graphs_sorted)
-- ==== Pre_graphs_in_range.lean ====
abbrev S10000x256 : Shape := ⟨2, ![10000, 256]⟩
abbrev S2x160000 : Shape := ⟨2, ![2, 160000]⟩
abbrev S10000 : Shape := ⟨1, ![10000]⟩
abbrev S_ : Shape := ⟨0, ![]⟩

class Facts : Prop where
  bcast_S_S10000 : S_.BroadcastsInDim S10000 (![] : Fin 0 → Fin S10000.rank)

variable [Facts]

def fn {F : FTy → Type} [FloatOps F] (main_arg0 : FVec F S10000x256 .f32) (main_arg1 : IVec S2x160000 32) (main_arg2 : IVec S10000 32) : IVec S10000 1 :=
  let main_c : IVec S_ 32 := constantI S_ 32 0#32
  let main_v0 : IVec S10000 32 := broadcastInDim S10000 ![] bcast_S_S10000 main_c
  let main_v1 : IVec S10000 1 := cmpi .sge main_arg2 main_v0
  let main_c_0 : IVec S_ 32 := constantI S_ 32 64#32
  let main_v2 : IVec S10000 32 := broadcastInDim S10000 ![] bcast_S_S10000 main_c_0
  let main_v3 : IVec S10000 1 := cmpi .slt main_arg2 main_v2
  let main_v4 : IVec S10000 1 := andi main_v1 main_v3
  main_v4
-- ==== Pre_graphs_sorted.lean ====
abbrev S10000x256 : Shape := ⟨2, ![10000, 256]⟩
abbrev S2x160000 : Shape := ⟨2, ![2, 160000]⟩
abbrev S10000 : Shape := ⟨1, ![10000]⟩
abbrev S9999 : Shape := ⟨1, ![9999]⟩
abbrev S_ : Shape := ⟨0, ![]⟩

class Facts : Prop where
  slices_S10000_S9999_0 : S10000.Slices ![0] S9999
  slices_S10000_S9999_1 : S10000.Slices ![1] S9999
  bcast_S_S9999 : S_.BroadcastsInDim S9999 (![] : Fin 0 → Fin S9999.rank)

variable [Facts]

def fn {F : FTy → Type} [FloatOps F] (main_arg0 : FVec F S10000x256 .f32) (main_arg1 : IVec S2x160000 32) (main_arg2 : IVec S10000 32) : IVec S9999 1 :=
  let main_v0 : IVec S9999 32 := (extractStridedSlice S9999 ![0] · slices_S10000_S9999_0) main_arg2
  let main_v1 : IVec S9999 32 := (extractStridedSlice S9999 ![1] · slices_S10000_S9999_1) main_arg2
  let main_c : IVec S_ 32 := constantI S_ 32 0#32
  let main_v2 : IVec S9999 32 := broadcastInDim S9999 ![] bcast_S_S9999 main_c
  let main_v3 : IVec S9999 1 := cmpi .sge main_v0 main_v2
  let main_v4 : IVec S9999 1 := cmpi .sle main_v0 main_v1
  let main_v5 : IVec S9999 1 := andi main_v3 main_v4
  let main_c_0 : IVec S_ 32 := constantI S_ 32 64#32
  let main_v6 : IVec S9999 32 := broadcastInDim S9999 ![] bcast_S_S9999 main_c_0
  let main_v7 : IVec S9999 1 := cmpi .slt main_v1 main_v6
  let main_v8 : IVec S9999 1 := andi main_v5 main_v7
  main_v8
-- ==== Kernel.lean ====
abbrev S10000x256 : Shape := ⟨2, ![10000, 256]⟩
abbrev S2x160000 : Shape := ⟨2, ![2, 160000]⟩
abbrev S10000 : Shape := ⟨1, ![10000]⟩
abbrev S64x256 : Shape := ⟨2, ![64, 256]⟩
abbrev S2x160x256 : Shape := ⟨3, ![2, 160, 256]⟩
abbrev S2x256 : Shape := ⟨2, ![2, 256]⟩
abbrev S2 : Shape := ⟨1, ![2]⟩
abbrev S_ : Shape := ⟨0, ![]⟩
abbrev S16 : Shape := ⟨1, ![16]⟩
abbrev S1 : Shape := ⟨1, ![1]⟩
abbrev S1x160x256 : Shape := ⟨3, ![1, 160, 256]⟩
abbrev S160x256 : Shape := ⟨2, ![160, 256]⟩
abbrev S1x1x16 : Shape := ⟨3, ![1, 1, 16]⟩
abbrev S1x16 : Shape := ⟨2, ![1, 16]⟩

abbrev nBuf : Table → Nat
  | .hbm => 4
  | .local .scVector .vmem => 3
  | _ => 0

abbrev bufTy : (tb : Table) → Fin (nBuf tb) → BufTy
  | .hbm, ⟨0, _⟩ => ⟨S10000x256, .f32⟩
  | .hbm, ⟨1, _⟩ => ⟨S2x160000, .i32⟩
  | .hbm, ⟨2, _⟩ => ⟨S10000, .i32⟩
  | .hbm, ⟨3, _⟩ => ⟨S64x256, .f32⟩
  | .local .scVector .vmem, ⟨0, _⟩ => ⟨S10000, .i32⟩
  | .local .scVector .vmem, ⟨1, _⟩ => ⟨S2x160x256, .f32⟩
  | .local .scVector .vmem, ⟨2, _⟩ => ⟨S2x256, .f32⟩
  | _, _ => ⟨S10000x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_3 : BitVec 32 := 0#32
  let c125_i32 : BitVec 32 := 125#32
  let v10 : BitVec 32 := Scalar.addi c0_i32_3 c125_i32
  let c1_i32_4 : BitVec 32 := 1#32
  ⟨c0_i32_3, v10, c1_i32_4⟩
def k0_off1 (k0_t1 : Fin k0_t1_loop.trips) (c0_i32_87 : BitVec 32) : Fin 1 → Nat :=
  let c0_i32_3 : BitVec 32 := 0#32
  let c1_i32_4 : BitVec 32 := 1#32
  let arg9 : BitVec 32 := Scf.iv c0_i32_3 c1_i32_4 k0_t1
  let c5_i32 : BitVec 32 := 5#32
  let v345 : BitVec 32 := Scalar.muli arg9 c5_i32
  let v346 : BitVec 32 := Scalar.addi v345 c0_i32_87
  let c16_i32 : BitVec 32 := 16#32
  let v347 : BitVec 32 := Scalar.muli v346 c16_i32
  let v348 : Index := Scalar.indexCast v347
  ![v348.toNat]
def k0_mult1 (v43 : BitVec 32) : BitVec 32 :=
  let c_m8_i32 : BitVec 32 := 4294967288#32
  let v110 : BitVec 32 := Scalar.andi v43 c_m8_i32
  let c0_i32_87 : BitVec 32 := 0#32
  let v345 : BitVec 32 := Scalar.addi v110 c0_i32_87
  let c9840_i32 : BitVec 32 := 9840#32
  let v346 : BitVec 32 := Scalar.minsi v345 c9840_i32
  v346
def k0_cond1 (v43 : BitVec 32) (v75 : BitVec 32) : BitVec 1 :=
  let v109 : BitVec 32 := Scalar.subi v75 v43
  let c0_i32_13 : BitVec 32 := 0#32
  let v132 : BitVec 1 := Scalar.cmpi .sgt v109 c0_i32_13
  let v133 : BitVec 32 := Scalar.extui v132
  let c0_i32_14 : BitVec 32 := 0#32
  let v134 : BitVec 1 := Scalar.cmpi .ne v133 c0_i32_14
  v134

def k0_off2 (v43 : BitVec 32) : Fin 2 → Nat :=
  let c_m8_i32 : BitVec 32 := 4294967288#32
  let v110 : BitVec 32 := Scalar.andi v43 c_m8_i32
  let c0_i32_87 : BitVec 32 := 0#32
  let v345 : BitVec 32 := Scalar.addi v110 c0_i32_87
  let c9840_i32 : BitVec 32 := 9840#32
  let v346 : BitVec 32 := Scalar.minsi v345 c9840_i32
  let v347 : BitVec 32 := v346
  let c0_i32_92 : BitVec 32 := 0#32
  ![v347.toNat, 0]
@[reducible] def k0_t2_loop (v43 : BitVec 32) (v75 : BitVec 32) : Scf.Loop 32 :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_17 : BitVec 32 := 1#32
  ⟨c0_i32_15, v139, c1_i32_17⟩
def k0_mult2 (v43 : BitVec 32) (v75 : BitVec 32) (k0_t2 : Fin (k0_t2_loop v43 v75).trips) : BitVec 32 :=
  let c_m8_i32 : BitVec 32 := 4294967288#32
  let v110 : BitVec 32 := Scalar.andi v43 c_m8_i32
  let c0_i32_15 : BitVec 32 := 0#32
  let c1_i32_17 : BitVec 32 := 1#32
  let arg9 : BitVec 32 := Scf.iv c0_i32_15 c1_i32_17 k0_t2
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  v350
def k0_off3 (v43 : BitVec 32) (v75 : BitVec 32) (k0_t2 : Fin (k0_t2_loop v43 v75).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let c0_i32_90 : BitVec 32 := 0#32
  let c0_i32_91 : BitVec 32 := 0#32
  ![v345.toNat, 0, 0]
def k0_off4 (v43 : BitVec 32) (v75 : BitVec 32) (k0_t2 : Fin (k0_t2_loop v43 v75).trips) : Fin 2 → Nat :=
  let c_m8_i32 : BitVec 32 := 4294967288#32
  let v110 : BitVec 32 := Scalar.andi v43 c_m8_i32
  let c0_i32_15 : BitVec 32 := 0#32
  let c1_i32_17 : BitVec 32 := 1#32
  let arg9 : BitVec 32 := Scf.iv c0_i32_15 c1_i32_17 k0_t2
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let c0_i32_92 : BitVec 32 := 0#32
  ![v351.toNat, 0]
def k0_off5 (v43 : BitVec 32) (v75 : BitVec 32) (k0_t2 : Fin (k0_t2_loop v43 v75).trips) : Fin 1 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  ![v345.toNat]
def k0_mult3 (v43 : BitVec 32) (v75 : BitVec 32) (k0_t2 : Fin (k0_t2_loop v43 v75).trips) : BitVec 32 :=
  let c_m8_i32 : BitVec 32 := 4294967288#32
  let v110 : BitVec 32 := Scalar.andi v43 c_m8_i32
  let c0_i32_15 : BitVec 32 := 0#32
  let c1_i32_17 : BitVec 32 := 1#32
  let arg9 : BitVec 32 := Scf.iv c0_i32_15 c1_i32_17 k0_t2
  let c1_i32_102 : BitVec 32 := 1#32
  let v376 : BitVec 32 := Scalar.addi arg9 c1_i32_102
  let c160_i32_103 : BitVec 32 := 160#32
  let v377 : BitVec 32 := Scalar.muli v376 c160_i32_103
  let v378 : BitVec 32 := Scalar.addi v110 v377
  let c9840_i32_104 : BitVec 32 := 9840#32
  let v379 : BitVec 32 := Scalar.minsi v378 c9840_i32_104
  v379
def k0_cond2 (v43 : BitVec 32) (v75 : BitVec 32) (k0_t2 : Fin (k0_t2_loop v43 v75).trips) : BitVec 1 :=
  let c0_i32_15 : BitVec 32 := 0#32
  let c1_i32_17 : BitVec 32 := 1#32
  let arg9 : BitVec 32 := Scf.iv c0_i32_15 c1_i32_17 k0_t2
  let c1_i32_96 : BitVec 32 := 1#32
  let v360 : BitVec 32 := Scalar.addi arg9 c1_i32_96
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v361 : BitVec 1 := Scalar.cmpi .slt v360 v131
  let v362 : BitVec 32 := Scalar.extui v361
  let c0_i32_97 : BitVec 32 := 0#32
  let v363 : BitVec 1 := Scalar.cmpi .ne v362 c0_i32_97
  v363

def k0_off6 (v43 : BitVec 32) (v75 : BitVec 32) (k0_t2 : Fin (k0_t2_loop v43 v75).trips) : Fin 3 → Nat :=
  let c0_i32_15 : BitVec 32 := 0#32
  let c1_i32_17 : BitVec 32 := 1#32
  let arg9 : BitVec 32 := Scf.iv c0_i32_15 c1_i32_17 k0_t2
  let c1_i32_105 : BitVec 32 := 1#32
  let v381 : BitVec 32 := Scalar.addi arg9 c1_i32_105
  let c1_i32_106 : BitVec 32 := 1#32
  let v382 : BitVec 32 := Scalar.andi v381 c1_i32_106
  let c0_i32_109 : BitVec 32 := 0#32
  let c0_i32_110 : BitVec 32 := 0#32
  ![v382.toNat, 0, 0]
def k0_off7 (v43 : BitVec 32) (v75 : BitVec 32) (k0_t2 : Fin (k0_t2_loop v43 v75).trips) : Fin 2 → Nat :=
  let c_m8_i32 : BitVec 32 := 4294967288#32
  let v110 : BitVec 32 := Scalar.andi v43 c_m8_i32
  let c0_i32_15 : BitVec 32 := 0#32
  let c1_i32_17 : BitVec 32 := 1#32
  let arg9 : BitVec 32 := Scf.iv c0_i32_15 c1_i32_17 k0_t2
  let c1_i32_102 : BitVec 32 := 1#32
  let v376 : BitVec 32 := Scalar.addi arg9 c1_i32_102
  let c160_i32_103 : BitVec 32 := 160#32
  let v377 : BitVec 32 := Scalar.muli v376 c160_i32_103
  let v378 : BitVec 32 := Scalar.addi v110 v377
  let c9840_i32_104 : BitVec 32 := 9840#32
  let v379 : BitVec 32 := Scalar.minsi v378 c9840_i32_104
  let v380 : BitVec 32 := v379
  let c0_i32_111 : BitVec 32 := 0#32
  ![v380.toNat, 0]
def k0_off8 (v43 : BitVec 32) (v75 : BitVec 32) (k0_t2 : Fin (k0_t2_loop v43 v75).trips) : Fin 1 → Nat :=
  let c0_i32_15 : BitVec 32 := 0#32
  let c1_i32_17 : BitVec 32 := 1#32
  let arg9 : BitVec 32 := Scf.iv c0_i32_15 c1_i32_17 k0_t2
  let c1_i32_107 : BitVec 32 := 1#32
  let v383 : BitVec 32 := Scalar.addi arg9 c1_i32_107
  let c1_i32_108 : BitVec 32 := 1#32
  let v384 : BitVec 32 := Scalar.andi v383 c1_i32_108
  ![v384.toNat]
@[reducible] def k0_t3_loop (v43 : BitVec 32) (v75 : BitVec 32) (k0_t2 : Fin (k0_t2_loop v43 v75).trips) : Scf.Loop 32 :=
  let c_m8_i32 : BitVec 32 := 4294967288#32
  let v110 : BitVec 32 := Scalar.andi v43 c_m8_i32
  let c0_i32_15 : BitVec 32 := 0#32
  let c1_i32_17 : BitVec 32 := 1#32
  let arg9 : BitVec 32 := Scf.iv c0_i32_15 c1_i32_17 k0_t2
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_100 : BitVec 32 := 1#32
  ⟨v365, v373, c1_i32_100⟩
def k0_off9 (v43 : BitVec 32) (v75 : BitVec 32) (k0_t2 : Fin (k0_t2_loop v43 v75).trips) (k0_t3 : Fin (k0_t3_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v376 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t3
  let v377 : Index := Scalar.indexCast arg26
  let c0_102 : Index := 0#32
  ![v376.toNat, v377.toNat, 0]
def k0_off10 (v43 : BitVec 32) (v75 : BitVec 32) (k0_t2 : Fin (k0_t2_loop v43 v75).trips) (k0_t3 : Fin (k0_t3_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v380 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t3
  let v381 : Index := Scalar.indexCast arg26
  let c16_103 : Index := 16#32
  ![v380.toNat, v381.toNat, 16]
def k0_off11 (v43 : BitVec 32) (v75 : BitVec 32) (k0_t2 : Fin (k0_t2_loop v43 v75).trips) (k0_t3 : Fin (k0_t3_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v384 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t3
  let v385 : Index := Scalar.indexCast arg26
  let c32_104 : Index := 32#32
  ![v384.toNat, v385.toNat, 32]
def k0_off12 (v43 : BitVec 32) (v75 : BitVec 32) (k0_t2 : Fin (k0_t2_loop v43 v75).trips) (k0_t3 : Fin (k0_t3_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v388 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t3
  let v389 : Index := Scalar.indexCast arg26
  let c48_105 : Index := 48#32
  ![v388.toNat, v389.toNat, 48]
def k0_off13 (v43 : BitVec 32) (v75 : BitVec 32) (k0_t2 : Fin (k0_t2_loop v43 v75).trips) (k0_t3 : Fin (k0_t3_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v392 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t3
  let v393 : Index := Scalar.indexCast arg26
  let c64_106 : Index := 64#32
  ![v392.toNat, v393.toNat, 64]
def k0_off14 (v43 : BitVec 32) (v75 : BitVec 32) (k0_t2 : Fin (k0_t2_loop v43 v75).trips) (k0_t3 : Fin (k0_t3_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v396 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t3
  let v397 : Index := Scalar.indexCast arg26
  let c80_107 : Index := 80#32
  ![v396.toNat, v397.toNat, 80]
def k0_off15 (v43 : BitVec 32) (v75 : BitVec 32) (k0_t2 : Fin (k0_t2_loop v43 v75).trips) (k0_t3 : Fin (k0_t3_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v400 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t3
  let v401 : Index := Scalar.indexCast arg26
  let c96_108 : Index := 96#32
  ![v400.toNat, v401.toNat, 96]
def k0_off16 (v43 : BitVec 32) (v75 : BitVec 32) (k0_t2 : Fin (k0_t2_loop v43 v75).trips) (k0_t3 : Fin (k0_t3_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v404 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t3
  let v405 : Index := Scalar.indexCast arg26
  let c112_109 : Index := 112#32
  ![v404.toNat, v405.toNat, 112]
def k0_off17 (v43 : BitVec 32) (v75 : BitVec 32) (k0_t2 : Fin (k0_t2_loop v43 v75).trips) (k0_t3 : Fin (k0_t3_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v408 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t3
  let v409 : Index := Scalar.indexCast arg26
  let c128_110 : Index := 128#32
  ![v408.toNat, v409.toNat, 128]
def k0_off18 (v43 : BitVec 32) (v75 : BitVec 32) (k0_t2 : Fin (k0_t2_loop v43 v75).trips) (k0_t3 : Fin (k0_t3_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v412 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t3
  let v413 : Index := Scalar.indexCast arg26
  let c144_111 : Index := 144#32
  ![v412.toNat, v413.toNat, 144]
def k0_off19 (v43 : BitVec 32) (v75 : BitVec 32) (k0_t2 : Fin (k0_t2_loop v43 v75).trips) (k0_t3 : Fin (k0_t3_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v416 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t3
  let v417 : Index := Scalar.indexCast arg26
  let c160_112 : Index := 160#32
  ![v416.toNat, v417.toNat, 160]
def k0_off20 (v43 : BitVec 32) (v75 : BitVec 32) (k0_t2 : Fin (k0_t2_loop v43 v75).trips) (k0_t3 : Fin (k0_t3_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v420 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t3
  let v421 : Index := Scalar.indexCast arg26
  let c176_113 : Index := 176#32
  ![v420.toNat, v421.toNat, 176]
def k0_off21 (v43 : BitVec 32) (v75 : BitVec 32) (k0_t2 : Fin (k0_t2_loop v43 v75).trips) (k0_t3 : Fin (k0_t3_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v424 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t3
  let v425 : Index := Scalar.indexCast arg26
  let c192_114 : Index := 192#32
  ![v424.toNat, v425.toNat, 192]
def k0_off22 (v43 : BitVec 32) (v75 : BitVec 32) (k0_t2 : Fin (k0_t2_loop v43 v75).trips) (k0_t3 : Fin (k0_t3_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v428 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t3
  let v429 : Index := Scalar.indexCast arg26
  let c208_115 : Index := 208#32
  ![v428.toNat, v429.toNat, 208]
def k0_off23 (v43 : BitVec 32) (v75 : BitVec 32) (k0_t2 : Fin (k0_t2_loop v43 v75).trips) (k0_t3 : Fin (k0_t3_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v432 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t3
  let v433 : Index := Scalar.indexCast arg26
  let c224_116 : Index := 224#32
  ![v432.toNat, v433.toNat, 224]
def k0_off24 (v43 : BitVec 32) (v75 : BitVec 32) (k0_t2 : Fin (k0_t2_loop v43 v75).trips) (k0_t3 : Fin (k0_t3_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v436 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t3
  let v437 : Index := Scalar.indexCast arg26
  let c240_117 : Index := 240#32
  ![v436.toNat, v437.toNat, 240]
@[reducible] def k0_t4_loop (v43 : BitVec 32) (v75 : BitVec 32) (k0_t2 : Fin (k0_t2_loop v43 v75).trips) : Scf.Loop 32 :=
  let c_m8_i32 : BitVec 32 := 4294967288#32
  let v110 : BitVec 32 := Scalar.andi v43 c_m8_i32
  let c0_i32_15 : BitVec 32 := 0#32
  let c1_i32_17 : BitVec 32 := 1#32
  let arg9 : BitVec 32 := Scf.iv c0_i32_15 c1_i32_17 k0_t2
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let v370 : BitVec 32 := Scalar.addi v365 v369
  let c1_i32_101 : BitVec 32 := 1#32
  ⟨v373, v370, c1_i32_101⟩
def k0_off25 (v43 : BitVec 32) (v75 : BitVec 32) (k0_t2 : Fin (k0_t2_loop v43 v75).trips) (k0_t4 : Fin (k0_t4_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v376 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t4
  let v377 : Index := Scalar.indexCast arg26
  let c0_102 : Index := 0#32
  ![v376.toNat, v377.toNat, 0]
def k0_off26 (v43 : BitVec 32) (v75 : BitVec 32) (k0_t2 : Fin (k0_t2_loop v43 v75).trips) (k0_t4 : Fin (k0_t4_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v380 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t4
  let v381 : Index := Scalar.indexCast arg26
  let c16_103 : Index := 16#32
  ![v380.toNat, v381.toNat, 16]
def k0_off27 (v43 : BitVec 32) (v75 : BitVec 32) (k0_t2 : Fin (k0_t2_loop v43 v75).trips) (k0_t4 : Fin (k0_t4_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v384 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t4
  let v385 : Index := Scalar.indexCast arg26
  let c32_104 : Index := 32#32
  ![v384.toNat, v385.toNat, 32]
def k0_off28 (v43 : BitVec 32) (v75 : BitVec 32) (k0_t2 : Fin (k0_t2_loop v43 v75).trips) (k0_t4 : Fin (k0_t4_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v388 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t4
  let v389 : Index := Scalar.indexCast arg26
  let c48_105 : Index := 48#32
  ![v388.toNat, v389.toNat, 48]
def k0_off29 (v43 : BitVec 32) (v75 : BitVec 32) (k0_t2 : Fin (k0_t2_loop v43 v75).trips) (k0_t4 : Fin (k0_t4_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v392 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t4
  let v393 : Index := Scalar.indexCast arg26
  let c64_106 : Index := 64#32
  ![v392.toNat, v393.toNat, 64]
def k0_off30 (v43 : BitVec 32) (v75 : BitVec 32) (k0_t2 : Fin (k0_t2_loop v43 v75).trips) (k0_t4 : Fin (k0_t4_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v396 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t4
  let v397 : Index := Scalar.indexCast arg26
  let c80_107 : Index := 80#32
  ![v396.toNat, v397.toNat, 80]
def k0_off31 (v43 : BitVec 32) (v75 : BitVec 32) (k0_t2 : Fin (k0_t2_loop v43 v75).trips) (k0_t4 : Fin (k0_t4_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v400 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t4
  let v401 : Index := Scalar.indexCast arg26
  let c96_108 : Index := 96#32
  ![v400.toNat, v401.toNat, 96]
def k0_off32 (v43 : BitVec 32) (v75 : BitVec 32) (k0_t2 : Fin (k0_t2_loop v43 v75).trips) (k0_t4 : Fin (k0_t4_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v404 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t4
  let v405 : Index := Scalar.indexCast arg26
  let c112_109 : Index := 112#32
  ![v404.toNat, v405.toNat, 112]
def k0_off33 (v43 : BitVec 32) (v75 : BitVec 32) (k0_t2 : Fin (k0_t2_loop v43 v75).trips) (k0_t4 : Fin (k0_t4_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v408 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t4
  let v409 : Index := Scalar.indexCast arg26
  let c128_110 : Index := 128#32
  ![v408.toNat, v409.toNat, 128]
def k0_off34 (v43 : BitVec 32) (v75 : BitVec 32) (k0_t2 : Fin (k0_t2_loop v43 v75).trips) (k0_t4 : Fin (k0_t4_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v412 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t4
  let v413 : Index := Scalar.indexCast arg26
  let c144_111 : Index := 144#32
  ![v412.toNat, v413.toNat, 144]
def k0_off35 (v43 : BitVec 32) (v75 : BitVec 32) (k0_t2 : Fin (k0_t2_loop v43 v75).trips) (k0_t4 : Fin (k0_t4_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v416 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t4
  let v417 : Index := Scalar.indexCast arg26
  let c160_112 : Index := 160#32
  ![v416.toNat, v417.toNat, 160]
def k0_off36 (v43 : BitVec 32) (v75 : BitVec 32) (k0_t2 : Fin (k0_t2_loop v43 v75).trips) (k0_t4 : Fin (k0_t4_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v420 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t4
  let v421 : Index := Scalar.indexCast arg26
  let c176_113 : Index := 176#32
  ![v420.toNat, v421.toNat, 176]
def k0_off37 (v43 : BitVec 32) (v75 : BitVec 32) (k0_t2 : Fin (k0_t2_loop v43 v75).trips) (k0_t4 : Fin (k0_t4_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v424 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t4
  let v425 : Index := Scalar.indexCast arg26
  let c192_114 : Index := 192#32
  ![v424.toNat, v425.toNat, 192]
def k0_off38 (v43 : BitVec 32) (v75 : BitVec 32) (k0_t2 : Fin (k0_t2_loop v43 v75).trips) (k0_t4 : Fin (k0_t4_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v428 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t4
  let v429 : Index := Scalar.indexCast arg26
  let c208_115 : Index := 208#32
  ![v428.toNat, v429.toNat, 208]
def k0_off39 (v43 : BitVec 32) (v75 : BitVec 32) (k0_t2 : Fin (k0_t2_loop v43 v75).trips) (k0_t4 : Fin (k0_t4_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v432 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t4
  let v433 : Index := Scalar.indexCast arg26
  let c224_116 : Index := 224#32
  ![v432.toNat, v433.toNat, 224]
def k0_off40 (v43 : BitVec 32) (v75 : BitVec 32) (k0_t2 : Fin (k0_t2_loop v43 v75).trips) (k0_t4 : Fin (k0_t4_loop v43 v75 k0_t2).trips) : Fin 3 → Nat :=
  let c0_i32_15 : BitVec 32 := 0#32
  let c1_i32_17 : BitVec 32 := 1#32
  let arg9 : BitVec 32 := Scf.iv c0_i32_15 c1_i32_17 k0_t2
  let c1_i32_87 : BitVec 32 := 1#32
  let v345 : BitVec 32 := Scalar.andi arg9 c1_i32_87
  let v436 : Index := Scalar.indexCast v345
  let c_m8_i32 : BitVec 32 := 4294967288#32
  let v110 : BitVec 32 := Scalar.andi v43 c_m8_i32
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t4
  let v437 : Index := Scalar.indexCast arg26
  let c240_117 : Index := 240#32
  ![v436.toNat, v437.toNat, 240]
@[reducible] def k0_t5_loop (v43 : BitVec 32) (v75 : BitVec 32) : Scf.Loop 32 :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let v136 : BitVec 32 := Scalar.addi c0_i32_15 v135
  let c1_i32_18 : BitVec 32 := 1#32
  ⟨v139, v136, c1_i32_18⟩
def k0_mult4 (v43 : BitVec 32) (v75 : BitVec 32) (k0_t5 : Fin (k0_t5_loop v43 v75).trips) : BitVec 32 :=
  let c_m8_i32 : BitVec 32 := 4294967288#32
  let v110 : BitVec 32 := Scalar.andi v43 c_m8_i32
  let c0_i32_15 : BitVec 32 := 0#32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  v350
def k0_off41 (v43 : BitVec 32) (v75 : BitVec 32) (k0_t5 : Fin (k0_t5_loop v43 v75).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let c0_i32_90 : BitVec 32 := 0#32
  let c0_i32_91 : BitVec 32 := 0#32
  ![v345.toNat, 0, 0]
def k0_off42 (v43 : BitVec 32) (v75 : BitVec 32) (k0_t5 : Fin (k0_t5_loop v43 v75).trips) : Fin 2 → Nat :=
  let c_m8_i32 : BitVec 32 := 4294967288#32
  let v110 : BitVec 32 := Scalar.andi v43 c_m8_i32
  let c0_i32_15 : BitVec 32 := 0#32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let c0_i32_92 : BitVec 32 := 0#32
  ![v351.toNat, 0]
def k0_off43 (v43 : BitVec 32) (v75 : BitVec 32) (k0_t5 : Fin (k0_t5_loop v43 v75).trips) : Fin 1 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  ![v345.toNat]
def k0_mult5 (v43 : BitVec 32) (v75 : BitVec 32) (k0_t5 : Fin (k0_t5_loop v43 v75).trips) : BitVec 32 :=
  let c_m8_i32 : BitVec 32 := 4294967288#32
  let v110 : BitVec 32 := Scalar.andi v43 c_m8_i32
  let c0_i32_15 : BitVec 32 := 0#32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_102 : BitVec 32 := 1#32
  let v376 : BitVec 32 := Scalar.addi arg9 c1_i32_102
  let c160_i32_103 : BitVec 32 := 160#32
  let v377 : BitVec 32 := Scalar.muli v376 c160_i32_103
  let v378 : BitVec 32 := Scalar.addi v110 v377
  let c9840_i32_104 : BitVec 32 := 9840#32
  let v379 : BitVec 32 := Scalar.minsi v378 c9840_i32_104
  v379
def k0_cond3 (v43 : BitVec 32) (v75 : BitVec 32) (k0_t5 : Fin (k0_t5_loop v43 v75).trips) : BitVec 1 :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_96 : BitVec 32 := 1#32
  let v360 : BitVec 32 := Scalar.addi arg9 c1_i32_96
  let v361 : BitVec 1 := Scalar.cmpi .slt v360 v131
  let v362 : BitVec 32 := Scalar.extui v361
  let c0_i32_97 : BitVec 32 := 0#32
  let v363 : BitVec 1 := Scalar.cmpi .ne v362 c0_i32_97
  v363

def k0_off44 (v43 : BitVec 32) (v75 : BitVec 32) (k0_t5 : Fin (k0_t5_loop v43 v75).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_105 : BitVec 32 := 1#32
  let v381 : BitVec 32 := Scalar.addi arg9 c1_i32_105
  let c1_i32_106 : BitVec 32 := 1#32
  let v382 : BitVec 32 := Scalar.andi v381 c1_i32_106
  let c0_i32_109 : BitVec 32 := 0#32
  let c0_i32_110 : BitVec 32 := 0#32
  ![v382.toNat, 0, 0]
def k0_off45 (v43 : BitVec 32) (v75 : BitVec 32) (k0_t5 : Fin (k0_t5_loop v43 v75).trips) : Fin 2 → Nat :=
  let c_m8_i32 : BitVec 32 := 4294967288#32
  let v110 : BitVec 32 := Scalar.andi v43 c_m8_i32
  let c0_i32_15 : BitVec 32 := 0#32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_102 : BitVec 32 := 1#32
  let v376 : BitVec 32 := Scalar.addi arg9 c1_i32_102
  let c160_i32_103 : BitVec 32 := 160#32
  let v377 : BitVec 32 := Scalar.muli v376 c160_i32_103
  let v378 : BitVec 32 := Scalar.addi v110 v377
  let c9840_i32_104 : BitVec 32 := 9840#32
  let v379 : BitVec 32 := Scalar.minsi v378 c9840_i32_104
  let v380 : BitVec 32 := v379
  let c0_i32_111 : BitVec 32 := 0#32
  ![v380.toNat, 0]
def k0_off46 (v43 : BitVec 32) (v75 : BitVec 32) (k0_t5 : Fin (k0_t5_loop v43 v75).trips) : Fin 1 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_107 : BitVec 32 := 1#32
  let v383 : BitVec 32 := Scalar.addi arg9 c1_i32_107
  let c1_i32_108 : BitVec 32 := 1#32
  let v384 : BitVec 32 := Scalar.andi v383 c1_i32_108
  ![v384.toNat]
@[reducible] def k0_t6_loop (v43 : BitVec 32) (v75 : BitVec 32) (k0_t5 : Fin (k0_t5_loop v43 v75).trips) : Scf.Loop 32 :=
  let c_m8_i32 : BitVec 32 := 4294967288#32
  let v110 : BitVec 32 := Scalar.andi v43 c_m8_i32
  let c0_i32_15 : BitVec 32 := 0#32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_100 : BitVec 32 := 1#32
  ⟨v365, v373, c1_i32_100⟩
def k0_off47 (v43 : BitVec 32) (v75 : BitVec 32) (k0_t5 : Fin (k0_t5_loop v43 v75).trips) (k0_t6 : Fin (k0_t6_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v376 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t6
  let v377 : Index := Scalar.indexCast arg26
  let c0_102 : Index := 0#32
  ![v376.toNat, v377.toNat, 0]
def k0_off48 (v43 : BitVec 32) (v75 : BitVec 32) (k0_t5 : Fin (k0_t5_loop v43 v75).trips) (k0_t6 : Fin (k0_t6_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v380 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t6
  let v381 : Index := Scalar.indexCast arg26
  let c16_103 : Index := 16#32
  ![v380.toNat, v381.toNat, 16]
def k0_off49 (v43 : BitVec 32) (v75 : BitVec 32) (k0_t5 : Fin (k0_t5_loop v43 v75).trips) (k0_t6 : Fin (k0_t6_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v384 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t6
  let v385 : Index := Scalar.indexCast arg26
  let c32_104 : Index := 32#32
  ![v384.toNat, v385.toNat, 32]
def k0_off50 (v43 : BitVec 32) (v75 : BitVec 32) (k0_t5 : Fin (k0_t5_loop v43 v75).trips) (k0_t6 : Fin (k0_t6_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v388 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t6
  let v389 : Index := Scalar.indexCast arg26
  let c48_105 : Index := 48#32
  ![v388.toNat, v389.toNat, 48]
def k0_off51 (v43 : BitVec 32) (v75 : BitVec 32) (k0_t5 : Fin (k0_t5_loop v43 v75).trips) (k0_t6 : Fin (k0_t6_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v392 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t6
  let v393 : Index := Scalar.indexCast arg26
  let c64_106 : Index := 64#32
  ![v392.toNat, v393.toNat, 64]
def k0_off52 (v43 : BitVec 32) (v75 : BitVec 32) (k0_t5 : Fin (k0_t5_loop v43 v75).trips) (k0_t6 : Fin (k0_t6_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v396 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t6
  let v397 : Index := Scalar.indexCast arg26
  let c80_107 : Index := 80#32
  ![v396.toNat, v397.toNat, 80]
def k0_off53 (v43 : BitVec 32) (v75 : BitVec 32) (k0_t5 : Fin (k0_t5_loop v43 v75).trips) (k0_t6 : Fin (k0_t6_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v400 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t6
  let v401 : Index := Scalar.indexCast arg26
  let c96_108 : Index := 96#32
  ![v400.toNat, v401.toNat, 96]
def k0_off54 (v43 : BitVec 32) (v75 : BitVec 32) (k0_t5 : Fin (k0_t5_loop v43 v75).trips) (k0_t6 : Fin (k0_t6_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v404 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t6
  let v405 : Index := Scalar.indexCast arg26
  let c112_109 : Index := 112#32
  ![v404.toNat, v405.toNat, 112]
def k0_off55 (v43 : BitVec 32) (v75 : BitVec 32) (k0_t5 : Fin (k0_t5_loop v43 v75).trips) (k0_t6 : Fin (k0_t6_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v408 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t6
  let v409 : Index := Scalar.indexCast arg26
  let c128_110 : Index := 128#32
  ![v408.toNat, v409.toNat, 128]
def k0_off56 (v43 : BitVec 32) (v75 : BitVec 32) (k0_t5 : Fin (k0_t5_loop v43 v75).trips) (k0_t6 : Fin (k0_t6_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v412 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t6
  let v413 : Index := Scalar.indexCast arg26
  let c144_111 : Index := 144#32
  ![v412.toNat, v413.toNat, 144]
def k0_off57 (v43 : BitVec 32) (v75 : BitVec 32) (k0_t5 : Fin (k0_t5_loop v43 v75).trips) (k0_t6 : Fin (k0_t6_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v416 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t6
  let v417 : Index := Scalar.indexCast arg26
  let c160_112 : Index := 160#32
  ![v416.toNat, v417.toNat, 160]
def k0_off58 (v43 : BitVec 32) (v75 : BitVec 32) (k0_t5 : Fin (k0_t5_loop v43 v75).trips) (k0_t6 : Fin (k0_t6_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v420 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t6
  let v421 : Index := Scalar.indexCast arg26
  let c176_113 : Index := 176#32
  ![v420.toNat, v421.toNat, 176]
def k0_off59 (v43 : BitVec 32) (v75 : BitVec 32) (k0_t5 : Fin (k0_t5_loop v43 v75).trips) (k0_t6 : Fin (k0_t6_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v424 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t6
  let v425 : Index := Scalar.indexCast arg26
  let c192_114 : Index := 192#32
  ![v424.toNat, v425.toNat, 192]
def k0_off60 (v43 : BitVec 32) (v75 : BitVec 32) (k0_t5 : Fin (k0_t5_loop v43 v75).trips) (k0_t6 : Fin (k0_t6_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v428 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t6
  let v429 : Index := Scalar.indexCast arg26
  let c208_115 : Index := 208#32
  ![v428.toNat, v429.toNat, 208]
def k0_off61 (v43 : BitVec 32) (v75 : BitVec 32) (k0_t5 : Fin (k0_t5_loop v43 v75).trips) (k0_t6 : Fin (k0_t6_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v432 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t6
  let v433 : Index := Scalar.indexCast arg26
  let c224_116 : Index := 224#32
  ![v432.toNat, v433.toNat, 224]
def k0_off62 (v43 : BitVec 32) (v75 : BitVec 32) (k0_t5 : Fin (k0_t5_loop v43 v75).trips) (k0_t6 : Fin (k0_t6_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v436 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t6
  let v437 : Index := Scalar.indexCast arg26
  let c240_117 : Index := 240#32
  ![v436.toNat, v437.toNat, 240]
@[reducible] def k0_t7_loop (v43 : BitVec 32) (v75 : BitVec 32) (k0_t5 : Fin (k0_t5_loop v43 v75).trips) : Scf.Loop 32 :=
  let c_m8_i32 : BitVec 32 := 4294967288#32
  let v110 : BitVec 32 := Scalar.andi v43 c_m8_i32
  let c0_i32_15 : BitVec 32 := 0#32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let v370 : BitVec 32 := Scalar.addi v365 v369
  let c1_i32_101 : BitVec 32 := 1#32
  ⟨v373, v370, c1_i32_101⟩
def k0_off63 (v43 : BitVec 32) (v75 : BitVec 32) (k0_t5 : Fin (k0_t5_loop v43 v75).trips) (k0_t7 : Fin (k0_t7_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v376 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t7
  let v377 : Index := Scalar.indexCast arg26
  let c0_102 : Index := 0#32
  ![v376.toNat, v377.toNat, 0]
def k0_off64 (v43 : BitVec 32) (v75 : BitVec 32) (k0_t5 : Fin (k0_t5_loop v43 v75).trips) (k0_t7 : Fin (k0_t7_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v380 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t7
  let v381 : Index := Scalar.indexCast arg26
  let c16_103 : Index := 16#32
  ![v380.toNat, v381.toNat, 16]
def k0_off65 (v43 : BitVec 32) (v75 : BitVec 32) (k0_t5 : Fin (k0_t5_loop v43 v75).trips) (k0_t7 : Fin (k0_t7_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v384 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t7
  let v385 : Index := Scalar.indexCast arg26
  let c32_104 : Index := 32#32
  ![v384.toNat, v385.toNat, 32]
def k0_off66 (v43 : BitVec 32) (v75 : BitVec 32) (k0_t5 : Fin (k0_t5_loop v43 v75).trips) (k0_t7 : Fin (k0_t7_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v388 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t7
  let v389 : Index := Scalar.indexCast arg26
  let c48_105 : Index := 48#32
  ![v388.toNat, v389.toNat, 48]
def k0_off67 (v43 : BitVec 32) (v75 : BitVec 32) (k0_t5 : Fin (k0_t5_loop v43 v75).trips) (k0_t7 : Fin (k0_t7_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v392 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t7
  let v393 : Index := Scalar.indexCast arg26
  let c64_106 : Index := 64#32
  ![v392.toNat, v393.toNat, 64]
def k0_off68 (v43 : BitVec 32) (v75 : BitVec 32) (k0_t5 : Fin (k0_t5_loop v43 v75).trips) (k0_t7 : Fin (k0_t7_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v396 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t7
  let v397 : Index := Scalar.indexCast arg26
  let c80_107 : Index := 80#32
  ![v396.toNat, v397.toNat, 80]
def k0_off69 (v43 : BitVec 32) (v75 : BitVec 32) (k0_t5 : Fin (k0_t5_loop v43 v75).trips) (k0_t7 : Fin (k0_t7_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v400 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t7
  let v401 : Index := Scalar.indexCast arg26
  let c96_108 : Index := 96#32
  ![v400.toNat, v401.toNat, 96]
def k0_off70 (v43 : BitVec 32) (v75 : BitVec 32) (k0_t5 : Fin (k0_t5_loop v43 v75).trips) (k0_t7 : Fin (k0_t7_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v404 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t7
  let v405 : Index := Scalar.indexCast arg26
  let c112_109 : Index := 112#32
  ![v404.toNat, v405.toNat, 112]
def k0_off71 (v43 : BitVec 32) (v75 : BitVec 32) (k0_t5 : Fin (k0_t5_loop v43 v75).trips) (k0_t7 : Fin (k0_t7_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v408 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t7
  let v409 : Index := Scalar.indexCast arg26
  let c128_110 : Index := 128#32
  ![v408.toNat, v409.toNat, 128]
def k0_off72 (v43 : BitVec 32) (v75 : BitVec 32) (k0_t5 : Fin (k0_t5_loop v43 v75).trips) (k0_t7 : Fin (k0_t7_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v412 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t7
  let v413 : Index := Scalar.indexCast arg26
  let c144_111 : Index := 144#32
  ![v412.toNat, v413.toNat, 144]
def k0_off73 (v43 : BitVec 32) (v75 : BitVec 32) (k0_t5 : Fin (k0_t5_loop v43 v75).trips) (k0_t7 : Fin (k0_t7_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v416 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t7
  let v417 : Index := Scalar.indexCast arg26
  let c160_112 : Index := 160#32
  ![v416.toNat, v417.toNat, 160]
def k0_off74 (v43 : BitVec 32) (v75 : BitVec 32) (k0_t5 : Fin (k0_t5_loop v43 v75).trips) (k0_t7 : Fin (k0_t7_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v420 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t7
  let v421 : Index := Scalar.indexCast arg26
  let c176_113 : Index := 176#32
  ![v420.toNat, v421.toNat, 176]
def k0_off75 (v43 : BitVec 32) (v75 : BitVec 32) (k0_t5 : Fin (k0_t5_loop v43 v75).trips) (k0_t7 : Fin (k0_t7_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v424 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t7
  let v425 : Index := Scalar.indexCast arg26
  let c192_114 : Index := 192#32
  ![v424.toNat, v425.toNat, 192]
def k0_off76 (v43 : BitVec 32) (v75 : BitVec 32) (k0_t5 : Fin (k0_t5_loop v43 v75).trips) (k0_t7 : Fin (k0_t7_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v428 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t7
  let v429 : Index := Scalar.indexCast arg26
  let c208_115 : Index := 208#32
  ![v428.toNat, v429.toNat, 208]
def k0_off77 (v43 : BitVec 32) (v75 : BitVec 32) (k0_t5 : Fin (k0_t5_loop v43 v75).trips) (k0_t7 : Fin (k0_t7_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v432 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t7
  let v433 : Index := Scalar.indexCast arg26
  let c224_116 : Index := 224#32
  ![v432.toNat, v433.toNat, 224]
def k0_off78 (v43 : BitVec 32) (v75 : BitVec 32) (k0_t5 : Fin (k0_t5_loop v43 v75).trips) (k0_t7 : Fin (k0_t7_loop v43 v75 k0_t5).trips) : Fin 3 → Nat :=
  let c0_i32_15 : BitVec 32 := 0#32
  let c_m8_i32 : BitVec 32 := 4294967288#32
  let v110 : BitVec 32 := Scalar.andi v43 c_m8_i32
  let v111 : BitVec 32 := Scalar.subi v75 v110
  let c159_i32 : BitVec 32 := 159#32
  let v112 : BitVec 32 := Scalar.addi v111 c159_i32
  let c0_i32_6 : BitVec 32 := 0#32
  let v114 : BitVec 1 := Scalar.cmpi .sgt v112 c0_i32_6
  let v115 : BitVec 32 := Scalar.extui v114
  let c0_i32_7 : BitVec 32 := 0#32
  let v116 : BitVec 1 := Scalar.cmpi .slt v112 c0_i32_7
  let v117 : BitVec 32 := Scalar.extui v116
  let v118 : BitVec 32 := Scalar.subi v115 v117
  let c160_i32 : BitVec 32 := 160#32
  let c0_i32_8 : BitVec 32 := 0#32
  let v119 : BitVec 1 := Scalar.cmpi .sgt c160_i32 c0_i32_8
  let v120 : BitVec 32 := Scalar.extui v119
  let c0_i32_9 : BitVec 32 := 0#32
  let v121 : BitVec 1 := Scalar.cmpi .slt c160_i32 c0_i32_9
  let v122 : BitVec 32 := Scalar.extui v121
  let v123 : BitVec 32 := Scalar.subi v120 v122
  let v124 : BitVec 1 := Scalar.cmpi .ne v118 v123
  let v125 : BitVec 32 := Scalar.remsi v112 c160_i32
  let c0_i32_10 : BitVec 32 := 0#32
  let v126 : BitVec 1 := Scalar.cmpi .ne v125 c0_i32_10
  let v127 : BitVec 1 := Scalar.andi v124 v126
  let v113 : BitVec 32 := Scalar.divsi v112 c160_i32
  let c1_i32_11 : BitVec 32 := 1#32
  let v128 : BitVec 32 := Scalar.subi v113 c1_i32_11
  let v129 : BitVec 32 := Scalar.select v127 v128 v113
  let v109 : BitVec 32 := Scalar.subi v75 v43
  let c1_i32_12 : BitVec 32 := 1#32
  let v130 : BitVec 32 := Scalar.minsi v109 c1_i32_12
  let v131 : BitVec 32 := Scalar.muli v129 v130
  let v135 : BitVec 32 := Scalar.subi v131 c0_i32_15
  let c1_i32_16 : BitVec 32 := 1#32
  let v137 : BitVec 32 := Scalar.divsi v135 c1_i32_16
  let v138 : BitVec 32 := Scalar.muli v137 c1_i32_16
  let v139 : BitVec 32 := Scalar.addi c0_i32_15 v138
  let c1_i32_18 : BitVec 32 := 1#32
  let arg9 : BitVec 32 := Scf.iv v139 c1_i32_18 k0_t5
  let c1_i32_87 : BitVec 32 := 1#32
  let v345 : BitVec 32 := Scalar.andi arg9 c1_i32_87
  let v436 : Index := Scalar.indexCast v345
  let c160_i32_88 : BitVec 32 := 160#32
  let v346 : BitVec 32 := Scalar.muli arg9 c160_i32_88
  let v347 : BitVec 32 := Scalar.addi v110 v346
  let v364 : BitVec 32 := Scalar.maxsi v43 v347
  let c160_i32_89 : BitVec 32 := 160#32
  let v348 : BitVec 32 := Scalar.muli arg9 c160_i32_89
  let v349 : BitVec 32 := Scalar.addi v110 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v75 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t7
  let v437 : Index := Scalar.indexCast arg26
  let c240_117 : Index := 240#32
  ![v436.toNat, v437.toNat, 240]

def k0_chk1_0 (v43 : BitVec 32) (v75 : BitVec 32) : Prop :=
  (∀ (k0_h1 : k0_cond1 v43 v75 = 1#1), 8 ∣ (k0_mult1 v43).toNat) ∧
  (∀ (k0_h1 : k0_cond1 v43 v75 = 1#1), ∀ a, (k0_off2 v43) a + S160x256.size a ≤ S10000x256.size a) ∧
  ((k0_t2_loop v43 v75).OK) ∧
  (∀ k0_t2 : Fin (k0_t2_loop v43 v75).trips, 8 ∣ (k0_mult2 v43 v75 k0_t2).toNat) ∧
  (∀ k0_t2 : Fin (k0_t2_loop v43 v75).trips, ∀ a, (k0_off3 v43 v75 k0_t2) a + S1x160x256.size a ≤ S2x160x256.size a) ∧
  (∀ k0_t2 : Fin (k0_t2_loop v43 v75).trips, ∀ a, (k0_off4 v43 v75 k0_t2) a + S160x256.size a ≤ S10000x256.size a) ∧
  (∀ k0_t2 : Fin (k0_t2_loop v43 v75).trips, ∀ a, (k0_off5 v43 v75 k0_t2) a + S1.size a ≤ S2.size a) ∧
  (∀ k0_t2 : Fin (k0_t2_loop v43 v75).trips, ∀ (k0_h2 : k0_cond2 v43 v75 k0_t2 = 1#1), 8 ∣ (k0_mult3 v43 v75 k0_t2).toNat) ∧
  (∀ k0_t2 : Fin (k0_t2_loop v43 v75).trips, ∀ (k0_h2 : k0_cond2 v43 v75 k0_t2 = 1#1), ∀ a, (k0_off6 v43 v75 k0_t2) a + S1x160x256.size a ≤ S2x160x256.size a) ∧
  (∀ k0_t2 : Fin (k0_t2_loop v43 v75).trips, ∀ (k0_h2 : k0_cond2 v43 v75 k0_t2 = 1#1), ∀ a, (k0_off7 v43 v75 k0_t2) a + S160x256.size a ≤ S10000x256.size a) ∧
  (∀ k0_t2 : Fin (k0_t2_loop v43 v75).trips, ∀ (k0_h2 : k0_cond2 v43 v75 k0_t2 = 1#1), ∀ a, (k0_off8 v43 v75 k0_t2) a + S1.size a ≤ S2.size a) ∧
  (∀ k0_t2 : Fin (k0_t2_loop v43 v75).trips, (k0_t3_loop v43 v75 k0_t2).OK) ∧
  (∀ (k0_t2 : Fin (k0_t2_loop v43 v75).trips) (k0_t3 : Fin (k0_t3_loop v43 v75 k0_t2).trips), ∀ a, (k0_off9 v43 v75 k0_t2 k0_t3) a + S1x1x16.size a ≤ S2x160x256.size a) ∧
  (∀ (k0_t2 : Fin (k0_t2_loop v43 v75).trips) (k0_t3 : Fin (k0_t3_loop v43 v75 k0_t2).trips), ∀ a, (k0_off10 v43 v75 k0_t2 k0_t3) a + S1x1x16.size a ≤ S2x160x256.size a) ∧
  (∀ (k0_t2 : Fin (k0_t2_loop v43 v75).trips) (k0_t3 : Fin (k0_t3_loop v43 v75 k0_t2).trips), ∀ a, (k0_off11 v43 v75 k0_t2 k0_t3) a + S1x1x16.size a ≤ S2x160x256.size a) ∧
  (∀ (k0_t2 : Fin (k0_t2_loop v43 v75).trips) (k0_t3 : Fin (k0_t3_loop v43 v75 k0_t2).trips), ∀ a, (k0_off12 v43 v75 k0_t2 k0_t3) a + S1x1x16.size a ≤ S2x160x256.size a) ∧
  (∀ (k0_t2 : Fin (k0_t2_loop v43 v75).trips) (k0_t3 : Fin (k0_t3_loop v43 v75 k0_t2).trips), ∀ a, (k0_off13 v43 v75 k0_t2 k0_t3) a + S1x1x16.size a ≤ S2x160x256.size a) ∧
  (∀ (k0_t2 : Fin (k0_t2_loop v43 v75).trips) (k0_t3 : Fin (k0_t3_loop v43 v75 k0_t2).trips), ∀ a, (k0_off14 v43 v75 k0_t2 k0_t3) a + S1x1x16.size a ≤ S2x160x256.size a) ∧
  (∀ (k0_t2 : Fin (k0_t2_loop v43 v75).trips) (k0_t3 : Fin (k0_t3_loop v43 v75 k0_t2).trips), ∀ a, (k0_off15 v43 v75 k0_t2 k0_t3) a + S1x1x16.size a ≤ S2x160x256.size a) ∧
  (∀ (k0_t2 : Fin (k0_t2_loop v43 v75).trips) (k0_t3 : Fin (k0_t3_loop v43 v75 k0_t2).trips), ∀ a, (k0_off16 v43 v75 k0_t2 k0_t3) a + S1x1x16.size a ≤ S2x160x256.size a) ∧
  (∀ (k0_t2 : Fin (k0_t2_loop v43 v75).trips) (k0_t3 : Fin (k0_t3_loop v43 v75 k0_t2).trips), ∀ a, (k0_off17 v43 v75 k0_t2 k0_t3) a + S1x1x16.size a ≤ S2x160x256.size a) ∧
  (∀ (k0_t2 : Fin (k0_t2_loop v43 v75).trips) (k0_t3 : Fin (k0_t3_loop v43 v75 k0_t2).trips), ∀ a, (k0_off18 v43 v75 k0_t2 k0_t3) a + S1x1x16.size a ≤ S2x160x256.size a) ∧
  (∀ (k0_t2 : Fin (k0_t2_loop v43 v75).trips) (k0_t3 : Fin (k0_t3_loop v43 v75 k0_t2).trips), ∀ a, (k0_off19 v43 v75 k0_t2 k0_t3) a + S1x1x16.size a ≤ S2x160x256.size a) ∧
  (∀ (k0_t2 : Fin (k0_t2_loop v43 v75).trips) (k0_t3 : Fin (k0_t3_loop v43 v75 k0_t2).trips), ∀ a, (k0_off20 v43 v75 k0_t2 k0_t3) a + S1x1x16.size a ≤ S2x160x256.size a) ∧
  (∀ (k0_t2 : Fin (k0_t2_loop v43 v75).trips) (k0_t3 : Fin (k0_t3_loop v43 v75 k0_t2).trips), ∀ a, (k0_off21 v43 v75 k0_t2 k0_t3) a + S1x1x16.size a ≤ S2x160x256.size a) ∧
  (∀ (k0_t2 : Fin (k0_t2_loop v43 v75).trips) (k0_t3 : Fin (k0_t3_loop v43 v75 k0_t2).trips), ∀ a, (k0_off22 v43 v75 k0_t2 k0_t3) a + S1x1x16.size a ≤ S2x160x256.size a) ∧
  (∀ (k0_t2 : Fin (k0_t2_loop v43 v75).trips) (k0_t3 : Fin (k0_t3_loop v43 v75 k0_t2).trips), ∀ a, (k0_off23 v43 v75 k0_t2 k0_t3) a + S1x1x16.size a ≤ S2x160x256.size a) ∧
  (∀ (k0_t2 : Fin (k0_t2_loop v43 v75).trips) (k0_t3 : Fin (k0_t3_loop v43 v75 k0_t2).trips), ∀ a, (k0_off24 v43 v75 k0_t2 k0_t3) a + S1x1x16.size a ≤ S2x160x256.size a) ∧
  (∀ k0_t2 : Fin (k0_t2_loop v43 v75).trips, (k0_t4_loop v43 v75 k0_t2).OK) ∧
  (∀ (k0_t2 : Fin (k0_t2_loop v43 v75).trips) (k0_t4 : Fin (k0_t4_loop v43 v75 k0_t2).trips), ∀ a, (k0_off25 v43 v75 k0_t2 k0_t4) a + S1x1x16.size a ≤ S2x160x256.size a) ∧
  (∀ (k0_t2 : Fin (k0_t2_loop v43 v75).trips) (k0_t4 : Fin (k0_t4_loop v43 v75 k0_t2).trips), ∀ a, (k0_off26 v43 v75 k0_t2 k0_t4) a + S1x1x16.size a ≤ S2x160x256.size a) ∧
  (∀ (k0_t2 : Fin (k0_t2_loop v43 v75).trips) (k0_t4 : Fin (k0_t4_loop v43 v75 k0_t2).trips), ∀ a, (k0_off27 v43 v75 k0_t2 k0_t4) a + S1x1x16.size a ≤ S2x160x256.size a)
def k0_chk1_1 (v43 : BitVec 32) (v75 : BitVec 32) : Prop :=
  (∀ (k0_t2 : Fin (k0_t2_loop v43 v75).trips) (k0_t4 : Fin (k0_t4_loop v43 v75 k0_t2).trips), ∀ a, (k0_off28 v43 v75 k0_t2 k0_t4) a + S1x1x16.size a ≤ S2x160x256.size a) ∧
  (∀ (k0_t2 : Fin (k0_t2_loop v43 v75).trips) (k0_t4 : Fin (k0_t4_loop v43 v75 k0_t2).trips), ∀ a, (k0_off29 v43 v75 k0_t2 k0_t4) a + S1x1x16.size a ≤ S2x160x256.size a) ∧
  (∀ (k0_t2 : Fin (k0_t2_loop v43 v75).trips) (k0_t4 : Fin (k0_t4_loop v43 v75 k0_t2).trips), ∀ a, (k0_off30 v43 v75 k0_t2 k0_t4) a + S1x1x16.size a ≤ S2x160x256.size a) ∧
  (∀ (k0_t2 : Fin (k0_t2_loop v43 v75).trips) (k0_t4 : Fin (k0_t4_loop v43 v75 k0_t2).trips), ∀ a, (k0_off31 v43 v75 k0_t2 k0_t4) a + S1x1x16.size a ≤ S2x160x256.size a) ∧
  (∀ (k0_t2 : Fin (k0_t2_loop v43 v75).trips) (k0_t4 : Fin (k0_t4_loop v43 v75 k0_t2).trips), ∀ a, (k0_off32 v43 v75 k0_t2 k0_t4) a + S1x1x16.size a ≤ S2x160x256.size a) ∧
  (∀ (k0_t2 : Fin (k0_t2_loop v43 v75).trips) (k0_t4 : Fin (k0_t4_loop v43 v75 k0_t2).trips), ∀ a, (k0_off33 v43 v75 k0_t2 k0_t4) a + S1x1x16.size a ≤ S2x160x256.size a) ∧
  (∀ (k0_t2 : Fin (k0_t2_loop v43 v75).trips) (k0_t4 : Fin (k0_t4_loop v43 v75 k0_t2).trips), ∀ a, (k0_off34 v43 v75 k0_t2 k0_t4) a + S1x1x16.size a ≤ S2x160x256.size a) ∧
  (∀ (k0_t2 : Fin (k0_t2_loop v43 v75).trips) (k0_t4 : Fin (k0_t4_loop v43 v75 k0_t2).trips), ∀ a, (k0_off35 v43 v75 k0_t2 k0_t4) a + S1x1x16.size a ≤ S2x160x256.size a) ∧
  (∀ (k0_t2 : Fin (k0_t2_loop v43 v75).trips) (k0_t4 : Fin (k0_t4_loop v43 v75 k0_t2).trips), ∀ a, (k0_off36 v43 v75 k0_t2 k0_t4) a + S1x1x16.size a ≤ S2x160x256.size a) ∧
  (∀ (k0_t2 : Fin (k0_t2_loop v43 v75).trips) (k0_t4 : Fin (k0_t4_loop v43 v75 k0_t2).trips), ∀ a, (k0_off37 v43 v75 k0_t2 k0_t4) a + S1x1x16.size a ≤ S2x160x256.size a) ∧
  (∀ (k0_t2 : Fin (k0_t2_loop v43 v75).trips) (k0_t4 : Fin (k0_t4_loop v43 v75 k0_t2).trips), ∀ a, (k0_off38 v43 v75 k0_t2 k0_t4) a + S1x1x16.size a ≤ S2x160x256.size a) ∧
  (∀ (k0_t2 : Fin (k0_t2_loop v43 v75).trips) (k0_t4 : Fin (k0_t4_loop v43 v75 k0_t2).trips), ∀ a, (k0_off39 v43 v75 k0_t2 k0_t4) a + S1x1x16.size a ≤ S2x160x256.size a) ∧
  (∀ (k0_t2 : Fin (k0_t2_loop v43 v75).trips) (k0_t4 : Fin (k0_t4_loop v43 v75 k0_t2).trips), ∀ a, (k0_off40 v43 v75 k0_t2 k0_t4) a + S1x1x16.size a ≤ S2x160x256.size a) ∧
  ((k0_t5_loop v43 v75).OK) ∧
  (∀ k0_t5 : Fin (k0_t5_loop v43 v75).trips, 8 ∣ (k0_mult4 v43 v75 k0_t5).toNat) ∧
  (∀ k0_t5 : Fin (k0_t5_loop v43 v75).trips, ∀ a, (k0_off41 v43 v75 k0_t5) a + S1x160x256.size a ≤ S2x160x256.size a) ∧
  (∀ k0_t5 : Fin (k0_t5_loop v43 v75).trips, ∀ a, (k0_off42 v43 v75 k0_t5) a + S160x256.size a ≤ S10000x256.size a) ∧
  (∀ k0_t5 : Fin (k0_t5_loop v43 v75).trips, ∀ a, (k0_off43 v43 v75 k0_t5) a + S1.size a ≤ S2.size a) ∧
  (∀ k0_t5 : Fin (k0_t5_loop v43 v75).trips, ∀ (k0_h3 : k0_cond3 v43 v75 k0_t5 = 1#1), 8 ∣ (k0_mult5 v43 v75 k0_t5).toNat) ∧
  (∀ k0_t5 : Fin (k0_t5_loop v43 v75).trips, ∀ (k0_h3 : k0_cond3 v43 v75 k0_t5 = 1#1), ∀ a, (k0_off44 v43 v75 k0_t5) a + S1x160x256.size a ≤ S2x160x256.size a) ∧
  (∀ k0_t5 : Fin (k0_t5_loop v43 v75).trips, ∀ (k0_h3 : k0_cond3 v43 v75 k0_t5 = 1#1), ∀ a, (k0_off45 v43 v75 k0_t5) a + S160x256.size a ≤ S10000x256.size a) ∧
  (∀ k0_t5 : Fin (k0_t5_loop v43 v75).trips, ∀ (k0_h3 : k0_cond3 v43 v75 k0_t5 = 1#1), ∀ a, (k0_off46 v43 v75 k0_t5) a + S1.size a ≤ S2.size a) ∧
  (∀ k0_t5 : Fin (k0_t5_loop v43 v75).trips, (k0_t6_loop v43 v75 k0_t5).OK) ∧
  (∀ (k0_t5 : Fin (k0_t5_loop v43 v75).trips) (k0_t6 : Fin (k0_t6_loop v43 v75 k0_t5).trips), ∀ a, (k0_off47 v43 v75 k0_t5 k0_t6) a + S1x1x16.size a ≤ S2x160x256.size a) ∧
  (∀ (k0_t5 : Fin (k0_t5_loop v43 v75).trips) (k0_t6 : Fin (k0_t6_loop v43 v75 k0_t5).trips), ∀ a, (k0_off48 v43 v75 k0_t5 k0_t6) a + S1x1x16.size a ≤ S2x160x256.size a) ∧
  (∀ (k0_t5 : Fin (k0_t5_loop v43 v75).trips) (k0_t6 : Fin (k0_t6_loop v43 v75 k0_t5).trips), ∀ a, (k0_off49 v43 v75 k0_t5 k0_t6) a + S1x1x16.size a ≤ S2x160x256.size a) ∧
  (∀ (k0_t5 : Fin (k0_t5_loop v43 v75).trips) (k0_t6 : Fin (k0_t6_loop v43 v75 k0_t5).trips), ∀ a, (k0_off50 v43 v75 k0_t5 k0_t6) a + S1x1x16.size a ≤ S2x160x256.size a) ∧
  (∀ (k0_t5 : Fin (k0_t5_loop v43 v75).trips) (k0_t6 : Fin (k0_t6_loop v43 v75 k0_t5).trips), ∀ a, (k0_off51 v43 v75 k0_t5 k0_t6) a + S1x1x16.size a ≤ S2x160x256.size a) ∧
  (∀ (k0_t5 : Fin (k0_t5_loop v43 v75).trips) (k0_t6 : Fin (k0_t6_loop v43 v75 k0_t5).trips), ∀ a, (k0_off52 v43 v75 k0_t5 k0_t6) a + S1x1x16.size a ≤ S2x160x256.size a) ∧
  (∀ (k0_t5 : Fin (k0_t5_loop v43 v75).trips) (k0_t6 : Fin (k0_t6_loop v43 v75 k0_t5).trips), ∀ a, (k0_off53 v43 v75 k0_t5 k0_t6) a + S1x1x16.size a ≤ S2x160x256.size a) ∧
  (∀ (k0_t5 : Fin (k0_t5_loop v43 v75).trips) (k0_t6 : Fin (k0_t6_loop v43 v75 k0_t5).trips), ∀ a, (k0_off54 v43 v75 k0_t5 k0_t6) a + S1x1x16.size a ≤ S2x160x256.size a) ∧
  (∀ (k0_t5 : Fin (k0_t5_loop v43 v75).trips) (k0_t6 : Fin (k0_t6_loop v43 v75 k0_t5).trips), ∀ a, (k0_off55 v43 v75 k0_t5 k0_t6) a + S1x1x16.size a ≤ S2x160x256.size a)
def k0_chk1_2 (v43 : BitVec 32) (v75 : BitVec 32) : Prop :=
  (∀ (k0_t5 : Fin (k0_t5_loop v43 v75).trips) (k0_t6 : Fin (k0_t6_loop v43 v75 k0_t5).trips), ∀ a, (k0_off56 v43 v75 k0_t5 k0_t6) a + S1x1x16.size a ≤ S2x160x256.size a) ∧
  (∀ (k0_t5 : Fin (k0_t5_loop v43 v75).trips) (k0_t6 : Fin (k0_t6_loop v43 v75 k0_t5).trips), ∀ a, (k0_off57 v43 v75 k0_t5 k0_t6) a + S1x1x16.size a ≤ S2x160x256.size a) ∧
  (∀ (k0_t5 : Fin (k0_t5_loop v43 v75).trips) (k0_t6 : Fin (k0_t6_loop v43 v75 k0_t5).trips), ∀ a, (k0_off58 v43 v75 k0_t5 k0_t6) a + S1x1x16.size a ≤ S2x160x256.size a) ∧
  (∀ (k0_t5 : Fin (k0_t5_loop v43 v75).trips) (k0_t6 : Fin (k0_t6_loop v43 v75 k0_t5).trips), ∀ a, (k0_off59 v43 v75 k0_t5 k0_t6) a + S1x1x16.size a ≤ S2x160x256.size a) ∧
  (∀ (k0_t5 : Fin (k0_t5_loop v43 v75).trips) (k0_t6 : Fin (k0_t6_loop v43 v75 k0_t5).trips), ∀ a, (k0_off60 v43 v75 k0_t5 k0_t6) a + S1x1x16.size a ≤ S2x160x256.size a) ∧
  (∀ (k0_t5 : Fin (k0_t5_loop v43 v75).trips) (k0_t6 : Fin (k0_t6_loop v43 v75 k0_t5).trips), ∀ a, (k0_off61 v43 v75 k0_t5 k0_t6) a + S1x1x16.size a ≤ S2x160x256.size a) ∧
  (∀ (k0_t5 : Fin (k0_t5_loop v43 v75).trips) (k0_t6 : Fin (k0_t6_loop v43 v75 k0_t5).trips), ∀ a, (k0_off62 v43 v75 k0_t5 k0_t6) a + S1x1x16.size a ≤ S2x160x256.size a) ∧
  (∀ k0_t5 : Fin (k0_t5_loop v43 v75).trips, (k0_t7_loop v43 v75 k0_t5).OK) ∧
  (∀ (k0_t5 : Fin (k0_t5_loop v43 v75).trips) (k0_t7 : Fin (k0_t7_loop v43 v75 k0_t5).trips), ∀ a, (k0_off63 v43 v75 k0_t5 k0_t7) a + S1x1x16.size a ≤ S2x160x256.size a) ∧
  (∀ (k0_t5 : Fin (k0_t5_loop v43 v75).trips) (k0_t7 : Fin (k0_t7_loop v43 v75 k0_t5).trips), ∀ a, (k0_off64 v43 v75 k0_t5 k0_t7) a + S1x1x16.size a ≤ S2x160x256.size a) ∧
  (∀ (k0_t5 : Fin (k0_t5_loop v43 v75).trips) (k0_t7 : Fin (k0_t7_loop v43 v75 k0_t5).trips), ∀ a, (k0_off65 v43 v75 k0_t5 k0_t7) a + S1x1x16.size a ≤ S2x160x256.size a) ∧
  (∀ (k0_t5 : Fin (k0_t5_loop v43 v75).trips) (k0_t7 : Fin (k0_t7_loop v43 v75 k0_t5).trips), ∀ a, (k0_off66 v43 v75 k0_t5 k0_t7) a + S1x1x16.size a ≤ S2x160x256.size a) ∧
  (∀ (k0_t5 : Fin (k0_t5_loop v43 v75).trips) (k0_t7 : Fin (k0_t7_loop v43 v75 k0_t5).trips), ∀ a, (k0_off67 v43 v75 k0_t5 k0_t7) a + S1x1x16.size a ≤ S2x160x256.size a) ∧
  (∀ (k0_t5 : Fin (k0_t5_loop v43 v75).trips) (k0_t7 : Fin (k0_t7_loop v43 v75 k0_t5).trips), ∀ a, (k0_off68 v43 v75 k0_t5 k0_t7) a + S1x1x16.size a ≤ S2x160x256.size a) ∧
  (∀ (k0_t5 : Fin (k0_t5_loop v43 v75).trips) (k0_t7 : Fin (k0_t7_loop v43 v75 k0_t5).trips), ∀ a, (k0_off69 v43 v75 k0_t5 k0_t7) a + S1x1x16.size a ≤ S2x160x256.size a) ∧
  (∀ (k0_t5 : Fin (k0_t5_loop v43 v75).trips) (k0_t7 : Fin (k0_t7_loop v43 v75 k0_t5).trips), ∀ a, (k0_off70 v43 v75 k0_t5 k0_t7) a + S1x1x16.size a ≤ S2x160x256.size a) ∧
  (∀ (k0_t5 : Fin (k0_t5_loop v43 v75).trips) (k0_t7 : Fin (k0_t7_loop v43 v75 k0_t5).trips), ∀ a, (k0_off71 v43 v75 k0_t5 k0_t7) a + S1x1x16.size a ≤ S2x160x256.size a) ∧
  (∀ (k0_t5 : Fin (k0_t5_loop v43 v75).trips) (k0_t7 : Fin (k0_t7_loop v43 v75 k0_t5).trips), ∀ a, (k0_off72 v43 v75 k0_t5 k0_t7) a + S1x1x16.size a ≤ S2x160x256.size a) ∧
  (∀ (k0_t5 : Fin (k0_t5_loop v43 v75).trips) (k0_t7 : Fin (k0_t7_loop v43 v75 k0_t5).trips), ∀ a, (k0_off73 v43 v75 k0_t5 k0_t7) a + S1x1x16.size a ≤ S2x160x256.size a) ∧
  (∀ (k0_t5 : Fin (k0_t5_loop v43 v75).trips) (k0_t7 : Fin (k0_t7_loop v43 v75 k0_t5).trips), ∀ a, (k0_off74 v43 v75 k0_t5 k0_t7) a + S1x1x16.size a ≤ S2x160x256.size a) ∧
  (∀ (k0_t5 : Fin (k0_t5_loop v43 v75).trips) (k0_t7 : Fin (k0_t7_loop v43 v75 k0_t5).trips), ∀ a, (k0_off75 v43 v75 k0_t5 k0_t7) a + S1x1x16.size a ≤ S2x160x256.size a) ∧
  (∀ (k0_t5 : Fin (k0_t5_loop v43 v75).trips) (k0_t7 : Fin (k0_t7_loop v43 v75 k0_t5).trips), ∀ a, (k0_off76 v43 v75 k0_t5 k0_t7) a + S1x1x16.size a ≤ S2x160x256.size a) ∧
  (∀ (k0_t5 : Fin (k0_t5_loop v43 v75).trips) (k0_t7 : Fin (k0_t7_loop v43 v75 k0_t5).trips), ∀ a, (k0_off77 v43 v75 k0_t5 k0_t7) a + S1x1x16.size a ≤ S2x160x256.size a) ∧
  (∀ (k0_t5 : Fin (k0_t5_loop v43 v75).trips) (k0_t7 : Fin (k0_t7_loop v43 v75 k0_t5).trips), ∀ a, (k0_off78 v43 v75 k0_t5 k0_t7) a + S1x1x16.size a ≤ S2x160x256.size a)
def k0_chk1 (v43 : BitVec 32) (v75 : BitVec 32) : Prop :=
  k0_chk1_0 v43 v75 ∧
  k0_chk1_1 v43 v75 ∧
  k0_chk1_2 v43 v75
theorem k0_mult1_dvd : ∀ (v43 : BitVec 32) (v75 : BitVec 32) (k0_hw1 : k0_chk1 v43 v75), ∀ (k0_h1 : k0_cond1 v43 v75 = 1#1), 8 ∣ (k0_mult1 v43).toNat := fun v43 v75 k0_hw1 k0_h1 => k0_hw1.1.1 k0_h1
theorem k0_off2_inb : ∀ (v43 : BitVec 32) (v75 : BitVec 32) (k0_hw1 : k0_chk1 v43 v75), ∀ (k0_h1 : k0_cond1 v43 v75 = 1#1), ∀ a, (k0_off2 v43) a + S160x256.size a ≤ S10000x256.size a := fun v43 v75 k0_hw1 k0_h1 => k0_hw1.1.2.1 k0_h1
theorem k0_t2_ok : ∀ (v43 : BitVec 32) (v75 : BitVec 32) (k0_hw1 : k0_chk1 v43 v75), (k0_t2_loop v43 v75).OK := fun v43 v75 k0_hw1 => k0_hw1.1.2.2.1
theorem k0_mult2_dvd : ∀ (v43 : BitVec 32) (v75 : BitVec 32) (k0_hw1 : k0_chk1 v43 v75) (k0_t2 : Fin (k0_t2_loop v43 v75).trips), 8 ∣ (k0_mult2 v43 v75 k0_t2).toNat := fun v43 v75 k0_hw1 k0_t2 => k0_hw1.1.2.2.2.1 k0_t2
theorem k0_off3_inb : ∀ (v43 : BitVec 32) (v75 : BitVec 32) (k0_hw1 : k0_chk1 v43 v75) (k0_t2 : Fin (k0_t2_loop v43 v75).trips), ∀ a, (k0_off3 v43 v75 k0_t2) a + S1x160x256.size a ≤ S2x160x256.size a := fun v43 v75 k0_hw1 k0_t2 => k0_hw1.1.2.2.2.2.1 k0_t2
theorem k0_off4_inb : ∀ (v43 : BitVec 32) (v75 : BitVec 32) (k0_hw1 : k0_chk1 v43 v75) (k0_t2 : Fin (k0_t2_loop v43 v75).trips), ∀ a, (k0_off4 v43 v75 k0_t2) a + S160x256.size a ≤ S10000x256.size a := fun v43 v75 k0_hw1 k0_t2 => k0_hw1.1.2.2.2.2.2.1 k0_t2
theorem k0_off5_inb : ∀ (v43 : BitVec 32) (v75 : BitVec 32) (k0_hw1 : k0_chk1 v43 v75) (k0_t2 : Fin (k0_t2_loop v43 v75).trips), ∀ a, (k0_off5 v43 v75 k0_t2) a + S1.size a ≤ S2.size a := fun v43 v75 k0_hw1 k0_t2 => k0_hw1.1.2.2.2.2.2.2.1 k0_t2
theorem k0_mult3_dvd : ∀ (v43 : BitVec 32) (v75 : BitVec 32) (k0_hw1 : k0_chk1 v43 v75) (k0_t2 : Fin (k0_t2_loop v43 v75).trips), ∀ (k0_h2 : k0_cond2 v43 v75 k0_t2 = 1#1), 8 ∣ (k0_mult3 v43 v75 k0_t2).toNat := fun v43 v75 k0_hw1 k0_t2 k0_h2 => k0_hw1.1.2.2.2.2.2.2.2.1 k0_t2 k0_h2
theorem k0_off6_inb : ∀ (v43 : BitVec 32) (v75 : BitVec 32) (k0_hw1 : k0_chk1 v43 v75) (k0_t2 : Fin (k0_t2_loop v43 v75).trips), ∀ (k0_h2 : k0_cond2 v43 v75 k0_t2 = 1#1), ∀ a, (k0_off6 v43 v75 k0_t2) a + S1x160x256.size a ≤ S2x160x256.size a := fun v43 v75 k0_hw1 k0_t2 k0_h2 => k0_hw1.1.2.2.2.2.2.2.2.2.1 k0_t2 k0_h2
theorem k0_off7_inb : ∀ (v43 : BitVec 32) (v75 : BitVec 32) (k0_hw1 : k0_chk1 v43 v75) (k0_t2 : Fin (k0_t2_loop v43 v75).trips), ∀ (k0_h2 : k0_cond2 v43 v75 k0_t2 = 1#1), ∀ a, (k0_off7 v43 v75 k0_t2) a + S160x256.size a ≤ S10000x256.size a := fun v43 v75 k0_hw1 k0_t2 k0_h2 => k0_hw1.1.2.2.2.2.2.2.2.2.2.1 k0_t2 k0_h2
theorem k0_off8_inb : ∀ (v43 : BitVec 32) (v75 : BitVec 32) (k0_hw1 : k0_chk1 v43 v75) (k0_t2 : Fin (k0_t2_loop v43 v75).trips), ∀ (k0_h2 : k0_cond2 v43 v75 k0_t2 = 1#1), ∀ a, (k0_off8 v43 v75 k0_t2) a + S1.size a ≤ S2.size a := fun v43 v75 k0_hw1 k0_t2 k0_h2 => k0_hw1.1.2.2.2.2.2.2.2.2.2.2.1 k0_t2 k0_h2
theorem k0_t3_ok : ∀ (v43 : BitVec 32) (v75 : BitVec 32) (k0_hw1 : k0_chk1 v43 v75) (k0_t2 : Fin (k0_t2_loop v43 v75).trips), (k0_t3_loop v43 v75 k0_t2).OK := fun v43 v75 k0_hw1 k0_t2 => k0_hw1.1.2.2.2.2.2.2.2.2.2.2.2.1 k0_t2
theorem k0_off9_inb : ∀ (v43 : BitVec 32) (v75 : BitVec 32) (k0_hw1 : k0_chk1 v43 v75) (k0_t2 : Fin (k0_t2_loop v43 v75).trips) (k0_t3 : Fin (k0_t3_loop v43 v75 k0_t2).trips), ∀ a, (k0_off9 v43 v75 k0_t2 k0_t3) a + S1x1x16.size a ≤ S2x160x256.size a := fun v43 v75 k0_hw1 k0_t2 k0_t3 => k0_hw1.1.2.2.2.2.2.2.2.2.2.2.2.2.1 k0_t2 k0_t3
theorem k0_off10_inb : ∀ (v43 : BitVec 32) (v75 : BitVec 32) (k0_hw1 : k0_chk1 v43 v75) (k0_t2 : Fin (k0_t2_loop v43 v75).trips) (k0_t3 : Fin (k0_t3_loop v43 v75 k0_t2).trips), ∀ a, (k0_off10 v43 v75 k0_t2 k0_t3) a + S1x1x16.size a ≤ S2x160x256.size a := fun v43 v75 k0_hw1 k0_t2 k0_t3 => k0_hw1.1.2.2.2.2.2.2.2.2.2.2.2.2.2.1 k0_t2 k0_t3
theorem k0_off11_inb : ∀ (v43 : BitVec 32) (v75 : BitVec 32) (k0_hw1 : k0_chk1 v43 v75) (k0_t2 : Fin (k0_t2_loop v43 v75).trips) (k0_t3 : Fin (k0_t3_loop v43 v75 k0_t2).trips), ∀ a, (k0_off11 v43 v75 k0_t2 k0_t3) a + S1x1x16.size a ≤ S2x160x256.size a := fun v43 v75 k0_hw1 k0_t2 k0_t3 => k0_hw1.1.2.2.2.2.2.2.2.2.2.2.2.2.2.2.1 k0_t2 k0_t3
theorem k0_off12_inb : ∀ (v43 : BitVec 32) (v75 : BitVec 32) (k0_hw1 : k0_chk1 v43 v75) (k0_t2 : Fin (k0_t2_loop v43 v75).trips) (k0_t3 : Fin (k0_t3_loop v43 v75 k0_t2).trips), ∀ a, (k0_off12 v43 v75 k0_t2 k0_t3) a + S1x1x16.size a ≤ S2x160x256.size a := fun v43 v75 k0_hw1 k0_t2 k0_t3 => k0_hw1.1.2.2.2.2.2.2.2.2.2.2.2.2.2.2.2.1 k0_t2 k0_t3
theorem k0_off13_inb : ∀ (v43 : BitVec 32) (v75 : BitVec 32) (k0_hw1 : k0_chk1 v43 v75) (k0_t2 : Fin (k0_t2_loop v43 v75).trips) (k0_t3 : Fin (k0_t3_loop v43 v75 k0_t2).trips), ∀ a, (k0_off13 v43 v75 k0_t2 k0_t3) a + S1x1x16.size a ≤ S2x160x256.size a := fun v43 v75 k0_hw1 k0_t2 k0_t3 => k0_hw1.1.2.2.2.2.2.2.2.2.2.2.2.2.2.2.2.2.1 k0_t2 k0_t3
theorem k0_off14_inb : ∀ (v43 : BitVec 32) (v75 : BitVec 32) (k0_hw1 : k0_chk1 v43 v75) (k0_t2 : Fin (k0_t2_loop v43 v75).trips) (k0_t3 : Fin (k0_t3_loop v43 v75 k0_t2).trips), ∀ a, (k0_off14 v43 v75 k0_t2 k0_t3) a + S1x1x16.size a ≤ S2x160x256.size a := fun v43 v75 k0_hw1 k0_t2 k0_t3 => k0_hw1.1.2.2.2.2.2.2.2.2.2.2.2.2.2.2.2.2.2.1 k0_t2 k0_t3
theorem k0_off15_inb : ∀ (v43 : BitVec 32) (v75 : BitVec 32) (k0_hw1 : k0_chk1 v43 v75) (k0_t2 : Fin (k0_t2_loop v43 v75).trips) (k0_t3 : Fin (k0_t3_loop v43 v75 k0_t2).trips), ∀ a, (k0_off15 v43 v75 k0_t2 k0_t3) a + S1x1x16.size a ≤ S2x160x256.size a := fun v43 v75 k0_hw1 k0_t2 k0_t3 => k0_hw1.1.2.2.2.2.2.2.2.2.2.2.2.2.2.2.2.2.2.2.1 k0_t2 k0_t3
theorem k0_off16_inb : ∀ (v43 : BitVec 32) (v75 : BitVec 32) (k0_hw1 : k0_chk1 v43 v75) (k0_t2 : Fin (k0_t2_loop v43 v75).trips) (k0_t3 : Fin (k0_t3_loop v43 v75 k0_t2).trips), ∀ a, (k0_off16 v43 v75 k0_t2 k0_t3) a + S1x1x16.size a ≤ S2x160x256.size a := fun v43 v75 k0_hw1 k0_t2 k0_t3 => k0_hw1.1.2.2.2.2.2.2.2.2.2.2.2.2.2.2.2.2.2.2.2.1 k0_t2 k0_t3
theorem k0_off17_inb : ∀ (v43 : BitVec 32) (v75 : BitVec 32) (k0_hw1 : k0_chk1 v43 v75) (k0_t2 : Fin (k0_t2_loop v43 v75).trips) (k0_t3 : Fin (k0_t3_loop v43 v75 k0_t2).trips), ∀ a, (k0_off17 v43 v75 k0_t2 k0_t3) a + S1x1x16.size a ≤ S2x160x256.size a := fun v43 v75 k0_hw1 k0_t2 k0_t3 => k0_hw1.1.2.2.2.2.2.2.2.2.2.2.2.2.2.2.2.2.2.2.2.2.1 k0_t2 k0_t3
theorem k0_off18_inb : ∀ (v43 : BitVec 32) (v75 : BitVec 32) (k0_hw1 : k0_chk1 v43 v75) (k0_t2 : Fin (k0_t2_loop v43 v75).trips) (k0_t3 : Fin (k0_t3_loop v43 v75 k0_t2).trips), ∀ a, (k0_off18 v43 v75 k0_t2 k0_t3) a + S1x1x16.size a ≤ S2x160x256.size a := fun v43 v75 k0_hw1 k0_t2 k0_t3 => k0_hw1.1.2.2.2.2.2.2.2.2.2.2.2.2.2.2.2.2.2.2.2.2.2.1 k0_t2 k0_t3
theorem k0_off19_inb : ∀ (v43 : BitVec 32) (v75 : BitVec 32) (k0_hw1 : k0_chk1 v43 v75) (k0_t2 : Fin (k0_t2_loop v43 v75).trips) (k0_t3 : Fin (k0_t3_loop v43 v75 k0_t2).trips), ∀ a, (k0_off19 v43 v75 k0_t2 k0_t3) a + S1x1x16.size a ≤ S2x160x256.size a := fun v43 v75 k0_hw1 k0_t2 k0_t3 => k0_hw1.1.2.2.2.2.2.2.2.2.2.2.2.2.2.2.2.2.2.2.2.2.2.2.1 k0_t2 k0_t3
theorem k0_off20_inb : ∀ (v43 : BitVec 32) (v75 : BitVec 32) (k0_hw1 : k0_chk1 v43 v75) (k0_t2 : Fin (k0_t2_loop v43 v75).trips) (k0_t3 : Fin (k0_t3_loop v43 v75 k0_t2).trips), ∀ a, (k0_off20 v43 v75 k0_t2 k0_t3) a + S1x1x16.size a ≤ S2x160x256.size a := fun v43 v75 k0_hw1 k0_t2 k0_t3 => k0_hw1.1.2.2.2.2.2.2.2.2.2.2.2.2.2.2.2.2.2.2.2.2.2.2.2.1 k0_t2 k0_t3
theorem k0_off21_inb : ∀ (v43 : BitVec 32) (v75 : BitVec 32) (k0_hw1 : k0_chk1 v43 v75) (k0_t2 : Fin (k0_t2_loop v43 v75).trips) (k0_t3 : Fin (k0_t3_loop v43 v75 k0_t2).trips), ∀ a, (k0_off21 v43 v75 k0_t2 k0_t3) a + S1x1x16.size a ≤ S2x160x256.size a := fun v43 v75 k0_hw1 k0_t2 k0_t3 => k0_hw1.1.2.2.2.2.2.2.2.2.2.2.2.2.2.2.2.2.2.2.2.2.2.2.2.2.1 k0_t2 k0_t3
theorem k0_off22_inb : ∀ (v43 : BitVec 32) (v75 : BitVec 32) (k0_hw1 : k0_chk1 v43 v75) (k0_t2 : Fin (k0_t2_loop v43 v75).trips) (k0_t3 : Fin (k0_t3_loop v43 v75 k0_t2).trips), ∀ a, (k0_off22 v43 v75 k0_t2 k0_t3) a + S1x1x16.size a ≤ S2x160x256.size a := fun v43 v75 k0_hw1 k0_t2 k0_t3 => k0_hw1.1.2.2.2.2.2.2.2.2.2.2.2.2.2.2.2.2.2.2.2.2.2.2.2.2.2.1 k0_t2 k0_t3
theorem k0_off23_inb : ∀ (v43 : BitVec 32) (v75 : BitVec 32) (k0_hw1 : k0_chk1 v43 v75) (k0_t2 : Fin (k0_t2_loop v43 v75).trips) (k0_t3 : Fin (k0_t3_loop v43 v75 k0_t2).trips), ∀ a, (k0_off23 v43 v75 k0_t2 k0_t3) a + S1x1x16.size a ≤ S2x160x256.size a := fun v43 v75 k0_hw1 k0_t2 k0_t3 => k0_hw1.1.2.2.2.2.2.2.2.2.2.2.2.2.2.2.2.2.2.2.2.2.2.2.2.2.2.2.1 k0_t2 k0_t3
theorem k0_off24_inb : ∀ (v43 : BitVec 32) (v75 : BitVec 32) (k0_hw1 : k0_chk1 v43 v75) (k0_t2 : Fin (k0_t2_loop v43 v75).trips) (k0_t3 : Fin (k0_t3_loop v43 v75 k0_t2).trips), ∀ a, (k0_off24 v43 v75 k0_t2 k0_t3) a + S1x1x16.size a ≤ S2x160x256.size a := fun v43 v75 k0_hw1 k0_t2 k0_t3 => k0_hw1.1.2.2.2.2.2.2.2.2.2.2.2.2.2.2.2.2.2.2.2.2.2.2.2.2.2.2.2.1 k0_t2 k0_t3
theorem k0_t4_ok : ∀ (v43 : BitVec 32) (v75 : BitVec 32) (k0_hw1 : k0_chk1 v43 v75) (k0_t2 : Fin (k0_t2_loop v43 v75).trips), (k0_t4_loop v43 v75 k0_t2).OK := fun v43 v75 k0_hw1 k0_t2 => k0_hw1.1.2.2.2.2.2.2.2.2.2.2.2.2.2.2.2.2.2.2.2.2.2.2.2.2.2.2.2.2.1 k0_t2
theorem k0_off25_inb : ∀ (v43 : BitVec 32) (v75 : BitVec 32) (k0_hw1 : k0_chk1 v43 v75) (k0_t2 : Fin (k0_t2_loop v43 v75).trips) (k0_t4 : Fin (k0_t4_loop v43 v75 k0_t2).trips), ∀ a, (k0_off25 v43 v75 k0_t2 k0_t4) a + S1x1x16.size a ≤ S2x160x256.size a := fun v43 v75 k0_hw1 k0_t2 k0_t4 => k0_hw1.1.2.2.2.2.2.2.2.2.2.2.2.2.2.2.2.2.2.2.2.2.2.2.2.2.2.2.2.2.2.1 k0_t2 k0_t4
theorem k0_off26_inb : ∀ (v43 : BitVec 32) (v75 : BitVec 32) (k0_hw1 : k0_chk1 v43 v75) (k0_t2 : Fin (k0_t2_loop v43 v75).trips) (k0_t4 : Fin (k0_t4_loop v43 v75 k0_t2).trips), ∀ a, (k0_off26 v43 v75 k0_t2 k0_t4) a + S1x1x16.size a ≤ S2x160x256.size a := fun v43 v75 k0_hw1 k0_t2 k0_t4 => k0_hw1.1.2.2.2.2.2.2.2.2.2.2.2.2.2.2.2.2.2.2.2.2.2.2.2.2.2.2.2.2.2.2.1 k0_t2 k0_t4
theorem k0_off27_inb : ∀ (v43 : BitVec 32) (v75 : BitVec 32) (k0_hw1 : k0_chk1 v43 v75) (k0_t2 : Fin (k0_t2_loop v43 v75).trips) (k0_t4 : Fin (k0_t4_loop v43 v75 k0_t2).trips), ∀ a, (k0_off27 v43 v75 k0_t2 k0_t4) a + S1x1x16.size a ≤ S2x160x256.size a := fun v43 v75 k0_hw1 k0_t2 k0_t4 => k0_hw1.1.2.2.2.2.2.2.2.2.2.2.2.2.2.2.2.2.2.2.2.2.2.2.2.2.2.2.2.2.2.2.2 k0_t2 k0_t4
theorem k0_off28_inb : ∀ (v43 : BitVec 32) (v75 : BitVec 32) (k0_hw1 : k0_chk1 v43 v75) (k0_t2 : Fin (k0_t2_loop v43 v75).trips) (k0_t4 : Fin (k0_t4_loop v43 v75 k0_t2).trips), ∀ a, (k0_off28 v43 v75 k0_t2 k0_t4) a + S1x1x16.size a ≤ S2x160x256.size a := fun v43 v75 k0_hw1 k0_t2 k0_t4 => k0_hw1.2.1.1 k0_t2 k0_t4
theorem k0_off29_inb : ∀ (v43 : BitVec 32) (v75 : BitVec 32) (k0_hw1 : k0_chk1 v43 v75) (k0_t2 : Fin (k0_t2_loop v43 v75).trips) (k0_t4 : Fin (k0_t4_loop v43 v75 k0_t2).trips), ∀ a, (k0_off29 v43 v75 k0_t2 k0_t4) a + S1x1x16.size a ≤ S2x160x256.size a := fun v43 v75 k0_hw1 k0_t2 k0_t4 => k0_hw1.2.1.2.1 k0_t2 k0_t4
theorem k0_off30_inb : ∀ (v43 : BitVec 32) (v75 : BitVec 32) (k0_hw1 : k0_chk1 v43 v75) (k0_t2 : Fin (k0_t2_loop v43 v75).trips) (k0_t4 : Fin (k0_t4_loop v43 v75 k0_t2).trips), ∀ a, (k0_off30 v43 v75 k0_t2 k0_t4) a + S1x1x16.size a ≤ S2x160x256.size a := fun v43 v75 k0_hw1 k0_t2 k0_t4 => k0_hw1.2.1.2.2.1 k0_t2 k0_t4
theorem k0_off31_inb : ∀ (v43 : BitVec 32) (v75 : BitVec 32) (k0_hw1 : k0_chk1 v43 v75) (k0_t2 : Fin (k0_t2_loop v43 v75).trips) (k0_t4 : Fin (k0_t4_loop v43 v75 k0_t2).trips), ∀ a, (k0_off31 v43 v75 k0_t2 k0_t4) a + S1x1x16.size a ≤ S2x160x256.size a := fun v43 v75 k0_hw1 k0_t2 k0_t4 => k0_hw1.2.1.2.2.2.1 k0_t2 k0_t4
theorem k0_off32_inb : ∀ (v43 : BitVec 32) (v75 : BitVec 32) (k0_hw1 : k0_chk1 v43 v75) (k0_t2 : Fin (k0_t2_loop v43 v75).trips) (k0_t4 : Fin (k0_t4_loop v43 v75 k0_t2).trips), ∀ a, (k0_off32 v43 v75 k0_t2 k0_t4) a + S1x1x16.size a ≤ S2x160x256.size a := fun v43 v75 k0_hw1 k0_t2 k0_t4 => k0_hw1.2.1.2.2.2.2.1 k0_t2 k0_t4
theorem k0_off33_inb : ∀ (v43 : BitVec 32) (v75 : BitVec 32) (k0_hw1 : k0_chk1 v43 v75) (k0_t2 : Fin (k0_t2_loop v43 v75).trips) (k0_t4 : Fin (k0_t4_loop v43 v75 k0_t2).trips), ∀ a, (k0_off33 v43 v75 k0_t2 k0_t4) a + S1x1x16.size a ≤ S2x160x256.size a := fun v43 v75 k0_hw1 k0_t2 k0_t4 => k0_hw1.2.1.2.2.2.2.2.1 k0_t2 k0_t4
theorem k0_off34_inb : ∀ (v43 : BitVec 32) (v75 : BitVec 32) (k0_hw1 : k0_chk1 v43 v75) (k0_t2 : Fin (k0_t2_loop v43 v75).trips) (k0_t4 : Fin (k0_t4_loop v43 v75 k0_t2).trips), ∀ a, (k0_off34 v43 v75 k0_t2 k0_t4) a + S1x1x16.size a ≤ S2x160x256.size a := fun v43 v75 k0_hw1 k0_t2 k0_t4 => k0_hw1.2.1.2.2.2.2.2.2.1 k0_t2 k0_t4
theorem k0_off35_inb : ∀ (v43 : BitVec 32) (v75 : BitVec 32) (k0_hw1 : k0_chk1 v43 v75) (k0_t2 : Fin (k0_t2_loop v43 v75).trips) (k0_t4 : Fin (k0_t4_loop v43 v75 k0_t2).trips), ∀ a, (k0_off35 v43 v75 k0_t2 k0_t4) a + S1x1x16.size a ≤ S2x160x256.size a := fun v43 v75 k0_hw1 k0_t2 k0_t4 => k0_hw1.2.1.2.2.2.2.2.2.2.1 k0_t2 k0_t4
theorem k0_off36_inb : ∀ (v43 : BitVec 32) (v75 : BitVec 32) (k0_hw1 : k0_chk1 v43 v75) (k0_t2 : Fin (k0_t2_loop v43 v75).trips) (k0_t4 : Fin (k0_t4_loop v43 v75 k0_t2).trips), ∀ a, (k0_off36 v43 v75 k0_t2 k0_t4) a + S1x1x16.size a ≤ S2x160x256.size a := fun v43 v75 k0_hw1 k0_t2 k0_t4 => k0_hw1.2.1.2.2.2.2.2.2.2.2.1 k0_t2 k0_t4
theorem k0_off37_inb : ∀ (v43 : BitVec 32) (v75 : BitVec 32) (k0_hw1 : k0_chk1 v43 v75) (k0_t2 : Fin (k0_t2_loop v43 v75).trips) (k0_t4 : Fin (k0_t4_loop v43 v75 k0_t2).trips), ∀ a, (k0_off37 v43 v75 k0_t2 k0_t4) a + S1x1x16.size a ≤ S2x160x256.size a := fun v43 v75 k0_hw1 k0_t2 k0_t4 => k0_hw1.2.1.2.2.2.2.2.2.2.2.2.1 k0_t2 k0_t4
theorem k0_off38_inb : ∀ (v43 : BitVec 32) (v75 : BitVec 32) (k0_hw1 : k0_chk1 v43 v75) (k0_t2 : Fin (k0_t2_loop v43 v75).trips) (k0_t4 : Fin (k0_t4_loop v43 v75 k0_t2).trips), ∀ a, (k0_off38 v43 v75 k0_t2 k0_t4) a + S1x1x16.size a ≤ S2x160x256.size a := fun v43 v75 k0_hw1 k0_t2 k0_t4 => k0_hw1.2.1.2.2.2.2.2.2.2.2.2.2.1 k0_t2 k0_t4
theorem k0_off39_inb : ∀ (v43 : BitVec 32) (v75 : BitVec 32) (k0_hw1 : k0_chk1 v43 v75) (k0_t2 : Fin (k0_t2_loop v43 v75).trips) (k0_t4 : Fin (k0_t4_loop v43 v75 k0_t2).trips), ∀ a, (k0_off39 v43 v75 k0_t2 k0_t4) a + S1x1x16.size a ≤ S2x160x256.size a := fun v43 v75 k0_hw1 k0_t2 k0_t4 => k0_hw1.2.1.2.2.2.2.2.2.2.2.2.2.2.1 k0_t2 k0_t4
theorem k0_off40_inb : ∀ (v43 : BitVec 32) (v75 : BitVec 32) (k0_hw1 : k0_chk1 v43 v75) (k0_t2 : Fin (k0_t2_loop v43 v75).trips) (k0_t4 : Fin (k0_t4_loop v43 v75 k0_t2).trips), ∀ a, (k0_off40 v43 v75 k0_t2 k0_t4) a + S1x1x16.size a ≤ S2x160x256.size a := fun v43 v75 k0_hw1 k0_t2 k0_t4 => k0_hw1.2.1.2.2.2.2.2.2.2.2.2.2.2.2.1 k0_t2 k0_t4
theorem k0_t5_ok : ∀ (v43 : BitVec 32) (v75 : BitVec 32) (k0_hw1 : k0_chk1 v43 v75), (k0_t5_loop v43 v75).OK := fun v43 v75 k0_hw1 => k0_hw1.2.1.2.2.2.2.2.2.2.2.2.2.2.2.2.1
theorem k0_mult4_dvd : ∀ (v43 : BitVec 32) (v75 : BitVec 32) (k0_hw1 : k0_chk1 v43 v75) (k0_t5 : Fin (k0_t5_loop v43 v75).trips), 8 ∣ (k0_mult4 v43 v75 k0_t5).toNat := fun v43 v75 k0_hw1 k0_t5 => k0_hw1.2.1.2.2.2.2.2.2.2.2.2.2.2.2.2.2.1 k0_t5
theorem k0_off41_inb : ∀ (v43 : BitVec 32) (v75 : BitVec 32) (k0_hw1 : k0_chk1 v43 v75) (k0_t5 : Fin (k0_t5_loop v43 v75).trips), ∀ a, (k0_off41 v43 v75 k0_t5) a + S1x160x256.size a ≤ S2x160x256.size a := fun v43 v75 k0_hw1 k0_t5 => k0_hw1.2.1.2.2.2.2.2.2.2.2.2.2.2.2.2.2.2.1 k0_t5
theorem k0_off42_inb : ∀ (v43 : BitVec 32) (v75 : BitVec 32) (k0_hw1 : k0_chk1 v43 v75) (k0_t5 : Fin (k0_t5_loop v43 v75).trips), ∀ a, (k0_off42 v43 v75 k0_t5) a + S160x256.size a ≤ S10000x256.size a := fun v43 v75 k0_hw1 k0_t5 => k0_hw1.2.1.2.2.2.2.2.2.2.2.2.2.2.2.2.2.2.2.1 k0_t5
theorem k0_off43_inb : ∀ (v43 : BitVec 32) (v75 : BitVec 32) (k0_hw1 : k0_chk1 v43 v75) (k0_t5 : Fin (k0_t5_loop v43 v75).trips), ∀ a, (k0_off43 v43 v75 k0_t5) a + S1.size a ≤ S2.size a := fun v43 v75 k0_hw1 k0_t5 => k0_hw1.2.1.2.2.2.2.2.2.2.2.2.2.2.2.2.2.2.2.2.1 k0_t5
theorem k0_mult5_dvd : ∀ (v43 : BitVec 32) (v75 : BitVec 32) (k0_hw1 : k0_chk1 v43 v75) (k0_t5 : Fin (k0_t5_loop v43 v75).trips), ∀ (k0_h3 : k0_cond3 v43 v75 k0_t5 = 1#1), 8 ∣ (k0_mult5 v43 v75 k0_t5).toNat := fun v43 v75 k0_hw1 k0_t5 k0_h3 => k0_hw1.2.1.2.2.2.2.2.2.2.2.2.2.2.2.2.2.2.2.2.2.1 k0_t5 k0_h3
theorem k0_off44_inb : ∀ (v43 : BitVec 32) (v75 : BitVec 32) (k0_hw1 : k0_chk1 v43 v75) (k0_t5 : Fin (k0_t5_loop v43 v75).trips), ∀ (k0_h3 : k0_cond3 v43 v75 k0_t5 = 1#1), ∀ a, (k0_off44 v43 v75 k0_t5) a + S1x160x256.size a ≤ S2x160x256.size a := fun v43 v75 k0_hw1 k0_t5 k0_h3 => k0_hw1.2.1.2.2.2.2.2.2.2.2.2.2.2.2.2.2.2.2.2.2.2.1 k0_t5 k0_h3
theorem k0_off45_inb : ∀ (v43 : BitVec 32) (v75 : BitVec 32) (k0_hw1 : k0_chk1 v43 v75) (k0_t5 : Fin (k0_t5_loop v43 v75).trips), ∀ (k0_h3 : k0_cond3 v43 v75 k0_t5 = 1#1), ∀ a, (k0_off45 v43 v75 k0_t5) a + S160x256.size a ≤ S10000x256.size a := fun v43 v75 k0_hw1 k0_t5 k0_h3 => k0_hw1.2.1.2.2.2.2.2.2.2.2.2.2.2.2.2.2.2.2.2.2.2.2.1 k0_t5 k0_h3
theorem k0_off46_inb : ∀ (v43 : BitVec 32) (v75 : BitVec 32) (k0_hw1 : k0_chk1 v43 v75) (k0_t5 : Fin (k0_t5_loop v43 v75).trips), ∀ (k0_h3 : k0_cond3 v43 v75 k0_t5 = 1#1), ∀ a, (k0_off46 v43 v75 k0_t5) a + S1.size a ≤ S2.size a := fun v43 v75 k0_hw1 k0_t5 k0_h3 => k0_hw1.2.1.2.2.2.2.2.2.2.2.2.2.2.2.2.2.2.2.2.2.2.2.2.1 k0_t5 k0_h3
theorem k0_t6_ok : ∀ (v43 : BitVec 32) (v75 : BitVec 32) (k0_hw1 : k0_chk1 v43 v75) (k0_t5 : Fin (k0_t5_loop v43 v75).trips), (k0_t6_loop v43 v75 k0_t5).OK := fun v43 v75 k0_hw1 k0_t5 => k0_hw1.2.1.2.2.2.2.2.2.2.2.2.2.2.2.2.2.2.2.2.2.2.2.2.2.1 k0_t5
theorem k0_off47_inb : ∀ (v43 : BitVec 32) (v75 : BitVec 32) (k0_hw1 : k0_chk1 v43 v75) (k0_t5 : Fin (k0_t5_loop v43 v75).trips) (k0_t6 : Fin (k0_t6_loop v43 v75 k0_t5).trips), ∀ a, (k0_off47 v43 v75 k0_t5 k0_t6) a + S1x1x16.size a ≤ S2x160x256.size a := fun v43 v75 k0_hw1 k0_t5 k0_t6 => k0_hw1.2.1.2.2.2.2.2.2.2.2.2.2.2.2.2.2.2.2.2.2.2.2.2.2.2.1 k0_t5 k0_t6
theorem k0_off48_inb : ∀ (v43 : BitVec 32) (v75 : BitVec 32) (k0_hw1 : k0_chk1 v43 v75) (k0_t5 : Fin (k0_t5_loop v43 v75).trips) (k0_t6 : Fin (k0_t6_loop v43 v75 k0_t5).trips), ∀ a, (k0_off48 v43 v75 k0_t5 k0_t6) a + S1x1x16.size a ≤ S2x160x256.size a := fun v43 v75 k0_hw1 k0_t5 k0_t6 => k0_hw1.2.1.2.2.2.2.2.2.2.2.2.2.2.2.2.2.2.2.2.2.2.2.2.2.2.2.1 k0_t5 k0_t6
theorem k0_off49_inb : ∀ (v43 : BitVec 32) (v75 : BitVec 32) (k0_hw1 : k0_chk1 v43 v75) (k0_t5 : Fin (k0_t5_loop v43 v75).trips) (k0_t6 : Fin (k0_t6_loop v43 v75 k0_t5).trips), ∀ a, (k0_off49 v43 v75 k0_t5 k0_t6) a + S1x1x16.size a ≤ S2x160x256.size a := fun v43 v75 k0_hw1 k0_t5 k0_t6 => k0_hw1.2.1.2.2.2.2.2.2.2.2.2.2.2.2.2.2.2.2.2.2.2.2.2.2.2.2.2.1 k0_t5 k0_t6
theorem k0_off50_inb : ∀ (v43 : BitVec 32) (v75 : BitVec 32) (k0_hw1 : k0_chk1 v43 v75) (k0_t5 : Fin (k0_t5_loop v43 v75).trips) (k0_t6 : Fin (k0_t6_loop v43 v75 k0_t5).trips), ∀ a, (k0_off50 v43 v75 k0_t5 k0_t6) a + S1x1x16.size a ≤ S2x160x256.size a := fun v43 v75 k0_hw1 k0_t5 k0_t6 => k0_hw1.2.1.2.2.2.2.2.2.2.2.2.2.2.2.2.2.2.2.2.2.2.2.2.2.2.2.2.2.1 k0_t5 k0_t6
theorem k0_off51_inb : ∀ (v43 : BitVec 32) (v75 : BitVec 32) (k0_hw1 : k0_chk1 v43 v75) (k0_t5 : Fin (k0_t5_loop v43 v75).trips) (k0_t6 : Fin (k0_t6_loop v43 v75 k0_t5).trips), ∀ a, (k0_off51 v43 v75 k0_t5 k0_t6) a + S1x1x16.size a ≤ S2x160x256.size a := fun v43 v75 k0_hw1 k0_t5 k0_t6 => k0_hw1.2.1.2.2.2.2.2.2.2.2.2.2.2.2.2.2.2.2.2.2.2.2.2.2.2.2.2.2.2.1 k0_t5 k0_t6
theorem k0_off52_inb : ∀ (v43 : BitVec 32) (v75 : BitVec 32) (k0_hw1 : k0_chk1 v43 v75) (k0_t5 : Fin (k0_t5_loop v43 v75).trips) (k0_t6 : Fin (k0_t6_loop v43 v75 k0_t5).trips), ∀ a, (k0_off52 v43 v75 k0_t5 k0_t6) a + S1x1x16.size a ≤ S2x160x256.size a := fun v43 v75 k0_hw1 k0_t5 k0_t6 => k0_hw1.2.1.2.2.2.2.2.2.2.2.2.2.2.2.2.2.2.2.2.2.2.2.2.2.2.2.2.2.2.2.1 k0_t5 k0_t6
theorem k0_off53_inb : ∀ (v43 : BitVec 32) (v75 : BitVec 32) (k0_hw1 : k0_chk1 v43 v75) (k0_t5 : Fin (k0_t5_loop v43 v75).trips) (k0_t6 : Fin (k0_t6_loop v43 v75 k0_t5).trips), ∀ a, (k0_off53 v43 v75 k0_t5 k0_t6) a + S1x1x16.size a ≤ S2x160x256.size a := fun v43 v75 k0_hw1 k0_t5 k0_t6 => k0_hw1.2.1.2.2.2.2.2.2.2.2.2.2.2.2.2.2.2.2.2.2.2.2.2.2.2.2.2.2.2.2.2.1 k0_t5 k0_t6
theorem k0_off54_inb : ∀ (v43 : BitVec 32) (v75 : BitVec 32) (k0_hw1 : k0_chk1 v43 v75) (k0_t5 : Fin (k0_t5_loop v43 v75).trips) (k0_t6 : Fin (k0_t6_loop v43 v75 k0_t5).trips), ∀ a, (k0_off54 v43 v75 k0_t5 k0_t6) a + S1x1x16.size a ≤ S2x160x256.size a := fun v43 v75 k0_hw1 k0_t5 k0_t6 => k0_hw1.2.1.2.2.2.2.2.2.2.2.2.2.2.2.2.2.2.2.2.2.2.2.2.2.2.2.2.2.2.2.2.2.1 k0_t5 k0_t6
theorem k0_off55_inb : ∀ (v43 : BitVec 32) (v75 : BitVec 32) (k0_hw1 : k0_chk1 v43 v75) (k0_t5 : Fin (k0_t5_loop v43 v75).trips) (k0_t6 : Fin (k0_t6_loop v43 v75 k0_t5).trips), ∀ a, (k0_off55 v43 v75 k0_t5 k0_t6) a + S1x1x16.size a ≤ S2x160x256.size a := fun v43 v75 k0_hw1 k0_t5 k0_t6 => k0_hw1.2.1.2.2.2.2.2.2.2.2.2.2.2.2.2.2.2.2.2.2.2.2.2.2.2.2.2.2.2.2.2.2.2 k0_t5 k0_t6
theorem k0_off56_inb : ∀ (v43 : BitVec 32) (v75 : BitVec 32) (k0_hw1 : k0_chk1 v43 v75) (k0_t5 : Fin (k0_t5_loop v43 v75).trips) (k0_t6 : Fin (k0_t6_loop v43 v75 k0_t5).trips), ∀ a, (k0_off56 v43 v75 k0_t5 k0_t6) a + S1x1x16.size a ≤ S2x160x256.size a := fun v43 v75 k0_hw1 k0_t5 k0_t6 => k0_hw1.2.2.1 k0_t5 k0_t6
theorem k0_off57_inb : ∀ (v43 : BitVec 32) (v75 : BitVec 32) (k0_hw1 : k0_chk1 v43 v75) (k0_t5 : Fin (k0_t5_loop v43 v75).trips) (k0_t6 : Fin (k0_t6_loop v43 v75 k0_t5).trips), ∀ a, (k0_off57 v43 v75 k0_t5 k0_t6) a + S1x1x16.size a ≤ S2x160x256.size a := fun v43 v75 k0_hw1 k0_t5 k0_t6 => k0_hw1.2.2.2.1 k0_t5 k0_t6
theorem k0_off58_inb : ∀ (v43 : BitVec 32) (v75 : BitVec 32) (k0_hw1 : k0_chk1 v43 v75) (k0_t5 : Fin (k0_t5_loop v43 v75).trips) (k0_t6 : Fin (k0_t6_loop v43 v75 k0_t5).trips), ∀ a, (k0_off58 v43 v75 k0_t5 k0_t6) a + S1x1x16.size a ≤ S2x160x256.size a := fun v43 v75 k0_hw1 k0_t5 k0_t6 => k0_hw1.2.2.2.2.1 k0_t5 k0_t6
theorem k0_off59_inb : ∀ (v43 : BitVec 32) (v75 : BitVec 32) (k0_hw1 : k0_chk1 v43 v75) (k0_t5 : Fin (k0_t5_loop v43 v75).trips) (k0_t6 : Fin (k0_t6_loop v43 v75 k0_t5).trips), ∀ a, (k0_off59 v43 v75 k0_t5 k0_t6) a + S1x1x16.size a ≤ S2x160x256.size a := fun v43 v75 k0_hw1 k0_t5 k0_t6 => k0_hw1.2.2.2.2.2.1 k0_t5 k0_t6
theorem k0_off60_inb : ∀ (v43 : BitVec 32) (v75 : BitVec 32) (k0_hw1 : k0_chk1 v43 v75) (k0_t5 : Fin (k0_t5_loop v43 v75).trips) (k0_t6 : Fin (k0_t6_loop v43 v75 k0_t5).trips), ∀ a, (k0_off60 v43 v75 k0_t5 k0_t6) a + S1x1x16.size a ≤ S2x160x256.size a := fun v43 v75 k0_hw1 k0_t5 k0_t6 => k0_hw1.2.2.2.2.2.2.1 k0_t5 k0_t6
theorem k0_off61_inb : ∀ (v43 : BitVec 32) (v75 : BitVec 32) (k0_hw1 : k0_chk1 v43 v75) (k0_t5 : Fin (k0_t5_loop v43 v75).trips) (k0_t6 : Fin (k0_t6_loop v43 v75 k0_t5).trips), ∀ a, (k0_off61 v43 v75 k0_t5 k0_t6) a + S1x1x16.size a ≤ S2x160x256.size a := fun v43 v75 k0_hw1 k0_t5 k0_t6 => k0_hw1.2.2.2.2.2.2.2.1 k0_t5 k0_t6
theorem k0_off62_inb : ∀ (v43 : BitVec 32) (v75 : BitVec 32) (k0_hw1 : k0_chk1 v43 v75) (k0_t5 : Fin (k0_t5_loop v43 v75).trips) (k0_t6 : Fin (k0_t6_loop v43 v75 k0_t5).trips), ∀ a, (k0_off62 v43 v75 k0_t5 k0_t6) a + S1x1x16.size a ≤ S2x160x256.size a := fun v43 v75 k0_hw1 k0_t5 k0_t6 => k0_hw1.2.2.2.2.2.2.2.2.1 k0_t5 k0_t6
theorem k0_t7_ok : ∀ (v43 : BitVec 32) (v75 : BitVec 32) (k0_hw1 : k0_chk1 v43 v75) (k0_t5 : Fin (k0_t5_loop v43 v75).trips), (k0_t7_loop v43 v75 k0_t5).OK := fun v43 v75 k0_hw1 k0_t5 => k0_hw1.2.2.2.2.2.2.2.2.2.1 k0_t5
theorem k0_off63_inb : ∀ (v43 : BitVec 32) (v75 : BitVec 32) (k0_hw1 : k0_chk1 v43 v75) (k0_t5 : Fin (k0_t5_loop v43 v75).trips) (k0_t7 : Fin (k0_t7_loop v43 v75 k0_t5).trips), ∀ a, (k0_off63 v43 v75 k0_t5 k0_t7) a + S1x1x16.size a ≤ S2x160x256.size a := fun v43 v75 k0_hw1 k0_t5 k0_t7 => k0_hw1.2.2.2.2.2.2.2.2.2.2.1 k0_t5 k0_t7
theorem k0_off64_inb : ∀ (v43 : BitVec 32) (v75 : BitVec 32) (k0_hw1 : k0_chk1 v43 v75) (k0_t5 : Fin (k0_t5_loop v43 v75).trips) (k0_t7 : Fin (k0_t7_loop v43 v75 k0_t5).trips), ∀ a, (k0_off64 v43 v75 k0_t5 k0_t7) a + S1x1x16.size a ≤ S2x160x256.size a := fun v43 v75 k0_hw1 k0_t5 k0_t7 => k0_hw1.2.2.2.2.2.2.2.2.2.2.2.1 k0_t5 k0_t7
theorem k0_off65_inb : ∀ (v43 : BitVec 32) (v75 : BitVec 32) (k0_hw1 : k0_chk1 v43 v75) (k0_t5 : Fin (k0_t5_loop v43 v75).trips) (k0_t7 : Fin (k0_t7_loop v43 v75 k0_t5).trips), ∀ a, (k0_off65 v43 v75 k0_t5 k0_t7) a + S1x1x16.size a ≤ S2x160x256.size a := fun v43 v75 k0_hw1 k0_t5 k0_t7 => k0_hw1.2.2.2.2.2.2.2.2.2.2.2.2.1 k0_t5 k0_t7
theorem k0_off66_inb : ∀ (v43 : BitVec 32) (v75 : BitVec 32) (k0_hw1 : k0_chk1 v43 v75) (k0_t5 : Fin (k0_t5_loop v43 v75).trips) (k0_t7 : Fin (k0_t7_loop v43 v75 k0_t5).trips), ∀ a, (k0_off66 v43 v75 k0_t5 k0_t7) a + S1x1x16.size a ≤ S2x160x256.size a := fun v43 v75 k0_hw1 k0_t5 k0_t7 => k0_hw1.2.2.2.2.2.2.2.2.2.2.2.2.2.1 k0_t5 k0_t7
theorem k0_off67_inb : ∀ (v43 : BitVec 32) (v75 : BitVec 32) (k0_hw1 : k0_chk1 v43 v75) (k0_t5 : Fin (k0_t5_loop v43 v75).trips) (k0_t7 : Fin (k0_t7_loop v43 v75 k0_t5).trips), ∀ a, (k0_off67 v43 v75 k0_t5 k0_t7) a + S1x1x16.size a ≤ S2x160x256.size a := fun v43 v75 k0_hw1 k0_t5 k0_t7 => k0_hw1.2.2.2.2.2.2.2.2.2.2.2.2.2.2.1 k0_t5 k0_t7
theorem k0_off68_inb : ∀ (v43 : BitVec 32) (v75 : BitVec 32) (k0_hw1 : k0_chk1 v43 v75) (k0_t5 : Fin (k0_t5_loop v43 v75).trips) (k0_t7 : Fin (k0_t7_loop v43 v75 k0_t5).trips), ∀ a, (k0_off68 v43 v75 k0_t5 k0_t7) a + S1x1x16.size a ≤ S2x160x256.size a := fun v43 v75 k0_hw1 k0_t5 k0_t7 => k0_hw1.2.2.2.2.2.2.2.2.2.2.2.2.2.2.2.1 k0_t5 k0_t7
theorem k0_off69_inb : ∀ (v43 : BitVec 32) (v75 : BitVec 32) (k0_hw1 : k0_chk1 v43 v75) (k0_t5 : Fin (k0_t5_loop v43 v75).trips) (k0_t7 : Fin (k0_t7_loop v43 v75 k0_t5).trips), ∀ a, (k0_off69 v43 v75 k0_t5 k0_t7) a + S1x1x16.size a ≤ S2x160x256.size a := fun v43 v75 k0_hw1 k0_t5 k0_t7 => k0_hw1.2.2.2.2.2.2.2.2.2.2.2.2.2.2.2.2.1 k0_t5 k0_t7
theorem k0_off70_inb : ∀ (v43 : BitVec 32) (v75 : BitVec 32) (k0_hw1 : k0_chk1 v43 v75) (k0_t5 : Fin (k0_t5_loop v43 v75).trips) (k0_t7 : Fin (k0_t7_loop v43 v75 k0_t5).trips), ∀ a, (k0_off70 v43 v75 k0_t5 k0_t7) a + S1x1x16.size a ≤ S2x160x256.size a := fun v43 v75 k0_hw1 k0_t5 k0_t7 => k0_hw1.2.2.2.2.2.2.2.2.2.2.2.2.2.2.2.2.2.1 k0_t5 k0_t7
theorem k0_off71_inb : ∀ (v43 : BitVec 32) (v75 : BitVec 32) (k0_hw1 : k0_chk1 v43 v75) (k0_t5 : Fin (k0_t5_loop v43 v75).trips) (k0_t7 : Fin (k0_t7_loop v43 v75 k0_t5).trips), ∀ a, (k0_off71 v43 v75 k0_t5 k0_t7) a + S1x1x16.size a ≤ S2x160x256.size a := fun v43 v75 k0_hw1 k0_t5 k0_t7 => k0_hw1.2.2.2.2.2.2.2.2.2.2.2.2.2.2.2.2.2.2.1 k0_t5 k0_t7
theorem k0_off72_inb : ∀ (v43 : BitVec 32) (v75 : BitVec 32) (k0_hw1 : k0_chk1 v43 v75) (k0_t5 : Fin (k0_t5_loop v43 v75).trips) (k0_t7 : Fin (k0_t7_loop v43 v75 k0_t5).trips), ∀ a, (k0_off72 v43 v75 k0_t5 k0_t7) a + S1x1x16.size a ≤ S2x160x256.size a := fun v43 v75 k0_hw1 k0_t5 k0_t7 => k0_hw1.2.2.2.2.2.2.2.2.2.2.2.2.2.2.2.2.2.2.2.1 k0_t5 k0_t7
theorem k0_off73_inb : ∀ (v43 : BitVec 32) (v75 : BitVec 32) (k0_hw1 : k0_chk1 v43 v75) (k0_t5 : Fin (k0_t5_loop v43 v75).trips) (k0_t7 : Fin (k0_t7_loop v43 v75 k0_t5).trips), ∀ a, (k0_off73 v43 v75 k0_t5 k0_t7) a + S1x1x16.size a ≤ S2x160x256.size a := fun v43 v75 k0_hw1 k0_t5 k0_t7 => k0_hw1.2.2.2.2.2.2.2.2.2.2.2.2.2.2.2.2.2.2.2.2.1 k0_t5 k0_t7
theorem k0_off74_inb : ∀ (v43 : BitVec 32) (v75 : BitVec 32) (k0_hw1 : k0_chk1 v43 v75) (k0_t5 : Fin (k0_t5_loop v43 v75).trips) (k0_t7 : Fin (k0_t7_loop v43 v75 k0_t5).trips), ∀ a, (k0_off74 v43 v75 k0_t5 k0_t7) a + S1x1x16.size a ≤ S2x160x256.size a := fun v43 v75 k0_hw1 k0_t5 k0_t7 => k0_hw1.2.2.2.2.2.2.2.2.2.2.2.2.2.2.2.2.2.2.2.2.2.1 k0_t5 k0_t7
theorem k0_off75_inb : ∀ (v43 : BitVec 32) (v75 : BitVec 32) (k0_hw1 : k0_chk1 v43 v75) (k0_t5 : Fin (k0_t5_loop v43 v75).trips) (k0_t7 : Fin (k0_t7_loop v43 v75 k0_t5).trips), ∀ a, (k0_off75 v43 v75 k0_t5 k0_t7) a + S1x1x16.size a ≤ S2x160x256.size a := fun v43 v75 k0_hw1 k0_t5 k0_t7 => k0_hw1.2.2.2.2.2.2.2.2.2.2.2.2.2.2.2.2.2.2.2.2.2.2.1 k0_t5 k0_t7
theorem k0_off76_inb : ∀ (v43 : BitVec 32) (v75 : BitVec 32) (k0_hw1 : k0_chk1 v43 v75) (k0_t5 : Fin (k0_t5_loop v43 v75).trips) (k0_t7 : Fin (k0_t7_loop v43 v75 k0_t5).trips), ∀ a, (k0_off76 v43 v75 k0_t5 k0_t7) a + S1x1x16.size a ≤ S2x160x256.size a := fun v43 v75 k0_hw1 k0_t5 k0_t7 => k0_hw1.2.2.2.2.2.2.2.2.2.2.2.2.2.2.2.2.2.2.2.2.2.2.2.1 k0_t5 k0_t7
theorem k0_off77_inb : ∀ (v43 : BitVec 32) (v75 : BitVec 32) (k0_hw1 : k0_chk1 v43 v75) (k0_t5 : Fin (k0_t5_loop v43 v75).trips) (k0_t7 : Fin (k0_t7_loop v43 v75 k0_t5).trips), ∀ a, (k0_off77 v43 v75 k0_t5 k0_t7) a + S1x1x16.size a ≤ S2x160x256.size a := fun v43 v75 k0_hw1 k0_t5 k0_t7 => k0_hw1.2.2.2.2.2.2.2.2.2.2.2.2.2.2.2.2.2.2.2.2.2.2.2.2.1 k0_t5 k0_t7
theorem k0_off78_inb : ∀ (v43 : BitVec 32) (v75 : BitVec 32) (k0_hw1 : k0_chk1 v43 v75) (k0_t5 : Fin (k0_t5_loop v43 v75).trips) (k0_t7 : Fin (k0_t7_loop v43 v75 k0_t5).trips), ∀ a, (k0_off78 v43 v75 k0_t5 k0_t7) a + S1x1x16.size a ≤ S2x160x256.size a := fun v43 v75 k0_hw1 k0_t5 k0_t7 => k0_hw1.2.2.2.2.2.2.2.2.2.2.2.2.2.2.2.2.2.2.2.2.2.2.2.2.2 k0_t5 k0_t7

def k0_mult6 (v75 : BitVec 32) : BitVec 32 :=
  let c_m8_i32_37 : BitVec 32 := 4294967288#32
  let v228 : BitVec 32 := Scalar.andi v75 c_m8_i32_37
  let c0_i32_87 : BitVec 32 := 0#32
  let v345 : BitVec 32 := Scalar.addi v228 c0_i32_87
  let c9840_i32 : BitVec 32 := 9840#32
  let v346 : BitVec 32 := Scalar.minsi v345 c9840_i32
  v346
def k0_cond4 (v75 : BitVec 32) (v107 : BitVec 32) : BitVec 1 :=
  let v227 : BitVec 32 := Scalar.subi v107 v75
  let c0_i32_47 : BitVec 32 := 0#32
  let v250 : BitVec 1 := Scalar.cmpi .sgt v227 c0_i32_47
  let v251 : BitVec 32 := Scalar.extui v250
  let c0_i32_48 : BitVec 32 := 0#32
  let v252 : BitVec 1 := Scalar.cmpi .ne v251 c0_i32_48
  v252

def k0_off79 (v75 : BitVec 32) : Fin 2 → Nat :=
  let c_m8_i32_37 : BitVec 32 := 4294967288#32
  let v228 : BitVec 32 := Scalar.andi v75 c_m8_i32_37
  let c0_i32_87 : BitVec 32 := 0#32
  let v345 : BitVec 32 := Scalar.addi v228 c0_i32_87
  let c9840_i32 : BitVec 32 := 9840#32
  let v346 : BitVec 32 := Scalar.minsi v345 c9840_i32
  let v347 : BitVec 32 := v346
  let c0_i32_92 : BitVec 32 := 0#32
  ![v347.toNat, 0]
@[reducible] def k0_t8_loop (v75 : BitVec 32) (v107 : BitVec 32) : Scf.Loop 32 :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_51 : BitVec 32 := 1#32
  ⟨c0_i32_49, v257, c1_i32_51⟩
def k0_mult7 (v75 : BitVec 32) (v107 : BitVec 32) (k0_t8 : Fin (k0_t8_loop v75 v107).trips) : BitVec 32 :=
  let c_m8_i32_37 : BitVec 32 := 4294967288#32
  let v228 : BitVec 32 := Scalar.andi v75 c_m8_i32_37
  let c0_i32_49 : BitVec 32 := 0#32
  let c1_i32_51 : BitVec 32 := 1#32
  let arg9 : BitVec 32 := Scf.iv c0_i32_49 c1_i32_51 k0_t8
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  v350
def k0_off80 (v75 : BitVec 32) (v107 : BitVec 32) (k0_t8 : Fin (k0_t8_loop v75 v107).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let c0_i32_90 : BitVec 32 := 0#32
  let c0_i32_91 : BitVec 32 := 0#32
  ![v345.toNat, 0, 0]
def k0_off81 (v75 : BitVec 32) (v107 : BitVec 32) (k0_t8 : Fin (k0_t8_loop v75 v107).trips) : Fin 2 → Nat :=
  let c_m8_i32_37 : BitVec 32 := 4294967288#32
  let v228 : BitVec 32 := Scalar.andi v75 c_m8_i32_37
  let c0_i32_49 : BitVec 32 := 0#32
  let c1_i32_51 : BitVec 32 := 1#32
  let arg9 : BitVec 32 := Scf.iv c0_i32_49 c1_i32_51 k0_t8
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let c0_i32_92 : BitVec 32 := 0#32
  ![v351.toNat, 0]
def k0_off82 (v75 : BitVec 32) (v107 : BitVec 32) (k0_t8 : Fin (k0_t8_loop v75 v107).trips) : Fin 1 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  ![v345.toNat]
def k0_mult8 (v75 : BitVec 32) (v107 : BitVec 32) (k0_t8 : Fin (k0_t8_loop v75 v107).trips) : BitVec 32 :=
  let c_m8_i32_37 : BitVec 32 := 4294967288#32
  let v228 : BitVec 32 := Scalar.andi v75 c_m8_i32_37
  let c0_i32_49 : BitVec 32 := 0#32
  let c1_i32_51 : BitVec 32 := 1#32
  let arg9 : BitVec 32 := Scf.iv c0_i32_49 c1_i32_51 k0_t8
  let c1_i32_102 : BitVec 32 := 1#32
  let v376 : BitVec 32 := Scalar.addi arg9 c1_i32_102
  let c160_i32_103 : BitVec 32 := 160#32
  let v377 : BitVec 32 := Scalar.muli v376 c160_i32_103
  let v378 : BitVec 32 := Scalar.addi v228 v377
  let c9840_i32_104 : BitVec 32 := 9840#32
  let v379 : BitVec 32 := Scalar.minsi v378 c9840_i32_104
  v379
def k0_cond5 (v75 : BitVec 32) (v107 : BitVec 32) (k0_t8 : Fin (k0_t8_loop v75 v107).trips) : BitVec 1 :=
  let c0_i32_49 : BitVec 32 := 0#32
  let c1_i32_51 : BitVec 32 := 1#32
  let arg9 : BitVec 32 := Scf.iv c0_i32_49 c1_i32_51 k0_t8
  let c1_i32_96 : BitVec 32 := 1#32
  let v360 : BitVec 32 := Scalar.addi arg9 c1_i32_96
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v361 : BitVec 1 := Scalar.cmpi .slt v360 v249
  let v362 : BitVec 32 := Scalar.extui v361
  let c0_i32_97 : BitVec 32 := 0#32
  let v363 : BitVec 1 := Scalar.cmpi .ne v362 c0_i32_97
  v363

def k0_off83 (v75 : BitVec 32) (v107 : BitVec 32) (k0_t8 : Fin (k0_t8_loop v75 v107).trips) : Fin 3 → Nat :=
  let c0_i32_49 : BitVec 32 := 0#32
  let c1_i32_51 : BitVec 32 := 1#32
  let arg9 : BitVec 32 := Scf.iv c0_i32_49 c1_i32_51 k0_t8
  let c1_i32_105 : BitVec 32 := 1#32
  let v381 : BitVec 32 := Scalar.addi arg9 c1_i32_105
  let c1_i32_106 : BitVec 32 := 1#32
  let v382 : BitVec 32 := Scalar.andi v381 c1_i32_106
  let c0_i32_109 : BitVec 32 := 0#32
  let c0_i32_110 : BitVec 32 := 0#32
  ![v382.toNat, 0, 0]
def k0_off84 (v75 : BitVec 32) (v107 : BitVec 32) (k0_t8 : Fin (k0_t8_loop v75 v107).trips) : Fin 2 → Nat :=
  let c_m8_i32_37 : BitVec 32 := 4294967288#32
  let v228 : BitVec 32 := Scalar.andi v75 c_m8_i32_37
  let c0_i32_49 : BitVec 32 := 0#32
  let c1_i32_51 : BitVec 32 := 1#32
  let arg9 : BitVec 32 := Scf.iv c0_i32_49 c1_i32_51 k0_t8
  let c1_i32_102 : BitVec 32 := 1#32
  let v376 : BitVec 32 := Scalar.addi arg9 c1_i32_102
  let c160_i32_103 : BitVec 32 := 160#32
  let v377 : BitVec 32 := Scalar.muli v376 c160_i32_103
  let v378 : BitVec 32 := Scalar.addi v228 v377
  let c9840_i32_104 : BitVec 32 := 9840#32
  let v379 : BitVec 32 := Scalar.minsi v378 c9840_i32_104
  let v380 : BitVec 32 := v379
  let c0_i32_111 : BitVec 32 := 0#32
  ![v380.toNat, 0]
def k0_off85 (v75 : BitVec 32) (v107 : BitVec 32) (k0_t8 : Fin (k0_t8_loop v75 v107).trips) : Fin 1 → Nat :=
  let c0_i32_49 : BitVec 32 := 0#32
  let c1_i32_51 : BitVec 32 := 1#32
  let arg9 : BitVec 32 := Scf.iv c0_i32_49 c1_i32_51 k0_t8
  let c1_i32_107 : BitVec 32 := 1#32
  let v383 : BitVec 32 := Scalar.addi arg9 c1_i32_107
  let c1_i32_108 : BitVec 32 := 1#32
  let v384 : BitVec 32 := Scalar.andi v383 c1_i32_108
  ![v384.toNat]
@[reducible] def k0_t9_loop (v75 : BitVec 32) (v107 : BitVec 32) (k0_t8 : Fin (k0_t8_loop v75 v107).trips) : Scf.Loop 32 :=
  let c_m8_i32_37 : BitVec 32 := 4294967288#32
  let v228 : BitVec 32 := Scalar.andi v75 c_m8_i32_37
  let c0_i32_49 : BitVec 32 := 0#32
  let c1_i32_51 : BitVec 32 := 1#32
  let arg9 : BitVec 32 := Scf.iv c0_i32_49 c1_i32_51 k0_t8
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_100 : BitVec 32 := 1#32
  ⟨v365, v373, c1_i32_100⟩
def k0_off86 (v75 : BitVec 32) (v107 : BitVec 32) (k0_t8 : Fin (k0_t8_loop v75 v107).trips) (k0_t9 : Fin (k0_t9_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v376 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t9
  let v377 : Index := Scalar.indexCast arg26
  let c0_102 : Index := 0#32
  ![v376.toNat, v377.toNat, 0]
def k0_off87 (v75 : BitVec 32) (v107 : BitVec 32) (k0_t8 : Fin (k0_t8_loop v75 v107).trips) (k0_t9 : Fin (k0_t9_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v380 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t9
  let v381 : Index := Scalar.indexCast arg26
  let c16_103 : Index := 16#32
  ![v380.toNat, v381.toNat, 16]
def k0_off88 (v75 : BitVec 32) (v107 : BitVec 32) (k0_t8 : Fin (k0_t8_loop v75 v107).trips) (k0_t9 : Fin (k0_t9_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v384 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t9
  let v385 : Index := Scalar.indexCast arg26
  let c32_104 : Index := 32#32
  ![v384.toNat, v385.toNat, 32]
def k0_off89 (v75 : BitVec 32) (v107 : BitVec 32) (k0_t8 : Fin (k0_t8_loop v75 v107).trips) (k0_t9 : Fin (k0_t9_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v388 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t9
  let v389 : Index := Scalar.indexCast arg26
  let c48_105 : Index := 48#32
  ![v388.toNat, v389.toNat, 48]
def k0_off90 (v75 : BitVec 32) (v107 : BitVec 32) (k0_t8 : Fin (k0_t8_loop v75 v107).trips) (k0_t9 : Fin (k0_t9_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v392 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t9
  let v393 : Index := Scalar.indexCast arg26
  let c64_106 : Index := 64#32
  ![v392.toNat, v393.toNat, 64]
def k0_off91 (v75 : BitVec 32) (v107 : BitVec 32) (k0_t8 : Fin (k0_t8_loop v75 v107).trips) (k0_t9 : Fin (k0_t9_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v396 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t9
  let v397 : Index := Scalar.indexCast arg26
  let c80_107 : Index := 80#32
  ![v396.toNat, v397.toNat, 80]
def k0_off92 (v75 : BitVec 32) (v107 : BitVec 32) (k0_t8 : Fin (k0_t8_loop v75 v107).trips) (k0_t9 : Fin (k0_t9_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v400 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t9
  let v401 : Index := Scalar.indexCast arg26
  let c96_108 : Index := 96#32
  ![v400.toNat, v401.toNat, 96]
def k0_off93 (v75 : BitVec 32) (v107 : BitVec 32) (k0_t8 : Fin (k0_t8_loop v75 v107).trips) (k0_t9 : Fin (k0_t9_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v404 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t9
  let v405 : Index := Scalar.indexCast arg26
  let c112_109 : Index := 112#32
  ![v404.toNat, v405.toNat, 112]
def k0_off94 (v75 : BitVec 32) (v107 : BitVec 32) (k0_t8 : Fin (k0_t8_loop v75 v107).trips) (k0_t9 : Fin (k0_t9_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v408 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t9
  let v409 : Index := Scalar.indexCast arg26
  let c128_110 : Index := 128#32
  ![v408.toNat, v409.toNat, 128]
def k0_off95 (v75 : BitVec 32) (v107 : BitVec 32) (k0_t8 : Fin (k0_t8_loop v75 v107).trips) (k0_t9 : Fin (k0_t9_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v412 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t9
  let v413 : Index := Scalar.indexCast arg26
  let c144_111 : Index := 144#32
  ![v412.toNat, v413.toNat, 144]
def k0_off96 (v75 : BitVec 32) (v107 : BitVec 32) (k0_t8 : Fin (k0_t8_loop v75 v107).trips) (k0_t9 : Fin (k0_t9_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v416 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t9
  let v417 : Index := Scalar.indexCast arg26
  let c160_112 : Index := 160#32
  ![v416.toNat, v417.toNat, 160]
def k0_off97 (v75 : BitVec 32) (v107 : BitVec 32) (k0_t8 : Fin (k0_t8_loop v75 v107).trips) (k0_t9 : Fin (k0_t9_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v420 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t9
  let v421 : Index := Scalar.indexCast arg26
  let c176_113 : Index := 176#32
  ![v420.toNat, v421.toNat, 176]
def k0_off98 (v75 : BitVec 32) (v107 : BitVec 32) (k0_t8 : Fin (k0_t8_loop v75 v107).trips) (k0_t9 : Fin (k0_t9_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v424 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t9
  let v425 : Index := Scalar.indexCast arg26
  let c192_114 : Index := 192#32
  ![v424.toNat, v425.toNat, 192]
def k0_off99 (v75 : BitVec 32) (v107 : BitVec 32) (k0_t8 : Fin (k0_t8_loop v75 v107).trips) (k0_t9 : Fin (k0_t9_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v428 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t9
  let v429 : Index := Scalar.indexCast arg26
  let c208_115 : Index := 208#32
  ![v428.toNat, v429.toNat, 208]
def k0_off100 (v75 : BitVec 32) (v107 : BitVec 32) (k0_t8 : Fin (k0_t8_loop v75 v107).trips) (k0_t9 : Fin (k0_t9_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v432 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t9
  let v433 : Index := Scalar.indexCast arg26
  let c224_116 : Index := 224#32
  ![v432.toNat, v433.toNat, 224]
def k0_off101 (v75 : BitVec 32) (v107 : BitVec 32) (k0_t8 : Fin (k0_t8_loop v75 v107).trips) (k0_t9 : Fin (k0_t9_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v436 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t9
  let v437 : Index := Scalar.indexCast arg26
  let c240_117 : Index := 240#32
  ![v436.toNat, v437.toNat, 240]
@[reducible] def k0_t10_loop (v75 : BitVec 32) (v107 : BitVec 32) (k0_t8 : Fin (k0_t8_loop v75 v107).trips) : Scf.Loop 32 :=
  let c_m8_i32_37 : BitVec 32 := 4294967288#32
  let v228 : BitVec 32 := Scalar.andi v75 c_m8_i32_37
  let c0_i32_49 : BitVec 32 := 0#32
  let c1_i32_51 : BitVec 32 := 1#32
  let arg9 : BitVec 32 := Scf.iv c0_i32_49 c1_i32_51 k0_t8
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let v370 : BitVec 32 := Scalar.addi v365 v369
  let c1_i32_101 : BitVec 32 := 1#32
  ⟨v373, v370, c1_i32_101⟩
def k0_off102 (v75 : BitVec 32) (v107 : BitVec 32) (k0_t8 : Fin (k0_t8_loop v75 v107).trips) (k0_t10 : Fin (k0_t10_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v376 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t10
  let v377 : Index := Scalar.indexCast arg26
  let c0_102 : Index := 0#32
  ![v376.toNat, v377.toNat, 0]
def k0_off103 (v75 : BitVec 32) (v107 : BitVec 32) (k0_t8 : Fin (k0_t8_loop v75 v107).trips) (k0_t10 : Fin (k0_t10_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v380 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t10
  let v381 : Index := Scalar.indexCast arg26
  let c16_103 : Index := 16#32
  ![v380.toNat, v381.toNat, 16]
def k0_off104 (v75 : BitVec 32) (v107 : BitVec 32) (k0_t8 : Fin (k0_t8_loop v75 v107).trips) (k0_t10 : Fin (k0_t10_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v384 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t10
  let v385 : Index := Scalar.indexCast arg26
  let c32_104 : Index := 32#32
  ![v384.toNat, v385.toNat, 32]
def k0_off105 (v75 : BitVec 32) (v107 : BitVec 32) (k0_t8 : Fin (k0_t8_loop v75 v107).trips) (k0_t10 : Fin (k0_t10_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v388 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t10
  let v389 : Index := Scalar.indexCast arg26
  let c48_105 : Index := 48#32
  ![v388.toNat, v389.toNat, 48]
def k0_off106 (v75 : BitVec 32) (v107 : BitVec 32) (k0_t8 : Fin (k0_t8_loop v75 v107).trips) (k0_t10 : Fin (k0_t10_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v392 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t10
  let v393 : Index := Scalar.indexCast arg26
  let c64_106 : Index := 64#32
  ![v392.toNat, v393.toNat, 64]
def k0_off107 (v75 : BitVec 32) (v107 : BitVec 32) (k0_t8 : Fin (k0_t8_loop v75 v107).trips) (k0_t10 : Fin (k0_t10_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v396 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t10
  let v397 : Index := Scalar.indexCast arg26
  let c80_107 : Index := 80#32
  ![v396.toNat, v397.toNat, 80]
def k0_off108 (v75 : BitVec 32) (v107 : BitVec 32) (k0_t8 : Fin (k0_t8_loop v75 v107).trips) (k0_t10 : Fin (k0_t10_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v400 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t10
  let v401 : Index := Scalar.indexCast arg26
  let c96_108 : Index := 96#32
  ![v400.toNat, v401.toNat, 96]
def k0_off109 (v75 : BitVec 32) (v107 : BitVec 32) (k0_t8 : Fin (k0_t8_loop v75 v107).trips) (k0_t10 : Fin (k0_t10_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v404 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t10
  let v405 : Index := Scalar.indexCast arg26
  let c112_109 : Index := 112#32
  ![v404.toNat, v405.toNat, 112]
def k0_off110 (v75 : BitVec 32) (v107 : BitVec 32) (k0_t8 : Fin (k0_t8_loop v75 v107).trips) (k0_t10 : Fin (k0_t10_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v408 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t10
  let v409 : Index := Scalar.indexCast arg26
  let c128_110 : Index := 128#32
  ![v408.toNat, v409.toNat, 128]
def k0_off111 (v75 : BitVec 32) (v107 : BitVec 32) (k0_t8 : Fin (k0_t8_loop v75 v107).trips) (k0_t10 : Fin (k0_t10_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v412 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t10
  let v413 : Index := Scalar.indexCast arg26
  let c144_111 : Index := 144#32
  ![v412.toNat, v413.toNat, 144]
def k0_off112 (v75 : BitVec 32) (v107 : BitVec 32) (k0_t8 : Fin (k0_t8_loop v75 v107).trips) (k0_t10 : Fin (k0_t10_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v416 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t10
  let v417 : Index := Scalar.indexCast arg26
  let c160_112 : Index := 160#32
  ![v416.toNat, v417.toNat, 160]
def k0_off113 (v75 : BitVec 32) (v107 : BitVec 32) (k0_t8 : Fin (k0_t8_loop v75 v107).trips) (k0_t10 : Fin (k0_t10_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v420 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t10
  let v421 : Index := Scalar.indexCast arg26
  let c176_113 : Index := 176#32
  ![v420.toNat, v421.toNat, 176]
def k0_off114 (v75 : BitVec 32) (v107 : BitVec 32) (k0_t8 : Fin (k0_t8_loop v75 v107).trips) (k0_t10 : Fin (k0_t10_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v424 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t10
  let v425 : Index := Scalar.indexCast arg26
  let c192_114 : Index := 192#32
  ![v424.toNat, v425.toNat, 192]
def k0_off115 (v75 : BitVec 32) (v107 : BitVec 32) (k0_t8 : Fin (k0_t8_loop v75 v107).trips) (k0_t10 : Fin (k0_t10_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v428 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t10
  let v429 : Index := Scalar.indexCast arg26
  let c208_115 : Index := 208#32
  ![v428.toNat, v429.toNat, 208]
def k0_off116 (v75 : BitVec 32) (v107 : BitVec 32) (k0_t8 : Fin (k0_t8_loop v75 v107).trips) (k0_t10 : Fin (k0_t10_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v432 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t10
  let v433 : Index := Scalar.indexCast arg26
  let c224_116 : Index := 224#32
  ![v432.toNat, v433.toNat, 224]
def k0_off117 (v75 : BitVec 32) (v107 : BitVec 32) (k0_t8 : Fin (k0_t8_loop v75 v107).trips) (k0_t10 : Fin (k0_t10_loop v75 v107 k0_t8).trips) : Fin 3 → Nat :=
  let c0_i32_49 : BitVec 32 := 0#32
  let c1_i32_51 : BitVec 32 := 1#32
  let arg9 : BitVec 32 := Scf.iv c0_i32_49 c1_i32_51 k0_t8
  let c1_i32_87 : BitVec 32 := 1#32
  let v345 : BitVec 32 := Scalar.andi arg9 c1_i32_87
  let v436 : Index := Scalar.indexCast v345
  let c_m8_i32_37 : BitVec 32 := 4294967288#32
  let v228 : BitVec 32 := Scalar.andi v75 c_m8_i32_37
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t10
  let v437 : Index := Scalar.indexCast arg26
  let c240_117 : Index := 240#32
  ![v436.toNat, v437.toNat, 240]
@[reducible] def k0_t11_loop (v75 : BitVec 32) (v107 : BitVec 32) : Scf.Loop 32 :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let v254 : BitVec 32 := Scalar.addi c0_i32_49 v253
  let c1_i32_52 : BitVec 32 := 1#32
  ⟨v257, v254, c1_i32_52⟩
def k0_mult9 (v75 : BitVec 32) (v107 : BitVec 32) (k0_t11 : Fin (k0_t11_loop v75 v107).trips) : BitVec 32 :=
  let c_m8_i32_37 : BitVec 32 := 4294967288#32
  let v228 : BitVec 32 := Scalar.andi v75 c_m8_i32_37
  let c0_i32_49 : BitVec 32 := 0#32
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  v350
def k0_off118 (v75 : BitVec 32) (v107 : BitVec 32) (k0_t11 : Fin (k0_t11_loop v75 v107).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let c0_i32_90 : BitVec 32 := 0#32
  let c0_i32_91 : BitVec 32 := 0#32
  ![v345.toNat, 0, 0]
def k0_off119 (v75 : BitVec 32) (v107 : BitVec 32) (k0_t11 : Fin (k0_t11_loop v75 v107).trips) : Fin 2 → Nat :=
  let c_m8_i32_37 : BitVec 32 := 4294967288#32
  let v228 : BitVec 32 := Scalar.andi v75 c_m8_i32_37
  let c0_i32_49 : BitVec 32 := 0#32
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let c0_i32_92 : BitVec 32 := 0#32
  ![v351.toNat, 0]
def k0_off120 (v75 : BitVec 32) (v107 : BitVec 32) (k0_t11 : Fin (k0_t11_loop v75 v107).trips) : Fin 1 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  ![v345.toNat]
def k0_mult10 (v75 : BitVec 32) (v107 : BitVec 32) (k0_t11 : Fin (k0_t11_loop v75 v107).trips) : BitVec 32 :=
  let c_m8_i32_37 : BitVec 32 := 4294967288#32
  let v228 : BitVec 32 := Scalar.andi v75 c_m8_i32_37
  let c0_i32_49 : BitVec 32 := 0#32
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_102 : BitVec 32 := 1#32
  let v376 : BitVec 32 := Scalar.addi arg9 c1_i32_102
  let c160_i32_103 : BitVec 32 := 160#32
  let v377 : BitVec 32 := Scalar.muli v376 c160_i32_103
  let v378 : BitVec 32 := Scalar.addi v228 v377
  let c9840_i32_104 : BitVec 32 := 9840#32
  let v379 : BitVec 32 := Scalar.minsi v378 c9840_i32_104
  v379
def k0_cond6 (v75 : BitVec 32) (v107 : BitVec 32) (k0_t11 : Fin (k0_t11_loop v75 v107).trips) : BitVec 1 :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_96 : BitVec 32 := 1#32
  let v360 : BitVec 32 := Scalar.addi arg9 c1_i32_96
  let v361 : BitVec 1 := Scalar.cmpi .slt v360 v249
  let v362 : BitVec 32 := Scalar.extui v361
  let c0_i32_97 : BitVec 32 := 0#32
  let v363 : BitVec 1 := Scalar.cmpi .ne v362 c0_i32_97
  v363

def k0_off121 (v75 : BitVec 32) (v107 : BitVec 32) (k0_t11 : Fin (k0_t11_loop v75 v107).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_105 : BitVec 32 := 1#32
  let v381 : BitVec 32 := Scalar.addi arg9 c1_i32_105
  let c1_i32_106 : BitVec 32 := 1#32
  let v382 : BitVec 32 := Scalar.andi v381 c1_i32_106
  let c0_i32_109 : BitVec 32 := 0#32
  let c0_i32_110 : BitVec 32 := 0#32
  ![v382.toNat, 0, 0]
def k0_off122 (v75 : BitVec 32) (v107 : BitVec 32) (k0_t11 : Fin (k0_t11_loop v75 v107).trips) : Fin 2 → Nat :=
  let c_m8_i32_37 : BitVec 32 := 4294967288#32
  let v228 : BitVec 32 := Scalar.andi v75 c_m8_i32_37
  let c0_i32_49 : BitVec 32 := 0#32
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_102 : BitVec 32 := 1#32
  let v376 : BitVec 32 := Scalar.addi arg9 c1_i32_102
  let c160_i32_103 : BitVec 32 := 160#32
  let v377 : BitVec 32 := Scalar.muli v376 c160_i32_103
  let v378 : BitVec 32 := Scalar.addi v228 v377
  let c9840_i32_104 : BitVec 32 := 9840#32
  let v379 : BitVec 32 := Scalar.minsi v378 c9840_i32_104
  let v380 : BitVec 32 := v379
  let c0_i32_111 : BitVec 32 := 0#32
  ![v380.toNat, 0]
def k0_off123 (v75 : BitVec 32) (v107 : BitVec 32) (k0_t11 : Fin (k0_t11_loop v75 v107).trips) : Fin 1 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_107 : BitVec 32 := 1#32
  let v383 : BitVec 32 := Scalar.addi arg9 c1_i32_107
  let c1_i32_108 : BitVec 32 := 1#32
  let v384 : BitVec 32 := Scalar.andi v383 c1_i32_108
  ![v384.toNat]
@[reducible] def k0_t12_loop (v75 : BitVec 32) (v107 : BitVec 32) (k0_t11 : Fin (k0_t11_loop v75 v107).trips) : Scf.Loop 32 :=
  let c_m8_i32_37 : BitVec 32 := 4294967288#32
  let v228 : BitVec 32 := Scalar.andi v75 c_m8_i32_37
  let c0_i32_49 : BitVec 32 := 0#32
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_100 : BitVec 32 := 1#32
  ⟨v365, v373, c1_i32_100⟩
def k0_off124 (v75 : BitVec 32) (v107 : BitVec 32) (k0_t11 : Fin (k0_t11_loop v75 v107).trips) (k0_t12 : Fin (k0_t12_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v376 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t12
  let v377 : Index := Scalar.indexCast arg26
  let c0_102 : Index := 0#32
  ![v376.toNat, v377.toNat, 0]
def k0_off125 (v75 : BitVec 32) (v107 : BitVec 32) (k0_t11 : Fin (k0_t11_loop v75 v107).trips) (k0_t12 : Fin (k0_t12_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v380 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t12
  let v381 : Index := Scalar.indexCast arg26
  let c16_103 : Index := 16#32
  ![v380.toNat, v381.toNat, 16]
def k0_off126 (v75 : BitVec 32) (v107 : BitVec 32) (k0_t11 : Fin (k0_t11_loop v75 v107).trips) (k0_t12 : Fin (k0_t12_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v384 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t12
  let v385 : Index := Scalar.indexCast arg26
  let c32_104 : Index := 32#32
  ![v384.toNat, v385.toNat, 32]
def k0_off127 (v75 : BitVec 32) (v107 : BitVec 32) (k0_t11 : Fin (k0_t11_loop v75 v107).trips) (k0_t12 : Fin (k0_t12_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v388 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t12
  let v389 : Index := Scalar.indexCast arg26
  let c48_105 : Index := 48#32
  ![v388.toNat, v389.toNat, 48]
def k0_off128 (v75 : BitVec 32) (v107 : BitVec 32) (k0_t11 : Fin (k0_t11_loop v75 v107).trips) (k0_t12 : Fin (k0_t12_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v392 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t12
  let v393 : Index := Scalar.indexCast arg26
  let c64_106 : Index := 64#32
  ![v392.toNat, v393.toNat, 64]
def k0_off129 (v75 : BitVec 32) (v107 : BitVec 32) (k0_t11 : Fin (k0_t11_loop v75 v107).trips) (k0_t12 : Fin (k0_t12_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v396 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t12
  let v397 : Index := Scalar.indexCast arg26
  let c80_107 : Index := 80#32
  ![v396.toNat, v397.toNat, 80]
def k0_off130 (v75 : BitVec 32) (v107 : BitVec 32) (k0_t11 : Fin (k0_t11_loop v75 v107).trips) (k0_t12 : Fin (k0_t12_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v400 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t12
  let v401 : Index := Scalar.indexCast arg26
  let c96_108 : Index := 96#32
  ![v400.toNat, v401.toNat, 96]
def k0_off131 (v75 : BitVec 32) (v107 : BitVec 32) (k0_t11 : Fin (k0_t11_loop v75 v107).trips) (k0_t12 : Fin (k0_t12_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v404 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t12
  let v405 : Index := Scalar.indexCast arg26
  let c112_109 : Index := 112#32
  ![v404.toNat, v405.toNat, 112]
def k0_off132 (v75 : BitVec 32) (v107 : BitVec 32) (k0_t11 : Fin (k0_t11_loop v75 v107).trips) (k0_t12 : Fin (k0_t12_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v408 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t12
  let v409 : Index := Scalar.indexCast arg26
  let c128_110 : Index := 128#32
  ![v408.toNat, v409.toNat, 128]
def k0_off133 (v75 : BitVec 32) (v107 : BitVec 32) (k0_t11 : Fin (k0_t11_loop v75 v107).trips) (k0_t12 : Fin (k0_t12_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v412 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t12
  let v413 : Index := Scalar.indexCast arg26
  let c144_111 : Index := 144#32
  ![v412.toNat, v413.toNat, 144]
def k0_off134 (v75 : BitVec 32) (v107 : BitVec 32) (k0_t11 : Fin (k0_t11_loop v75 v107).trips) (k0_t12 : Fin (k0_t12_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v416 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t12
  let v417 : Index := Scalar.indexCast arg26
  let c160_112 : Index := 160#32
  ![v416.toNat, v417.toNat, 160]
def k0_off135 (v75 : BitVec 32) (v107 : BitVec 32) (k0_t11 : Fin (k0_t11_loop v75 v107).trips) (k0_t12 : Fin (k0_t12_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v420 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t12
  let v421 : Index := Scalar.indexCast arg26
  let c176_113 : Index := 176#32
  ![v420.toNat, v421.toNat, 176]
def k0_off136 (v75 : BitVec 32) (v107 : BitVec 32) (k0_t11 : Fin (k0_t11_loop v75 v107).trips) (k0_t12 : Fin (k0_t12_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v424 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t12
  let v425 : Index := Scalar.indexCast arg26
  let c192_114 : Index := 192#32
  ![v424.toNat, v425.toNat, 192]
def k0_off137 (v75 : BitVec 32) (v107 : BitVec 32) (k0_t11 : Fin (k0_t11_loop v75 v107).trips) (k0_t12 : Fin (k0_t12_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v428 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t12
  let v429 : Index := Scalar.indexCast arg26
  let c208_115 : Index := 208#32
  ![v428.toNat, v429.toNat, 208]
def k0_off138 (v75 : BitVec 32) (v107 : BitVec 32) (k0_t11 : Fin (k0_t11_loop v75 v107).trips) (k0_t12 : Fin (k0_t12_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v432 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t12
  let v433 : Index := Scalar.indexCast arg26
  let c224_116 : Index := 224#32
  ![v432.toNat, v433.toNat, 224]
def k0_off139 (v75 : BitVec 32) (v107 : BitVec 32) (k0_t11 : Fin (k0_t11_loop v75 v107).trips) (k0_t12 : Fin (k0_t12_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v436 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c1_i32_100 : BitVec 32 := 1#32
  let arg26 : BitVec 32 := Scf.iv v365 c1_i32_100 k0_t12
  let v437 : Index := Scalar.indexCast arg26
  let c240_117 : Index := 240#32
  ![v436.toNat, v437.toNat, 240]
@[reducible] def k0_t13_loop (v75 : BitVec 32) (v107 : BitVec 32) (k0_t11 : Fin (k0_t11_loop v75 v107).trips) : Scf.Loop 32 :=
  let c_m8_i32_37 : BitVec 32 := 4294967288#32
  let v228 : BitVec 32 := Scalar.andi v75 c_m8_i32_37
  let c0_i32_49 : BitVec 32 := 0#32
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let v370 : BitVec 32 := Scalar.addi v365 v369
  let c1_i32_101 : BitVec 32 := 1#32
  ⟨v373, v370, c1_i32_101⟩
def k0_off140 (v75 : BitVec 32) (v107 : BitVec 32) (k0_t11 : Fin (k0_t11_loop v75 v107).trips) (k0_t13 : Fin (k0_t13_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v376 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t13
  let v377 : Index := Scalar.indexCast arg26
  let c0_102 : Index := 0#32
  ![v376.toNat, v377.toNat, 0]
def k0_off141 (v75 : BitVec 32) (v107 : BitVec 32) (k0_t11 : Fin (k0_t11_loop v75 v107).trips) (k0_t13 : Fin (k0_t13_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v380 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t13
  let v381 : Index := Scalar.indexCast arg26
  let c16_103 : Index := 16#32
  ![v380.toNat, v381.toNat, 16]
def k0_off142 (v75 : BitVec 32) (v107 : BitVec 32) (k0_t11 : Fin (k0_t11_loop v75 v107).trips) (k0_t13 : Fin (k0_t13_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v384 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t13
  let v385 : Index := Scalar.indexCast arg26
  let c32_104 : Index := 32#32
  ![v384.toNat, v385.toNat, 32]
def k0_off143 (v75 : BitVec 32) (v107 : BitVec 32) (k0_t11 : Fin (k0_t11_loop v75 v107).trips) (k0_t13 : Fin (k0_t13_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v388 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t13
  let v389 : Index := Scalar.indexCast arg26
  let c48_105 : Index := 48#32
  ![v388.toNat, v389.toNat, 48]
def k0_off144 (v75 : BitVec 32) (v107 : BitVec 32) (k0_t11 : Fin (k0_t11_loop v75 v107).trips) (k0_t13 : Fin (k0_t13_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v392 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t13
  let v393 : Index := Scalar.indexCast arg26
  let c64_106 : Index := 64#32
  ![v392.toNat, v393.toNat, 64]
def k0_off145 (v75 : BitVec 32) (v107 : BitVec 32) (k0_t11 : Fin (k0_t11_loop v75 v107).trips) (k0_t13 : Fin (k0_t13_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v396 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t13
  let v397 : Index := Scalar.indexCast arg26
  let c80_107 : Index := 80#32
  ![v396.toNat, v397.toNat, 80]
def k0_off146 (v75 : BitVec 32) (v107 : BitVec 32) (k0_t11 : Fin (k0_t11_loop v75 v107).trips) (k0_t13 : Fin (k0_t13_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v400 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t13
  let v401 : Index := Scalar.indexCast arg26
  let c96_108 : Index := 96#32
  ![v400.toNat, v401.toNat, 96]
def k0_off147 (v75 : BitVec 32) (v107 : BitVec 32) (k0_t11 : Fin (k0_t11_loop v75 v107).trips) (k0_t13 : Fin (k0_t13_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v404 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t13
  let v405 : Index := Scalar.indexCast arg26
  let c112_109 : Index := 112#32
  ![v404.toNat, v405.toNat, 112]
def k0_off148 (v75 : BitVec 32) (v107 : BitVec 32) (k0_t11 : Fin (k0_t11_loop v75 v107).trips) (k0_t13 : Fin (k0_t13_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v408 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t13
  let v409 : Index := Scalar.indexCast arg26
  let c128_110 : Index := 128#32
  ![v408.toNat, v409.toNat, 128]
def k0_off149 (v75 : BitVec 32) (v107 : BitVec 32) (k0_t11 : Fin (k0_t11_loop v75 v107).trips) (k0_t13 : Fin (k0_t13_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v412 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t13
  let v413 : Index := Scalar.indexCast arg26
  let c144_111 : Index := 144#32
  ![v412.toNat, v413.toNat, 144]
def k0_off150 (v75 : BitVec 32) (v107 : BitVec 32) (k0_t11 : Fin (k0_t11_loop v75 v107).trips) (k0_t13 : Fin (k0_t13_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v416 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t13
  let v417 : Index := Scalar.indexCast arg26
  let c160_112 : Index := 160#32
  ![v416.toNat, v417.toNat, 160]
def k0_off151 (v75 : BitVec 32) (v107 : BitVec 32) (k0_t11 : Fin (k0_t11_loop v75 v107).trips) (k0_t13 : Fin (k0_t13_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v420 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t13
  let v421 : Index := Scalar.indexCast arg26
  let c176_113 : Index := 176#32
  ![v420.toNat, v421.toNat, 176]
def k0_off152 (v75 : BitVec 32) (v107 : BitVec 32) (k0_t11 : Fin (k0_t11_loop v75 v107).trips) (k0_t13 : Fin (k0_t13_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v424 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t13
  let v425 : Index := Scalar.indexCast arg26
  let c192_114 : Index := 192#32
  ![v424.toNat, v425.toNat, 192]
def k0_off153 (v75 : BitVec 32) (v107 : BitVec 32) (k0_t11 : Fin (k0_t11_loop v75 v107).trips) (k0_t13 : Fin (k0_t13_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v428 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t13
  let v429 : Index := Scalar.indexCast arg26
  let c208_115 : Index := 208#32
  ![v428.toNat, v429.toNat, 208]
def k0_off154 (v75 : BitVec 32) (v107 : BitVec 32) (k0_t11 : Fin (k0_t11_loop v75 v107).trips) (k0_t13 : Fin (k0_t13_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v432 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t13
  let v433 : Index := Scalar.indexCast arg26
  let c224_116 : Index := 224#32
  ![v432.toNat, v433.toNat, 224]
def k0_off155 (v75 : BitVec 32) (v107 : BitVec 32) (k0_t11 : Fin (k0_t11_loop v75 v107).trips) (k0_t13 : Fin (k0_t13_loop v75 v107 k0_t11).trips) : Fin 3 → Nat :=
  let c0_i32_49 : BitVec 32 := 0#32
  let c_m8_i32_37 : BitVec 32 := 4294967288#32
  let v228 : BitVec 32 := Scalar.andi v75 c_m8_i32_37
  let v229 : BitVec 32 := Scalar.subi v107 v228
  let c159_i32_38 : BitVec 32 := 159#32
  let v230 : BitVec 32 := Scalar.addi v229 c159_i32_38
  let c0_i32_40 : BitVec 32 := 0#32
  let v232 : BitVec 1 := Scalar.cmpi .sgt v230 c0_i32_40
  let v233 : BitVec 32 := Scalar.extui v232
  let c0_i32_41 : BitVec 32 := 0#32
  let v234 : BitVec 1 := Scalar.cmpi .slt v230 c0_i32_41
  let v235 : BitVec 32 := Scalar.extui v234
  let v236 : BitVec 32 := Scalar.subi v233 v235
  let c160_i32_39 : BitVec 32 := 160#32
  let c0_i32_42 : BitVec 32 := 0#32
  let v237 : BitVec 1 := Scalar.cmpi .sgt c160_i32_39 c0_i32_42
  let v238 : BitVec 32 := Scalar.extui v237
  let c0_i32_43 : BitVec 32 := 0#32
  let v239 : BitVec 1 := Scalar.cmpi .slt c160_i32_39 c0_i32_43
  let v240 : BitVec 32 := Scalar.extui v239
  let v241 : BitVec 32 := Scalar.subi v238 v240
  let v242 : BitVec 1 := Scalar.cmpi .ne v236 v241
  let v243 : BitVec 32 := Scalar.remsi v230 c160_i32_39
  let c0_i32_44 : BitVec 32 := 0#32
  let v244 : BitVec 1 := Scalar.cmpi .ne v243 c0_i32_44
  let v245 : BitVec 1 := Scalar.andi v242 v244
  let v231 : BitVec 32 := Scalar.divsi v230 c160_i32_39
  let c1_i32_45 : BitVec 32 := 1#32
  let v246 : BitVec 32 := Scalar.subi v231 c1_i32_45
  let v247 : BitVec 32 := Scalar.select v245 v246 v231
  let v227 : BitVec 32 := Scalar.subi v107 v75
  let c1_i32_46 : BitVec 32 := 1#32
  let v248 : BitVec 32 := Scalar.minsi v227 c1_i32_46
  let v249 : BitVec 32 := Scalar.muli v247 v248
  let v253 : BitVec 32 := Scalar.subi v249 c0_i32_49
  let c1_i32_50 : BitVec 32 := 1#32
  let v255 : BitVec 32 := Scalar.divsi v253 c1_i32_50
  let v256 : BitVec 32 := Scalar.muli v255 c1_i32_50
  let v257 : BitVec 32 := Scalar.addi c0_i32_49 v256
  let c1_i32_52 : BitVec 32 := 1#32
  let arg9 : BitVec 32 := Scf.iv v257 c1_i32_52 k0_t11
  let c1_i32_87 : BitVec 32 := 1#32
  let v345 : BitVec 32 := Scalar.andi arg9 c1_i32_87
  let v436 : Index := Scalar.indexCast v345
  let c160_i32_88 : BitVec 32 := 160#32
  let v346 : BitVec 32 := Scalar.muli arg9 c160_i32_88
  let v347 : BitVec 32 := Scalar.addi v228 v346
  let v364 : BitVec 32 := Scalar.maxsi v75 v347
  let c160_i32_89 : BitVec 32 := 160#32
  let v348 : BitVec 32 := Scalar.muli arg9 c160_i32_89
  let v349 : BitVec 32 := Scalar.addi v228 v348
  let c9840_i32 : BitVec 32 := 9840#32
  let v350 : BitVec 32 := Scalar.minsi v349 c9840_i32
  let v351 : BitVec 32 := v350
  let v365 : BitVec 32 := Scalar.subi v364 v351
  let c160_i32_98 : BitVec 32 := 160#32
  let v366 : BitVec 32 := Scalar.addi v347 c160_i32_98
  let v367 : BitVec 32 := Scalar.minsi v107 v366
  let v368 : BitVec 32 := Scalar.subi v367 v351
  let v369 : BitVec 32 := Scalar.subi v368 v365
  let c1_i32_99 : BitVec 32 := 1#32
  let v371 : BitVec 32 := Scalar.divsi v369 c1_i32_99
  let v372 : BitVec 32 := Scalar.muli v371 c1_i32_99
  let v373 : BitVec 32 := Scalar.addi v365 v372
  let c1_i32_101 : BitVec 32 := 1#32
  let arg26 : BitVec 32 := Scf.iv v373 c1_i32_101 k0_t13
  let v437 : Index := Scalar.indexCast arg26
  let c240_117 : Index := 240#32
  ![v436.toNat, v437.toNat, 240]

def k0_chk2_0 (v75 : BitVec 32) (v107 : BitVec 32) : Prop :=
  (∀ (k0_h4 : k0_cond4 v75 v107 = 1#1), 8 ∣ (k0_mult6 v75).toNat) ∧
  (∀ (k0_h4 : k0_cond4 v75 v107 = 1#1), ∀ a, (k0_off79 v75) a + S160x256.size a ≤ S10000x256.size a) ∧
  ((k0_t8_loop v75 v107).OK) ∧
  (∀ k0_t8 : Fin (k0_t8_loop v75 v107).trips, 8 ∣ (k0_mult7 v75 v107 k0_t8).toNat) ∧
  (∀ k0_t8 : Fin (k0_t8_loop v75 v107).trips, ∀ a, (k0_off80 v75 v107 k0_t8) a + S1x160x256.size a ≤ S2x160x256.size a) ∧
  (∀ k0_t8 : Fin (k0_t8_loop v75 v107).trips, ∀ a, (k0_off81 v75 v107 k0_t8) a + S160x256.size a ≤ S10000x256.size a) ∧
  (∀ k0_t8 : Fin (k0_t8_loop v75 v107).trips, ∀ a, (k0_off82 v75 v107 k0_t8) a + S1.size a ≤ S2.size a) ∧
  (∀ k0_t8 : Fin (k0_t8_loop v75 v107).trips, ∀ (k0_h5 : k0_cond5 v75 v107 k0_t8 = 1#1), 8 ∣ (k0_mult8 v75 v107 k0_t8).toNat) ∧
  (∀ k0_t8 : Fin (k0_t8_loop v75 v107).trips, ∀ (k0_h5 : k0_cond5 v75 v107 k0_t8 = 1#1), ∀ a, (k0_off83 v75 v107 k0_t8) a + S1x160x256.size a ≤ S2x160x256.size a) ∧
  (∀ k0_t8 : Fin (k0_t8_loop v75 v107).trips, ∀ (k0_h5 : k0_cond5 v75 v107 k0_t8 = 1#1), ∀ a, (k0_off84 v75 v107 k0_t8) a + S160x256.size a ≤ S10000x256.size a) ∧
  (∀ k0_t8 : Fin (k0_t8_loop v75 v107).trips, ∀ (k0_h5 : k0_cond5 v75 v107 k0_t8 = 1#1), ∀ a, (k0_off85 v75 v107 k0_t8) a + S1.size a ≤ S2.size a) ∧
  (∀ k0_t8 : Fin (k0_t8_loop v75 v107).trips, (k0_t9_loop v75 v107 k0_t8).OK) ∧
  (∀ (k0_t8 : Fin (k0_t8_loop v75 v107).trips) (k0_t9 : Fin (k0_t9_loop v75 v107 k0_t8).trips), ∀ a, (k0_off86 v75 v107 k0_t8 k0_t9) a + S1x1x16.size a ≤ S2x160x256.size a) ∧
  (∀ (k0_t8 : Fin (k0_t8_loop v75 v107).trips) (k0_t9 : Fin (k0_t9_loop v75 v107 k0_t8).trips), ∀ a, (k0_off87 v75 v107 k0_t8 k0_t9) a + S1x1x16.size a ≤ S2x160x256.size a) ∧
  (∀ (k0_t8 : Fin (k0_t8_loop v75 v107).trips) (k0_t9 : Fin (k0_t9_loop v75 v107 k0_t8).trips), ∀ a, (k0_off88 v75 v107 k0_t8 k0_t9) a + S1x1x16.size a ≤ S2x160x256.size a) ∧
  (∀ (k0_t8 : Fin (k0_t8_loop v75 v107).trips) (k0_t9 : Fin (k0_t9_loop v75 v107 k0_t8).trips), ∀ a, (k0_off89 v75 v107 k0_t8 k0_t9) a + S1x1x16.size a ≤ S2x160x256.size a) ∧
  (∀ (k0_t8 : Fin (k0_t8_loop v75 v107).trips) (k0_t9 : Fin (k0_t9_loop v75 v107 k0_t8).trips), ∀ a, (k0_off90 v75 v107 k0_t8 k0_t9) a + S1x1x16.size a ≤ S2x160x256.size a) ∧
  (∀ (k0_t8 : Fin (k0_t8_loop v75 v107).trips) (k0_t9 : Fin (k0_t9_loop v75 v107 k0_t8).trips), ∀ a, (k0_off91 v75 v107 k0_t8 k0_t9) a + S1x1x16.size a ≤ S2x160x256.size a) ∧
  (∀ (k0_t8 : Fin (k0_t8_loop v75 v107).trips) (k0_t9 : Fin (k0_t9_loop v75 v107 k0_t8).trips), ∀ a, (k0_off92 v75 v107 k0_t8 k0_t9) a + S1x1x16.size a ≤ S2x160x256.size a) ∧
  (∀ (k0_t8 : Fin (k0_t8_loop v75 v107).trips) (k0_t9 : Fin (k0_t9_loop v75 v107 k0_t8).trips), ∀ a, (k0_off93 v75 v107 k0_t8 k0_t9) a + S1x1x16.size a ≤ S2x160x256.size a) ∧
  (∀ (k0_t8 : Fin (k0_t8_loop v75 v107).trips) (k0_t9 : Fin (k0_t9_loop v75 v107 k0_t8).trips), ∀ a, (k0_off94 v75 v107 k0_t8 k0_t9) a + S1x1x16.size a ≤ S2x160x256.size a) ∧
  (∀ (k0_t8 : Fin (k0_t8_loop v75 v107).trips) (k0_t9 : Fin (k0_t9_loop v75 v107 k0_t8).trips), ∀ a, (k0_off95 v75 v107 k0_t8 k0_t9) a + S1x1x16.size a ≤ S2x160x256.size a) ∧
  (∀ (k0_t8 : Fin (k0_t8_loop v75 v107).trips) (k0_t9 : Fin (k0_t9_loop v75 v107 k0_t8).trips), ∀ a, (k0_off96 v75 v107 k0_t8 k0_t9) a + S1x1x16.size a ≤ S2x160x256.size a) ∧
  (∀ (k0_t8 : Fin (k0_t8_loop v75 v107).trips) (k0_t9 : Fin (k0_t9_loop v75 v107 k0_t8).trips), ∀ a, (k0_off97 v75 v107 k0_t8 k0_t9) a + S1x1x16.size a ≤ S2x160x256.size a) ∧
  (∀ (k0_t8 : Fin (k0_t8_loop v75 v107).trips) (k0_t9 : Fin (k0_t9_loop v75 v107 k0_t8).trips), ∀ a, (k0_off98 v75 v107 k0_t8 k0_t9) a + S1x1x16.size a ≤ S2x160x256.size a) ∧
  (∀ (k0_t8 : Fin (k0_t8_loop v75 v107).trips) (k0_t9 : Fin (k0_t9_loop v75 v107 k0_t8).trips), ∀ a, (k0_off99 v75 v107 k0_t8 k0_t9) a + S1x1x16.size a ≤ S2x160x256.size a) ∧
  (∀ (k0_t8 : Fin (k0_t8_loop v75 v107).trips) (k0_t9 : Fin (k0_t9_loop v75 v107 k0_t8).trips), ∀ a, (k0_off100 v75 v107 k0_t8 k0_t9) a + S1x1x16.size a ≤ S2x160x256.size a) ∧
  (∀ (k0_t8 : Fin (k0_t8_loop v75 v107).trips) (k0_t9 : Fin (k0_t9_loop v75 v107 k0_t8).trips), ∀ a, (k0_off101 v75 v107 k0_t8 k0_t9) a + S1x1x16.size a ≤ S2x160x256.size a) ∧
  (∀ k0_t8 : Fin (k0_t8_loop v75 v107).trips, (k0_t10_loop v75 v107 k0_t8).OK) ∧
  (∀ (k0_t8 : Fin (k0_t8_loop v75 v107).trips) (k0_t10 : Fin (k0_t10_loop v75 v107 k0_t8).trips), ∀ a, (k0_off102 v75 v107 k0_t8 k0_t10) a + S1x1x16.size a ≤ S2x160x256.size a) ∧
  (∀ (k0_t8 : Fin (k0_t8_loop v75 v107).trips) (k0_t10 : Fin (k0_t10_loop v75 v107 k0_t8).trips), ∀ a, (k0_off103 v75 v107 k0_t8 k0_t10) a + S1x1x16.size a ≤ S2x160x256.size a) ∧
  (∀ (k0_t8 : Fin (k0_t8_loop v75 v107).trips) (k0_t10 : Fin (k0_t10_loop v75 v107 k0_t8).trips), ∀ a, (k0_off104 v75 v107 k0_t8 k0_t10) a + S1x1x16.size a ≤ S2x160x256.size a)
def k0_chk2_1 (v75 : BitVec 32) (v107 : BitVec 32) : Prop :=
  (∀ (k0_t8 : Fin (k0_t8_loop v75 v107).trips) (k0_t10 : Fin (k0_t10_loop v75 v107 k0_t8).trips), ∀ a, (k0_off105 v75 v107 k0_t8 k0_t10) a + S1x1x16.size a ≤ S2x160x256.size a) ∧
  (∀ (k0_t8 : Fin (k0_t8_loop v75 v107).trips) (k0_t10 : Fin (k0_t10_loop v75 v107 k0_t8).trips), ∀ a, (k0_off106 v75 v107 k0_t8 k0_t10) a + S1x1x16.size a ≤ S2x160x256.size a) ∧
  (∀ (k0_t8 : Fin (k0_t8_loop v75 v107).trips) (k0_t10 : Fin (k0_t10_loop v75 v107 k0_t8).trips), ∀ a, (k0_off107 v75 v107 k0_t8 k0_t10) a + S1x1x16.size a ≤ S2x160x256.size a) ∧
  (∀ (k0_t8 : Fin (k0_t8_loop v75 v107).trips) (k0_t10 : Fin (k0_t10_loop v75 v107 k0_t8).trips), ∀ a, (k0_off108 v75 v107 k0_t8 k0_t10) a + S1x1x16.size a ≤ S2x160x256.size a) ∧
  (∀ (k0_t8 : Fin (k0_t8_loop v75 v107).trips) (k0_t10 : Fin (k0_t10_loop v75 v107 k0_t8).trips), ∀ a, (k0_off109 v75 v107 k0_t8 k0_t10) a + S1x1x16.size a ≤ S2x160x256.size a) ∧
  (∀ (k0_t8 : Fin (k0_t8_loop v75 v107).trips) (k0_t10 : Fin (k0_t10_loop v75 v107 k0_t8).trips), ∀ a, (k0_off110 v75 v107 k0_t8 k0_t10) a + S1x1x16.size a ≤ S2x160x256.size a) ∧
  (∀ (k0_t8 : Fin (k0_t8_loop v75 v107).trips) (k0_t10 : Fin (k0_t10_loop v75 v107 k0_t8).trips), ∀ a, (k0_off111 v75 v107 k0_t8 k0_t10) a + S1x1x16.size a ≤ S2x160x256.size a) ∧
  (∀ (k0_t8 : Fin (k0_t8_loop v75 v107).trips) (k0_t10 : Fin (k0_t10_loop v75 v107 k0_t8).trips), ∀ a, (k0_off112 v75 v107 k0_t8 k0_t10) a + S1x1x16.size a ≤ S2x160x256.size a) ∧
  (∀ (k0_t8 : Fin (k0_t8_loop v75 v107).trips) (k0_t10 : Fin (k0_t10_loop v75 v107 k0_t8).trips), ∀ a, (k0_off113 v75 v107 k0_t8 k0_t10) a + S1x1x16.size a ≤ S2x160x256.size a) ∧
  (∀ (k0_t8 : Fin (k0_t8_loop v75 v107).trips) (k0_t10 : Fin (k0_t10_loop v75 v107 k0_t8).trips), ∀ a, (k0_off114 v75 v107 k0_t8 k0_t10) a + S1x1x16.size a ≤ S2x160x256.size a) ∧
  (∀ (k0_t8 : Fin (k0_t8_loop v75 v107).trips) (k0_t10 : Fin (k0_t10_loop v75 v107 k0_t8).trips), ∀ a, (k0_off115 v75 v107 k0_t8 k0_t10) a + S1x1x16.size a ≤ S2x160x256.size a) ∧
  (∀ (k0_t8 : Fin (k0_t8_loop v75 v107).trips) (k0_t10 : Fin (k0_t10_loop v75 v107 k0_t8).trips), ∀ a, (k0_off116 v75 v107 k0_t8 k0_t10) a + S1x1x16.size a ≤ S2x160x256.size a) ∧
  (∀ (k0_t8 : Fin (k0_t8_loop v75 v107).trips) (k0_t10 : Fin (k0_t10_loop v75 v107 k0_t8).trips), ∀ a, (k0_off117 v75 v107 k0_t8 k0_t10) a + S1x1x16.size a ≤ S2x160x256.size a) ∧
  ((k0_t11_loop v75 v107).OK) ∧
  (∀ k0_t11 : Fin (k0_t11_loop v75 v107).trips, 8 ∣ (k0_mult9 v75 v107 k0_t11).toNat) ∧
  (∀ k0_t11 : Fin (k0_t11_loop v75 v107).trips, ∀ a, (k0_off118 v75 v107 k0_t11) a + S1x160x256.size a ≤ S2x160x256.size a) ∧
  (∀ k0_t11 : Fin (k0_t11_loop v75 v107).trips, ∀ a, (k0_off119 v75 v107 k0_t11) a + S160x256.size a ≤ S10000x256.size a) ∧
  (∀ k0_t11 : Fin (k0_t11_loop v75 v107).trips, ∀ a, (k0_off120 v75 v107 k0_t11) a + S1.size a ≤ S2.size a) ∧
  (∀ k0_t11 : Fin (k0_t11_loop v75 v107).trips, ∀ (k0_h6 : k0_cond6 v75 v107 k0_t11 = 1#1), 8 ∣ (k0_mult10 v75 v107 k0_t11).toNat) ∧
  (∀ k0_t11 : Fin (k0_t11_loop v75 v107).trips, ∀ (k0_h6 : k0_cond6 v75 v107 k0_t11 = 1#1), ∀ a, (k0_off121 v75 v107 k0_t11) a + S1x160x256.size a ≤ S2x160x256.size a) ∧
  (∀ k0_t11 : Fin (k0_t11_loop v75 v107).trips, ∀ (k0_h6 : k0_cond6 v75 v107 k0_t11 = 1#1), ∀ a, (k0_off122 v75 v107 k0_t11) a + S160x256.size a ≤ S10000x256.size a) ∧
  (∀ k0_t11 : Fin (k0_t11_loop v75 v107).trips, ∀ (k0_h6 : k0_cond6 v75 v107 k0_t11 = 1#1), ∀ a, (k0_off123 v75 v107 k0_t11) a + S1.size a ≤ S2.size a) ∧
  (∀ k0_t11 : Fin (k0_t11_loop v75 v107).trips, (k0_t12_loop v75 v107 k0_t11).OK) ∧
  (∀ (k0_t11 : Fin (k0_t11_loop v75 v107).trips) (k0_t12 : Fin (k0_t12_loop v75 v107 k0_t11).trips), ∀ a, (k0_off124 v75 v107 k0_t11 k0_t12) a + S1x1x16.size a ≤ S2x160x256.size a) ∧
  (∀ (k0_t11 : Fin (k0_t11_loop v75 v107).trips) (k0_t12 : Fin (k0_t12_loop v75 v107 k0_t11).trips), ∀ a, (k0_off125 v75 v107 k0_t11 k0_t12) a + S1x1x16.size a ≤ S2x160x256.size a) ∧
  (∀ (k0_t11 : Fin (k0_t11_loop v75 v107).trips) (k0_t12 : Fin (k0_t12_loop v75 v107 k0_t11).trips), ∀ a, (k0_off126 v75 v107 k0_t11 k0_t12) a + S1x1x16.size a ≤ S2x160x256.size a) ∧
  (∀ (k0_t11 : Fin (k0_t11_loop v75 v107).trips) (k0_t12 : Fin (k0_t12_loop v75 v107 k0_t11).trips), ∀ a, (k0_off127 v75 v107 k0_t11 k0_t12) a + S1x1x16.size a ≤ S2x160x256.size a) ∧
  (∀ (k0_t11 : Fin (k0_t11_loop v75 v107).trips) (k0_t12 : Fin (k0_t12_loop v75 v107 k0_t11).trips), ∀ a, (k0_off128 v75 v107 k0_t11 k0_t12) a + S1x1x16.size a ≤ S2x160x256.size a) ∧
  (∀ (k0_t11 : Fin (k0_t11_loop v75 v107).trips) (k0_t12 : Fin (k0_t12_loop v75 v107 k0_t11).trips), ∀ a, (k0_off129 v75 v107 k0_t11 k0_t12) a + S1x1x16.size a ≤ S2x160x256.size a) ∧
  (∀ (k0_t11 : Fin (k0_t11_loop v75 v107).trips) (k0_t12 : Fin (k0_t12_loop v75 v107 k0_t11).trips), ∀ a, (k0_off130 v75 v107 k0_t11 k0_t12) a + S1x1x16.size a ≤ S2x160x256.size a) ∧
  (∀ (k0_t11 : Fin (k0_t11_loop v75 v107).trips) (k0_t12 : Fin (k0_t12_loop v75 v107 k0_t11).trips), ∀ a, (k0_off131 v75 v107 k0_t11 k0_t12) a + S1x1x16.size a ≤ S2x160x256.size a) ∧
  (∀ (k0_t11 : Fin (k0_t11_loop v75 v107).trips) (k0_t12 : Fin (k0_t12_loop v75 v107 k0_t11).trips), ∀ a, (k0_off132 v75 v107 k0_t11 k0_t12) a + S1x1x16.size a ≤ S2x160x256.size a)
def k0_chk2_2 (v75 : BitVec 32) (v107 : BitVec 32) : Prop :=
  (∀ (k0_t11 : Fin (k0_t11_loop v75 v107).trips) (k0_t12 : Fin (k0_t12_loop v75 v107 k0_t11).trips), ∀ a, (k0_off133 v75 v107 k0_t11 k0_t12) a + S1x1x16.size a ≤ S2x160x256.size a) ∧
  (∀ (k0_t11 : Fin (k0_t11_loop v75 v107).trips) (k0_t12 : Fin (k0_t12_loop v75 v107 k0_t11).trips), ∀ a, (k0_off134 v75 v107 k0_t11 k0_t12) a + S1x1x16.size a ≤ S2x160x256.size a) ∧
  (∀ (k0_t11 : Fin (k0_t11_loop v75 v107).trips) (k0_t12 : Fin (k0_t12_loop v75 v107 k0_t11).trips), ∀ a, (k0_off135 v75 v107 k0_t11 k0_t12) a + S1x1x16.size a ≤ S2x160x256.size a) ∧
  (∀ (k0_t11 : Fin (k0_t11_loop v75 v107).trips) (k0_t12 : Fin (k0_t12_loop v75 v107 k0_t11).trips), ∀ a, (k0_off136 v75 v107 k0_t11 k0_t12) a + S1x1x16.size a ≤ S2x160x256.size a) ∧
  (∀ (k0_t11 : Fin (k0_t11_loop v75 v107).trips) (k0_t12 : Fin (k0_t12_loop v75 v107 k0_t11).trips), ∀ a, (k0_off137 v75 v107 k0_t11 k0_t12) a + S1x1x16.size a ≤ S2x160x256.size a) ∧
  (∀ (k0_t11 : Fin (k0_t11_loop v75 v107).trips) (k0_t12 : Fin (k0_t12_loop v75 v107 k0_t11).trips), ∀ a, (k0_off138 v75 v107 k0_t11 k0_t12) a + S1x1x16.size a ≤ S2x160x256.size a) ∧
  (∀ (k0_t11 : Fin (k0_t11_loop v75 v107).trips) (k0_t12 : Fin (k0_t12_loop v75 v107 k0_t11).trips), ∀ a, (k0_off139 v75 v107 k0_t11 k0_t12) a + S1x1x16.size a ≤ S2x160x256.size a) ∧
  (∀ k0_t11 : Fin (k0_t11_loop v75 v107).trips, (k0_t13_loop v75 v107 k0_t11).OK) ∧
  (∀ (k0_t11 : Fin (k0_t11_loop v75 v107).trips) (k0_t13 : Fin (k0_t13_loop v75 v107 k0_t11).trips), ∀ a, (k0_off140 v75 v107 k0_t11 k0_t13) a + S1x1x16.size a ≤ S2x160x256.size a) ∧
  (∀ (k0_t11 : Fin (k0_t11_loop v75 v107).trips) (k0_t13 : Fin (k0_t13_loop v75 v107 k0_t11).trips), ∀ a, (k0_off141 v75 v107 k0_t11 k0_t13) a + S1x1x16.size a ≤ S2x160x256.size a) ∧
  (∀ (k0_t11 : Fin (k0_t11_loop v75 v107).trips) (k0_t13 : Fin (k0_t13_loop v75 v107 k0_t11).trips), ∀ a, (k0_off142 v75 v107 k0_t11 k0_t13) a + S1x1x16.size a ≤ S2x160x256.size a) ∧
  (∀ (k0_t11 : Fin (k0_t11_loop v75 v107).trips) (k0_t13 : Fin (k0_t13_loop v75 v107 k0_t11).trips), ∀ a, (k0_off143 v75 v107 k0_t11 k0_t13) a + S1x1x16.size a ≤ S2x160x256.size a) ∧
  (∀ (k0_t11 : Fin (k0_t11_loop v75 v107).trips) (k0_t13 : Fin (k0_t13_loop v75 v107 k0_t11).trips), ∀ a, (k0_off144 v75 v107 k0_t11 k0_t13) a + S1x1x16.size a ≤ S2x160x256.size a) ∧
  (∀ (k0_t11 : Fin (k0_t11_loop v75 v107).trips) (k0_t13 : Fin (k0_t13_loop v75 v107 k0_t11).trips), ∀ a, (k0_off145 v75 v107 k0_t11 k0_t13) a + S1x1x16.size a ≤ S2x160x256.size a) ∧
  (∀ (k0_t11 : Fin (k0_t11_loop v75 v107).trips) (k0_t13 : Fin (k0_t13_loop v75 v107 k0_t11).trips), ∀ a, (k0_off146 v75 v107 k0_t11 k0_t13) a + S1x1x16.size a ≤ S2x160x256.size a) ∧
  (∀ (k0_t11 : Fin (k0_t11_loop v75 v107).trips) (k0_t13 : Fin (k0_t13_loop v75 v107 k0_t11).trips), ∀ a, (k0_off147 v75 v107 k0_t11 k0_t13) a + S1x1x16.size a ≤ S2x160x256.size a) ∧
  (∀ (k0_t11 : Fin (k0_t11_loop v75 v107).trips) (k0_t13 : Fin (k0_t13_loop v75 v107 k0_t11).trips), ∀ a, (k0_off148 v75 v107 k0_t11 k0_t13) a + S1x1x16.size a ≤ S2x160x256.size a) ∧
  (∀ (k0_t11 : Fin (k0_t11_loop v75 v107).trips) (k0_t13 : Fin (k0_t13_loop v75 v107 k0_t11).trips), ∀ a, (k0_off149 v75 v107 k0_t11 k0_t13) a + S1x1x16.size a ≤ S2x160x256.size a) ∧
  (∀ (k0_t11 : Fin (k0_t11_loop v75 v107).trips) (k0_t13 : Fin (k0_t13_loop v75 v107 k0_t11).trips), ∀ a, (k0_off150 v75 v107 k0_t11 k0_t13) a + S1x1x16.size a ≤ S2x160x256.size a) ∧
  (∀ (k0_t11 : Fin (k0_t11_loop v75 v107).trips) (k0_t13 : Fin (k0_t13_loop v75 v107 k0_t11).trips), ∀ a, (k0_off151 v75 v107 k0_t11 k0_t13) a + S1x1x16.size a ≤ S2x160x256.size a) ∧
  (∀ (k0_t11 : Fin (k0_t11_loop v75 v107).trips) (k0_t13 : Fin (k0_t13_loop v75 v107 k0_t11).trips), ∀ a, (k0_off152 v75 v107 k0_t11 k0_t13) a + S1x1x16.size a ≤ S2x160x256.size a) ∧
  (∀ (k0_t11 : Fin (k0_t11_loop v75 v107).trips) (k0_t13 : Fin (k0_t13_loop v75 v107 k0_t11).trips), ∀ a, (k0_off153 v75 v107 k0_t11 k0_t13) a + S1x1x16.size a ≤ S2x160x256.size a) ∧
  (∀ (k0_t11 : Fin (k0_t11_loop v75 v107).trips) (k0_t13 : Fin (k0_t13_loop v75 v107 k0_t11).trips), ∀ a, (k0_off154 v75 v107 k0_t11 k0_t13) a + S1x1x16.size a ≤ S2x160x256.size a) ∧
  (∀ (k0_t11 : Fin (k0_t11_loop v75 v107).trips) (k0_t13 : Fin (k0_t13_loop v75 v107 k0_t11).trips), ∀ a, (k0_off155 v75 v107 k0_t11 k0_t13) a + S1x1x16.size a ≤ S2x160x256.size a)
def k0_chk2 (v75 : BitVec 32) (v107 : BitVec 32) : Prop :=
  k0_chk2_0 v75 v107 ∧
  k0_chk2_1 v75 v107 ∧
  k0_chk2_2 v75 v107
theorem k0_mult6_dvd : ∀ (v75 : BitVec 32) (v107 : BitVec 32) (k0_hw2 : k0_chk2 v75 v107), ∀ (k0_h4 : k0_cond4 v75 v107 = 1#1), 8 ∣ (k0_mult6 v75).toNat := fun v75 v107 k0_hw2 k0_h4 => k0_hw2.1.1 k0_h4
theorem k0_off79_inb : ∀ (v75 : BitVec 32) (v107 : BitVec 32) (k0_hw2 : k0_chk2 v75 v107), ∀ (k0_h4 : k0_cond4 v75 v107 = 1#1), ∀ a, (k0_off79 v75) a + S160x256.size a ≤ S10000x256.size a := fun v75 v107 k0_hw2 k0_h4 => k0_hw2.1.2.1 k0_h4
theorem k0_t8_ok : ∀ (v75 : BitVec 32) (v107 : BitVec 32) (k0_hw2 : k0_chk2 v75 v107), (k0_t8_loop v75 v107).OK := fun v75 v107 k0_hw2 => k0_hw2.1.2.2.1
theorem k0_mult7_dvd : ∀ (v75 : BitVec 32) (v107 : BitVec 32) (k0_hw2 : k0_chk2 v75 v107) (k0_t8 : Fin (k0_t8_loop v75 v107).trips), 8 ∣ (k0_mult7 v75 v107 k0_t8).toNat := fun v75 v107 k0_hw2 k0_t8 => k0_hw2.1.2.2.2.1 k0_t8
theorem k0_off80_inb : ∀ (v75 : BitVec 32) (v107 : BitVec 32) (k0_hw2 : k0_chk2 v75 v107) (k0_t8 : Fin (k0_t8_loop v75 v107).trips), ∀ a, (k0_off80 v75 v107 k0_t8) a + S1x160x256.size a ≤ S2x160x256.size a := fun v75 v107 k0_hw2 k0_t8 => k0_hw2.1.2.2.2.2.1 k0_t8
theorem k0_off81_inb : ∀ (v75 : BitVec 32) (v107 : BitVec 32) (k0_hw2 : k0_chk2 v75 v107) (k0_t8 : Fin (k0_t8_loop v75 v107).trips), ∀ a, (k0_off81 v75 v107 k0_t8) a + S160x256.size a ≤ S10000x256.size a := fun v75 v107 k0_hw2 k0_t8 => k0_hw2.1.2.2.2.2.2.1 k0_t8
theorem k0_off82_inb : ∀ (v75 : BitVec 32) (v107 : BitVec 32) (k0_hw2 : k0_chk2 v75 v107) (k0_t8 : Fin (k0_t8_loop v75 v107).trips), ∀ a, (k0_off82 v75 v107 k0_t8) a + S1.size a ≤ S2.size a := fun v75 v107 k0_hw2 k0_t8 => k0_hw2.1.2.2.2.2.2.2.1 k0_t8
theorem k0_mult8_dvd : ∀ (v75 : BitVec 32) (v107 : BitVec 32) (k0_hw2 : k0_chk2 v75 v107) (k0_t8 : Fin (k0_t8_loop v75 v107).trips), ∀ (k0_h5 : k0_cond5 v75 v107 k0_t8 = 1#1), 8 ∣ (k0_mult8 v75 v107 k0_t8).toNat := fun v75 v107 k0_hw2 k0_t8 k0_h5 => k0_hw2.1.2.2.2.2.2.2.2.1 k0_t8 k0_h5
theorem k0_off83_inb : ∀ (v75 : BitVec 32) (v107 : BitVec 32) (k0_hw2 : k0_chk2 v75 v107) (k0_t8 : Fin (k0_t8_loop v75 v107).trips), ∀ (k0_h5 : k0_cond5 v75 v107 k0_t8 = 1#1), ∀ a, (k0_off83 v75 v107 k0_t8) a + S1x160x256.size a ≤ S2x160x256.size a := fun v75 v107 k0_hw2 k0_t8 k0_h5 => k0_hw2.1.2.2.2.2.2.2.2.2.1 k0_t8 k0_h5
theorem k0_off84_inb : ∀ (v75 : BitVec 32) (v107 : BitVec 32) (k0_hw2 : k0_chk2 v75 v107) (k0_t8 : Fin (k0_t8_loop v75 v107).trips), ∀ (k0_h5 : k0_cond5 v75 v107 k0_t8 = 1#1), ∀ a, (k0_off84 v75 v107 k0_t8) a + S160x256.size a ≤ S10000x256.size a := fun v75 v107 k0_hw2 k0_t8 k0_h5 => k0_hw2.1.2.2.2.2.2.2.2.2.2.1 k0_t8 k0_h5
theorem k0_off85_inb : ∀ (v75 : BitVec 32) (v107 : BitVec 32) (k0_hw2 : k0_chk2 v75 v107) (k0_t8 : Fin (k0_t8_loop v75 v107).trips), ∀ (k0_h5 : k0_cond5 v75 v107 k0_t8 = 1#1), ∀ a, (k0_off85 v75 v107 k0_t8) a + S1.size a ≤ S2.size a := fun v75 v107 k0_hw2 k0_t8 k0_h5 => k0_hw2.1.2.2.2.2.2.2.2.2.2.2.1 k0_t8 k0_h5
theorem k0_t9_ok : ∀ (v75 : BitVec 32) (v107 : BitVec 32) (k0_hw2 : k0_chk2 v75 v107) (k0_t8 : Fin (k0_t8_loop v75 v107).trips), (k0_t9_loop v75 v107 k0_t8).OK := fun v75 v107 k0_hw2 k0_t8 => k0_hw2.1.2.2.2.2.2.2.2.2.2.2.2.1 k0_t8
theorem k0_off86_inb : ∀ (v75 : BitVec 32) (v107 : BitVec 32) (k0_hw2 : k0_chk2 v75 v107) (k0_t8 : Fin (k0_t8_loop v75 v107).trips) (k0_t9 : Fin (k0_t9_loop v75 v107 k0_t8).trips), ∀ a, (k0_off86 v75 v107 k0_t8 k0_t9) a + S1x1x16.size a ≤ S2x160x256.size a := fun v75 v107 k0_hw2 k0_t8 k0_t9 => k0_hw2.1.2.2.2.2.2.2.2.2.2.2.2.2.1 k0_t8 k0_t9
theorem k0_off87_inb : ∀ (v75 : BitVec 32) (v107 : BitVec 32) (k0_hw2 : k0_chk2 v75 v107) (k0_t8 : Fin (k0_t8_loop v75 v107).trips) (k0_t9 : Fin (k0_t9_loop v75 v107 k0_t8).trips), ∀ a, (k0_off87 v75 v107 k0_t8 k0_t9) a + S1x1x16.size a ≤ S2x160x256.size a := fun v75 v107 k0_hw2 k0_t8 k0_t9 => k0_hw2.1.2.2.2.2.2.2.2.2.2.2.2.2.2.1 k0_t8 k0_t9
theorem k0_off88_inb : ∀ (v75 : BitVec 32) (v107 : BitVec 32) (k0_hw2 : k0_chk2 v75 v107) (k0_t8 : Fin (k0_t8_loop v75 v107).trips) (k0_t9 : Fin (k0_t9_loop v75 v107 k0_t8).trips), ∀ a, (k0_off88 v75 v107 k0_t8 k0_t9) a + S1x1x16.size a ≤ S2x160x256.size a := fun v75 v107 k0_hw2 k0_t8 k0_t9 => k0_hw2.1.2.2.2.2.2.2.2.2.2.2.2.2.2.2.1 k0_t8 k0_t9
theorem k0_off89_inb : ∀ (v75 : BitVec 32) (v107 : BitVec 32) (k0_hw2 : k0_chk2 v75 v107) (k0_t8 : Fin (k0_t8_loop v75 v107).trips) (k0_t9 : Fin (k0_t9_loop v75 v107 k0_t8).trips), ∀ a, (k0_off89 v75 v107 k0_t8 k0_t9) a + S1x1x16.size a ≤ S2x160x256.size a := fun v75 v107 k0_hw2 k0_t8 k0_t9 => k0_hw2.1.2.2.2.2.2.2.2.2.2.2.2.2.2.2.2.1 k0_t8 k0_t9
theorem k0_off90_inb : ∀ (v75 : BitVec 32) (v107 : BitVec 32) (k0_hw2 : k0_chk2 v75 v107) (k0_t8 : Fin (k0_t8_loop v75 v107).trips) (k0_t9 : Fin (k0_t9_loop v75 v107 k0_t8).trips), ∀ a, (k0_off90 v75 v107 k0_t8 k0_t9) a + S1x1x16.size a ≤ S2x160x256.size a := fun v75 v107 k0_hw2 k0_t8 k0_t9 => k0_hw2.1.2.2.2.2.2.2.2.2.2.2.2.2.2.2.2.2.1 k0_t8 k0_t9
theorem k0_off91_inb : ∀ (v75 : BitVec 32) (v107 : BitVec 32) (k0_hw2 : k0_chk2 v75 v107) (k0_t8 : Fin (k0_t8_loop v75 v107).trips) (k0_t9 : Fin (k0_t9_loop v75 v107 k0_t8).trips), ∀ a, (k0_off91 v75 v107 k0_t8 k0_t9) a + S1x1x16.size a ≤ S2x160x256.size a := fun v75 v107 k0_hw2 k0_t8 k0_t9 => k0_hw2.1.2.2.2.2.2.2.2.2.2.2.2.2.2.2.2.2.2.1 k0_t8 k0_t9
theorem k0_off92_inb : ∀ (v75 : BitVec 32) (v107 : BitVec 32) (k0_hw2 : k0_chk2 v75 v107) (k0_t8 : Fin (k0_t8_loop v75 v107).trips) (k0_t9 : Fin (k0_t9_loop v75 v107 k0_t8).trips), ∀ a, (k0_off92 v75 v107 k0_t8 k0_t9) a + S1x1x16.size a ≤ S2x160x256.size a := fun v75 v107 k0_hw2 k0_t8 k0_t9 => k0_hw2.1.2.2.2.2.2.2.2.2.2.2.2.2.2.2.2.2.2.2.1 k0_t8 k0_t9
theorem k0_off93_inb : ∀ (v75 : BitVec 32) (v107 : BitVec 32) (k0_hw2 : k0_chk2 v75 v107) (k0_t8 : Fin (k0_t8_loop v75 v107).trips) (k0_t9 : Fin (k0_t9_loop v75 v107 k0_t8).trips), ∀ a, (k0_off93 v75 v107 k0_t8 k0_t9) a + S1x1x16.size a ≤ S2x160x256.size a := fun v75 v107 k0_hw2 k0_t8 k0_t9 => k0_hw2.1.2.2.2.2.2.2.2.2.2.2.2.2.2.2.2.2.2.2.2.1 k0_t8 k0_t9
theorem k0_off94_inb : ∀ (v75 : BitVec 32) (v107 : BitVec 32) (k0_hw2 : k0_chk2 v75 v107) (k0_t8 : Fin (k0_t8_loop v75 v107).trips) (k0_t9 : Fin (k0_t9_loop v75 v107 k0_t8).trips), ∀ a, (k0_off94 v75 v107 k0_t8 k0_t9) a + S1x1x16.size a ≤ S2x160x256.size a := fun v75 v107 k0_hw2 k0_t8 k0_t9 => k0_hw2.1.2.2.2.2.2.2.2.2.2.2.2.2.2.2.2.2.2.2.2.2.1 k0_t8 k0_t9
theorem k0_off95_inb : ∀ (v75 : BitVec 32) (v107 : BitVec 32) (k0_hw2 : k0_chk2 v75 v107) (k0_t8 : Fin (k0_t8_loop v75 v107).trips) (k0_t9 : Fin (k0_t9_loop v75 v107 k0_t8).trips), ∀ a, (k0_off95 v75 v107 k0_t8 k0_t9) a + S1x1x16.size a ≤ S2x160x256.size a := fun v75 v107 k0_hw2 k0_t8 k0_t9 => k0_hw2.1.2.2.2.2.2.2.2.2.2.2.2.2.2.2.2.2.2.2.2.2.2.1 k0_t8 k0_t9
theorem k0_off96_inb : ∀ (v75 : BitVec 32) (v107 : BitVec 32) (k0_hw2 : k0_chk2 v75 v107) (k0_t8 : Fin (k0_t8_loop v75 v107).trips) (k0_t9 : Fin (k0_t9_loop v75 v107 k0_t8).trips), ∀ a, (k0_off96 v75 v107 k0_t8 k0_t9) a + S1x1x16.size a ≤ S2x160x256.size a := fun v75 v107 k0_hw2 k0_t8 k0_t9 => k0_hw2.1.2.2.2.2.2.2.2.2.2.2.2.2.2.2.2.2.2.2.2.2.2.2.1 k0_t8 k0_t9
theorem k0_off97_inb : ∀ (v75 : BitVec 32) (v107 : BitVec 32) (k0_hw2 : k0_chk2 v75 v107) (k0_t8 : Fin (k0_t8_loop v75 v107).trips) (k0_t9 : Fin (k0_t9_loop v75 v107 k0_t8).trips), ∀ a, (k0_off97 v75 v107 k0_t8 k0_t9) a + S1x1x16.size a ≤ S2x160x256.size a := fun v75 v107 k0_hw2 k0_t8 k0_t9 => k0_hw2.1.2.2.2.2.2.2.2.2.2.2.2.2.2.2.2.2.2.2.2.2.2.2.2.1 k0_t8 k0_t9
theorem k0_off98_inb : ∀ (v75 : BitVec 32) (v107 : BitVec 32) (k0_hw2 : k0_chk2 v75 v107) (k0_t8 : Fin (k0_t8_loop v75 v107).trips) (k0_t9 : Fin (k0_t9_loop v75 v107 k0_t8).trips), ∀ a, (k0_off98 v75 v107 k0_t8 k0_t9) a + S1x1x16.size a ≤ S2x160x256.size a := fun v75 v107 k0_hw2 k0_t8 k0_t9 => k0_hw2.1.2.2.2.2.2.2.2.2.2.2.2.2.2.2.2.2.2.2.2.2.2.2.2.2.1 k0_t8 k0_t9
theorem k0_off99_inb : ∀ (v75 : BitVec 32) (v107 : BitVec 32) (k0_hw2 : k0_chk2 v75 v107) (k0_t8 : Fin (k0_t8_loop v75 v107).trips) (k0_t9 : Fin (k0_t9_loop v75 v107 k0_t8).trips), ∀ a, (k0_off99 v75 v107 k0_t8 k0_t9) a + S1x1x16.size a ≤ S2x160x256.size a := fun v75 v107 k0_hw2 k0_t8 k0_t9 => k0_hw2.1.2.2.2.2.2.2.2.2.2.2.2.2.2.2.2.2.2.2.2.2.2.2.2.2.2.1 k0_t8 k0_t9
theorem k0_off100_inb : ∀ (v75 : BitVec 32) (v107 : BitVec 32) (k0_hw2 : k0_chk2 v75 v107) (k0_t8 : Fin (k0_t8_loop v75 v107).trips) (k0_t9 : Fin (k0_t9_loop v75 v107 k0_t8).trips), ∀ a, (k0_off100 v75 v107 k0_t8 k0_t9) a + S1x1x16.size a ≤ S2x160x256.size a := fun v75 v107 k0_hw2 k0_t8 k0_t9 => k0_hw2.1.2.2.2.2.2.2.2.2.2.2.2.2.2.2.2.2.2.2.2.2.2.2.2.2.2.2.1 k0_t8 k0_t9
theorem k0_off101_inb : ∀ (v75 : BitVec 32) (v107 : BitVec 32) (k0_hw2 : k0_chk2 v75 v107) (k0_t8 : Fin (k0_t8_loop v75 v107).trips) (k0_t9 : Fin (k0_t9_loop v75 v107 k0_t8).trips), ∀ a, (k0_off101 v75 v107 k0_t8 k0_t9) a + S1x1x16.size a ≤ S2x160x256.size a := fun v75 v107 k0_hw2 k0_t8 k0_t9 => k0_hw2.1.2.2.2.2.2.2.2.2.2.2.2.2.2.2.2.2.2.2.2.2.2.2.2.2.2.2.2.1 k0_t8 k0_t9
theorem k0_t10_ok : ∀ (v75 : BitVec 32) (v107 : BitVec 32) (k0_hw2 : k0_chk2 v75 v107) (k0_t8 : Fin (k0_t8_loop v75 v107).trips), (k0_t10_loop v75 v107 k0_t8).OK := fun v75 v107 k0_hw2 k0_t8 => k0_hw2.1.2.2.2.2.2.2.2.2.2.2.2.2.2.2.2.2.2.2.2.2.2.2.2.2.2.2.2.2.1 k0_t8
theorem k0_off102_inb : ∀ (v75 : BitVec 32) (v107 : BitVec 32) (k0_hw2 : k0_chk2 v75 v107) (k0_t8 : Fin (k0_t8_loop v75 v107).trips) (k0_t10 : Fin (k0_t10_loop v75 v107 k0_t8).trips), ∀ a, (k0_off102 v75 v107 k0_t8 k0_t10) a + S1x1x16.size a ≤ S2x160x256.size a := fun v75 v107 k0_hw2 k0_t8 k0_t10 => k0_hw2.1.2.2.2.2.2.2.2.2.2.2.2.2.2.2.2.2.2.2.2.2.2.2.2.2.2.2.2.2.2.1 k0_t8 k0_t10
theorem k0_off103_inb : ∀ (v75 : BitVec 32) (v107 : BitVec 32) (k0_hw2 : k0_chk2 v75 v107) (k0_t8 : Fin (k0_t8_loop v75 v107).trips) (k0_t10 : Fin (k0_t10_loop v75 v107 k0_t8).trips), ∀ a, (k0_off103 v75 v107 k0_t8 k0_t10) a + S1x1x16.size a ≤ S2x160x256.size a := fun v75 v107 k0_hw2 k0_t8 k0_t10 => k0_hw2.1.2.2.2.2.2.2.2.2.2.2.2.2.2.2.2.2.2.2.2.2.2.2.2.2.2.2.2.2.2.2.1 k0_t8 k0_t10
theorem k0_off104_inb : ∀ (v75 : BitVec 32) (v107 : BitVec 32) (k0_hw2 : k0_chk2 v75 v107) (k0_t8 : Fin (k0_t8_loop v75 v107).trips) (k0_t10 : Fin (k0_t10_loop v75 v107 k0_t8).trips), ∀ a, (k0_off104 v75 v107 k0_t8 k0_t10) a + S1x1x16.size a ≤ S2x160x256.size a := fun v75 v107 k0_hw2 k0_t8 k0_t10 => k0_hw2.1.2.2.2.2.2.2.2.2.2.2.2.2.2.2.2.2.2.2.2.2.2.2.2.2.2.2.2.2.2.2.2 k0_t8 k0_t10
theorem k0_off105_inb : ∀ (v75 : BitVec 32) (v107 : BitVec 32) (k0_hw2 : k0_chk2 v75 v107) (k0_t8 : Fin (k0_t8_loop v75 v107).trips) (k0_t10 : Fin (k0_t10_loop v75 v107 k0_t8).trips), ∀ a, (k0_off105 v75 v107 k0_t8 k0_t10) a + S1x1x16.size a ≤ S2x160x256.size a := fun v75 v107 k0_hw2 k0_t8 k0_t10 => k0_hw2.2.1.1 k0_t8 k0_t10
theorem k0_off106_inb : ∀ (v75 : BitVec 32) (v107 : BitVec 32) (k0_hw2 : k0_chk2 v75 v107) (k0_t8 : Fin (k0_t8_loop v75 v107).trips) (k0_t10 : Fin (k0_t10_loop v75 v107 k0_t8).trips), ∀ a, (k0_off106 v75 v107 k0_t8 k0_t10) a + S1x1x16.size a ≤ S2x160x256.size a := fun v75 v107 k0_hw2 k0_t8 k0_t10 => k0_hw2.2.1.2.1 k0_t8 k0_t10
theorem k0_off107_inb : ∀ (v75 : BitVec 32) (v107 : BitVec 32) (k0_hw2 : k0_chk2 v75 v107) (k0_t8 : Fin (k0_t8_loop v75 v107).trips) (k0_t10 : Fin (k0_t10_loop v75 v107 k0_t8).trips), ∀ a, (k0_off107 v75 v107 k0_t8 k0_t10) a + S1x1x16.size a ≤ S2x160x256.size a := fun v75 v107 k0_hw2 k0_t8 k0_t10 => k0_hw2.2.1.2.2.1 k0_t8 k0_t10
theorem k0_off108_inb : ∀ (v75 : BitVec 32) (v107 : BitVec 32) (k0_hw2 : k0_chk2 v75 v107) (k0_t8 : Fin (k0_t8_loop v75 v107).trips) (k0_t10 : Fin (k0_t10_loop v75 v107 k0_t8).trips), ∀ a, (k0_off108 v75 v107 k0_t8 k0_t10) a + S1x1x16.size a ≤ S2x160x256.size a := fun v75 v107 k0_hw2 k0_t8 k0_t10 => k0_hw2.2.1.2.2.2.1 k0_t8 k0_t10
theorem k0_off109_inb : ∀ (v75 : BitVec 32) (v107 : BitVec 32) (k0_hw2 : k0_chk2 v75 v107) (k0_t8 : Fin (k0_t8_loop v75 v107).trips) (k0_t10 : Fin (k0_t10_loop v75 v107 k0_t8).trips), ∀ a, (k0_off109 v75 v107 k0_t8 k0_t10) a + S1x1x16.size a ≤ S2x160x256.size a := fun v75 v107 k0_hw2 k0_t8 k0_t10 => k0_hw2.2.1.2.2.2.2.1 k0_t8 k0_t10
theorem k0_off110_inb : ∀ (v75 : BitVec 32) (v107 : BitVec 32) (k0_hw2 : k0_chk2 v75 v107) (k0_t8 : Fin (k0_t8_loop v75 v107).trips) (k0_t10 : Fin (k0_t10_loop v75 v107 k0_t8).trips), ∀ a, (k0_off110 v75 v107 k0_t8 k0_t10) a + S1x1x16.size a ≤ S2x160x256.size a := fun v75 v107 k0_hw2 k0_t8 k0_t10 => k0_hw2.2.1.2.2.2.2.2.1 k0_t8 k0_t10
theorem k0_off111_inb : ∀ (v75 : BitVec 32) (v107 : BitVec 32) (k0_hw2 : k0_chk2 v75 v107) (k0_t8 : Fin (k0_t8_loop v75 v107).trips) (k0_t10 : Fin (k0_t10_loop v75 v107 k0_t8).trips), ∀ a, (k0_off111 v75 v107 k0_t8 k0_t10) a + S1x1x16.size a ≤ S2x160x256.size a := fun v75 v107 k0_hw2 k0_t8 k0_t10 => k0_hw2.2.1.2.2.2.2.2.2.1 k0_t8 k0_t10
theorem k0_off112_inb : ∀ (v75 : BitVec 32) (v107 : BitVec 32) (k0_hw2 : k0_chk2 v75 v107) (k0_t8 : Fin (k0_t8_loop v75 v107).trips) (k0_t10 : Fin (k0_t10_loop v75 v107 k0_t8).trips), ∀ a, (k0_off112 v75 v107 k0_t8 k0_t10) a + S1x1x16.size a ≤ S2x160x256.size a := fun v75 v107 k0_hw2 k0_t8 k0_t10 => k0_hw2.2.1.2.2.2.2.2.2.2.1 k0_t8 k0_t10
theorem k0_off113_inb : ∀ (v75 : BitVec 32) (v107 : BitVec 32) (k0_hw2 : k0_chk2 v75 v107) (k0_t8 : Fin (k0_t8_loop v75 v107).trips) (k0_t10 : Fin (k0_t10_loop v75 v107 k0_t8).trips), ∀ a, (k0_off113 v75 v107 k0_t8 k0_t10) a + S1x1x16.size a ≤ S2x160x256.size a := fun v75 v107 k0_hw2 k0_t8 k0_t10 => k0_hw2.2.1.2.2.2.2.2.2.2.2.1 k0_t8 k0_t10
theorem k0_off114_inb : ∀ (v75 : BitVec 32) (v107 : BitVec 32) (k0_hw2 : k0_chk2 v75 v107) (k0_t8 : Fin (k0_t8_loop v75 v107).trips) (k0_t10 : Fin (k0_t10_loop v75 v107 k0_t8).trips), ∀ a, (k0_off114 v75 v107 k0_t8 k0_t10) a + S1x1x16.size a ≤ S2x160x256.size a := fun v75 v107 k0_hw2 k0_t8 k0_t10 => k0_hw2.2.1.2.2.2.2.2.2.2.2.2.1 k0_t8 k0_t10
theorem k0_off115_inb : ∀ (v75 : BitVec 32) (v107 : BitVec 32) (k0_hw2 : k0_chk2 v75 v107) (k0_t8 : Fin (k0_t8_loop v75 v107).trips) (k0_t10 : Fin (k0_t10_loop v75 v107 k0_t8).trips), ∀ a, (k0_off115 v75 v107 k0_t8 k0_t10) a + S1x1x16.size a ≤ S2x160x256.size a := fun v75 v107 k0_hw2 k0_t8 k0_t10 => k0_hw2.2.1.2.2.2.2.2.2.2.2.2.2.1 k0_t8 k0_t10
theorem k0_off116_inb : ∀ (v75 : BitVec 32) (v107 : BitVec 32) (k0_hw2 : k0_chk2 v75 v107) (k0_t8 : Fin (k0_t8_loop v75 v107).trips) (k0_t10 : Fin (k0_t10_loop v75 v107 k0_t8).trips), ∀ a, (k0_off116 v75 v107 k0_t8 k0_t10) a + S1x1x16.size a ≤ S2x160x256.size a := fun v75 v107 k0_hw2 k0_t8 k0_t10 => k0_hw2.2.1.2.2.2.2.2.2.2.2.2.2.2.1 k0_t8 k0_t10
theorem k0_off117_inb : ∀ (v75 : BitVec 32) (v107 : BitVec 32) (k0_hw2 : k0_chk2 v75 v107) (k0_t8 : Fin (k0_t8_loop v75 v107).trips) (k0_t10 : Fin (k0_t10_loop v75 v107 k0_t8).trips), ∀ a, (k0_off117 v75 v107 k0_t8 k0_t10) a + S1x1x16.size a ≤ S2x160x256.size a := fun v75 v107 k0_hw2 k0_t8 k0_t10 => k0_hw2.2.1.2.2.2.2.2.2.2.2.2.2.2.2.1 k0_t8 k0_t10
theorem k0_t11_ok : ∀ (v75 : BitVec 32) (v107 : BitVec 32) (k0_hw2 : k0_chk2 v75 v107), (k0_t11_loop v75 v107).OK := fun v75 v107 k0_hw2 => k0_hw2.2.1.2.2.2.2.2.2.2.2.2.2.2.2.2.1
theorem k0_mult9_dvd : ∀ (v75 : BitVec 32) (v107 : BitVec 32) (k0_hw2 : k0_chk2 v75 v107) (k0_t11 : Fin (k0_t11_loop v75 v107).trips), 8 ∣ (k0_mult9 v75 v107 k0_t11).toNat := fun v75 v107 k0_hw2 k0_t11 => k0_hw2.2.1.2.2.2.2.2.2.2.2.2.2.2.2.2.2.1 k0_t11
theorem k0_off118_inb : ∀ (v75 : BitVec 32) (v107 : BitVec 32) (k0_hw2 : k0_chk2 v75 v107) (k0_t11 : Fin (k0_t11_loop v75 v107).trips), ∀ a, (k0_off118 v75 v107 k0_t11) a + S1x160x256.size a ≤ S2x160x256.size a := fun v75 v107 k0_hw2 k0_t11 => k0_hw2.2.1.2.2.2.2.2.2.2.2.2.2.2.2.2.2.2.1 k0_t11
theorem k0_off119_inb : ∀ (v75 : BitVec 32) (v107 : BitVec 32) (k0_hw2 : k0_chk2 v75 v107) (k0_t11 : Fin (k0_t11_loop v75 v107).trips), ∀ a, (k0_off119 v75 v107 k0_t11) a + S160x256.size a ≤ S10000x256.size a := fun v75 v107 k0_hw2 k0_t11 => k0_hw2.2.1.2.2.2.2.2.2.2.2.2.2.2.2.2.2.2.2.1 k0_t11
theorem k0_off120_inb : ∀ (v75 : BitVec 32) (v107 : BitVec 32) (k0_hw2 : k0_chk2 v75 v107) (k0_t11 : Fin (k0_t11_loop v75 v107).trips), ∀ a, (k0_off120 v75 v107 k0_t11) a + S1.size a ≤ S2.size a := fun v75 v107 k0_hw2 k0_t11 => k0_hw2.2.1.2.2.2.2.2.2.2.2.2.2.2.2.2.2.2.2.2.1 k0_t11
theorem k0_mult10_dvd : ∀ (v75 : BitVec 32) (v107 : BitVec 32) (k0_hw2 : k0_chk2 v75 v107) (k0_t11 : Fin (k0_t11_loop v75 v107).trips), ∀ (k0_h6 : k0_cond6 v75 v107 k0_t11 = 1#1), 8 ∣ (k0_mult10 v75 v107 k0_t11).toNat := fun v75 v107 k0_hw2 k0_t11 k0_h6 => k0_hw2.2.1.2.2.2.2.2.2.2.2.2.2.2.2.2.2.2.2.2.2.1 k0_t11 k0_h6
theorem k0_off121_inb : ∀ (v75 : BitVec 32) (v107 : BitVec 32) (k0_hw2 : k0_chk2 v75 v107) (k0_t11 : Fin (k0_t11_loop v75 v107).trips), ∀ (k0_h6 : k0_cond6 v75 v107 k0_t11 = 1#1), ∀ a, (k0_off121 v75 v107 k0_t11) a + S1x160x256.size a ≤ S2x160x256.size a := fun v75 v107 k0_hw2 k0_t11 k0_h6 => k0_hw2.2.1.2.2.2.2.2.2.2.2.2.2.2.2.2.2.2.2.2.2.2.1 k0_t11 k0_h6
theorem k0_off122_inb : ∀ (v75 : BitVec 32) (v107 : BitVec 32) (k0_hw2 : k0_chk2 v75 v107) (k0_t11 : Fin (k0_t11_loop v75 v107).trips), ∀ (k0_h6 : k0_cond6 v75 v107 k0_t11 = 1#1), ∀ a, (k0_off122 v75 v107 k0_t11) a + S160x256.size a ≤ S10000x256.size a := fun v75 v107 k0_hw2 k0_t11 k0_h6 => k0_hw2.2.1.2.2.2.2.2.2.2.2.2.2.2.2.2.2.2.2.2.2.2.2.1 k0_t11 k0_h6
theorem k0_off123_inb : ∀ (v75 : BitVec 32) (v107 : BitVec 32) (k0_hw2 : k0_chk2 v75 v107) (k0_t11 : Fin (k0_t11_loop v75 v107).trips), ∀ (k0_h6 : k0_cond6 v75 v107 k0_t11 = 1#1), ∀ a, (k0_off123 v75 v107 k0_t11) a + S1.size a ≤ S2.size a := fun v75 v107 k0_hw2 k0_t11 k0_h6 => k0_hw2.2.1.2.2.2.2.2.2.2.2.2.2.2.2.2.2.2.2.2.2.2.2.2.1 k0_t11 k0_h6
theorem k0_t12_ok : ∀ (v75 : BitVec 32) (v107 : BitVec 32) (k0_hw2 : k0_chk2 v75 v107) (k0_t11 : Fin (k0_t11_loop v75 v107).trips), (k0_t12_loop v75 v107 k0_t11).OK := fun v75 v107 k0_hw2 k0_t11 => k0_hw2.2.1.2.2.2.2.2.2.2.2.2.2.2.2.2.2.2.2.2.2.2.2.2.2.1 k0_t11
theorem k0_off124_inb : ∀ (v75 : BitVec 32) (v107 : BitVec 32) (k0_hw2 : k0_chk2 v75 v107) (k0_t11 : Fin (k0_t11_loop v75 v107).trips) (k0_t12 : Fin (k0_t12_loop v75 v107 k0_t11).trips), ∀ a, (k0_off124 v75 v107 k0_t11 k0_t12) a + S1x1x16.size a ≤ S2x160x256.size a := fun v75 v107 k0_hw2 k0_t11 k0_t12 => k0_hw2.2.1.2.2.2.2.2.2.2.2.2.2.2.2.2.2.2.2.2.2.2.2.2.2.2.1 k0_t11 k0_t12
theorem k0_off125_inb : ∀ (v75 : BitVec 32) (v107 : BitVec 32) (k0_hw2 : k0_chk2 v75 v107) (k0_t11 : Fin (k0_t11_loop v75 v107).trips) (k0_t12 : Fin (k0_t12_loop v75 v107 k0_t11).trips), ∀ a, (k0_off125 v75 v107 k0_t11 k0_t12) a + S1x1x16.size a ≤ S2x160x256.size a := fun v75 v107 k0_hw2 k0_t11 k0_t12 => k0_hw2.2.1.2.2.2.2.2.2.2.2.2.2.2.2.2.2.2.2.2.2.2.2.2.2.2.2.1 k0_t11 k0_t12
theorem k0_off126_inb : ∀ (v75 : BitVec 32) (v107 : BitVec 32) (k0_hw2 : k0_chk2 v75 v107) (k0_t11 : Fin (k0_t11_loop v75 v107).trips) (k0_t12 : Fin (k0_t12_loop v75 v107 k0_t11).trips), ∀ a, (k0_off126 v75 v107 k0_t11 k0_t12) a + S1x1x16.size a ≤ S2x160x256.size a := fun v75 v107 k0_hw2 k0_t11 k0_t12 => k0_hw2.2.1.2.2.2.2.2.2.2.2.2.2.2.2.2.2.2.2.2.2.2.2.2.2.2.2.2.1 k0_t11 k0_t12
theorem k0_off127_inb : ∀ (v75 : BitVec 32) (v107 : BitVec 32) (k0_hw2 : k0_chk2 v75 v107) (k0_t11 : Fin (k0_t11_loop v75 v107).trips) (k0_t12 : Fin (k0_t12_loop v75 v107 k0_t11).trips), ∀ a, (k0_off127 v75 v107 k0_t11 k0_t12) a + S1x1x16.size a ≤ S2x160x256.size a := fun v75 v107 k0_hw2 k0_t11 k0_t12 => k0_hw2.2.1.2.2.2.2.2.2.2.2.2.2.2.2.2.2.2.2.2.2.2.2.2.2.2.2.2.2.1 k0_t11 k0_t12
theorem k0_off128_inb : ∀ (v75 : BitVec 32) (v107 : BitVec 32) (k0_hw2 : k0_chk2 v75 v107) (k0_t11 : Fin (k0_t11_loop v75 v107).trips) (k0_t12 : Fin (k0_t12_loop v75 v107 k0_t11).trips), ∀ a, (k0_off128 v75 v107 k0_t11 k0_t12) a + S1x1x16.size a ≤ S2x160x256.size a := fun v75 v107 k0_hw2 k0_t11 k0_t12 => k0_hw2.2.1.2.2.2.2.2.2.2.2.2.2.2.2.2.2.2.2.2.2.2.2.2.2.2.2.2.2.2.1 k0_t11 k0_t12
theorem k0_off129_inb : ∀ (v75 : BitVec 32) (v107 : BitVec 32) (k0_hw2 : k0_chk2 v75 v107) (k0_t11 : Fin (k0_t11_loop v75 v107).trips) (k0_t12 : Fin (k0_t12_loop v75 v107 k0_t11).trips), ∀ a, (k0_off129 v75 v107 k0_t11 k0_t12) a + S1x1x16.size a ≤ S2x160x256.size a := fun v75 v107 k0_hw2 k0_t11 k0_t12 => k0_hw2.2.1.2.2.2.2.2.2.2.2.2.2.2.2.2.2.2.2.2.2.2.2.2.2.2.2.2.2.2.2.1 k0_t11 k0_t12
theorem k0_off130_inb : ∀ (v75 : BitVec 32) (v107 : BitVec 32) (k0_hw2 : k0_chk2 v75 v107) (k0_t11 : Fin (k0_t11_loop v75 v107).trips) (k0_t12 : Fin (k0_t12_loop v75 v107 k0_t11).trips), ∀ a, (k0_off130 v75 v107 k0_t11 k0_t12) a + S1x1x16.size a ≤ S2x160x256.size a := fun v75 v107 k0_hw2 k0_t11 k0_t12 => k0_hw2.2.1.2.2.2.2.2.2.2.2.2.2.2.2.2.2.2.2.2.2.2.2.2.2.2.2.2.2.2.2.2.1 k0_t11 k0_t12
theorem k0_off131_inb : ∀ (v75 : BitVec 32) (v107 : BitVec 32) (k0_hw2 : k0_chk2 v75 v107) (k0_t11 : Fin (k0_t11_loop v75 v107).trips) (k0_t12 : Fin (k0_t12_loop v75 v107 k0_t11).trips), ∀ a, (k0_off131 v75 v107 k0_t11 k0_t12) a + S1x1x16.size a ≤ S2x160x256.size a := fun v75 v107 k0_hw2 k0_t11 k0_t12 => k0_hw2.2.1.2.2.2.2.2.2.2.2.2.2.2.2.2.2.2.2.2.2.2.2.2.2.2.2.2.2.2.2.2.2.1 k0_t11 k0_t12
theorem k0_off132_inb : ∀ (v75 : BitVec 32) (v107 : BitVec 32) (k0_hw2 : k0_chk2 v75 v107) (k0_t11 : Fin (k0_t11_loop v75 v107).trips) (k0_t12 : Fin (k0_t12_loop v75 v107 k0_t11).trips), ∀ a, (k0_off132 v75 v107 k0_t11 k0_t12) a + S1x1x16.size a ≤ S2x160x256.size a := fun v75 v107 k0_hw2 k0_t11 k0_t12 => k0_hw2.2.1.2.2.2.2.2.2.2.2.2.2.2.2.2.2.2.2.2.2.2.2.2.2.2.2.2.2.2.2.2.2.2 k0_t11 k0_t12
theorem k0_off133_inb : ∀ (v75 : BitVec 32) (v107 : BitVec 32) (k0_hw2 : k0_chk2 v75 v107) (k0_t11 : Fin (k0_t11_loop v75 v107).trips) (k0_t12 : Fin (k0_t12_loop v75 v107 k0_t11).trips), ∀ a, (k0_off133 v75 v107 k0_t11 k0_t12) a + S1x1x16.size a ≤ S2x160x256.size a := fun v75 v107 k0_hw2 k0_t11 k0_t12 => k0_hw2.2.2.1 k0_t11 k0_t12
theorem k0_off134_inb : ∀ (v75 : BitVec 32) (v107 : BitVec 32) (k0_hw2 : k0_chk2 v75 v107) (k0_t11 : Fin (k0_t11_loop v75 v107).trips) (k0_t12 : Fin (k0_t12_loop v75 v107 k0_t11).trips), ∀ a, (k0_off134 v75 v107 k0_t11 k0_t12) a + S1x1x16.size a ≤ S2x160x256.size a := fun v75 v107 k0_hw2 k0_t11 k0_t12 => k0_hw2.2.2.2.1 k0_t11 k0_t12
theorem k0_off135_inb : ∀ (v75 : BitVec 32) (v107 : BitVec 32) (k0_hw2 : k0_chk2 v75 v107) (k0_t11 : Fin (k0_t11_loop v75 v107).trips) (k0_t12 : Fin (k0_t12_loop v75 v107 k0_t11).trips), ∀ a, (k0_off135 v75 v107 k0_t11 k0_t12) a + S1x1x16.size a ≤ S2x160x256.size a := fun v75 v107 k0_hw2 k0_t11 k0_t12 => k0_hw2.2.2.2.2.1 k0_t11 k0_t12
theorem k0_off136_inb : ∀ (v75 : BitVec 32) (v107 : BitVec 32) (k0_hw2 : k0_chk2 v75 v107) (k0_t11 : Fin (k0_t11_loop v75 v107).trips) (k0_t12 : Fin (k0_t12_loop v75 v107 k0_t11).trips), ∀ a, (k0_off136 v75 v107 k0_t11 k0_t12) a + S1x1x16.size a ≤ S2x160x256.size a := fun v75 v107 k0_hw2 k0_t11 k0_t12 => k0_hw2.2.2.2.2.2.1 k0_t11 k0_t12
theorem k0_off137_inb : ∀ (v75 : BitVec 32) (v107 : BitVec 32) (k0_hw2 : k0_chk2 v75 v107) (k0_t11 : Fin (k0_t11_loop v75 v107).trips) (k0_t12 : Fin (k0_t12_loop v75 v107 k0_t11).trips), ∀ a, (k0_off137 v75 v107 k0_t11 k0_t12) a + S1x1x16.size a ≤ S2x160x256.size a := fun v75 v107 k0_hw2 k0_t11 k0_t12 => k0_hw2.2.2.2.2.2.2.1 k0_t11 k0_t12
theorem k0_off138_inb : ∀ (v75 : BitVec 32) (v107 : BitVec 32) (k0_hw2 : k0_chk2 v75 v107) (k0_t11 : Fin (k0_t11_loop v75 v107).trips) (k0_t12 : Fin (k0_t12_loop v75 v107 k0_t11).trips), ∀ a, (k0_off138 v75 v107 k0_t11 k0_t12) a + S1x1x16.size a ≤ S2x160x256.size a := fun v75 v107 k0_hw2 k0_t11 k0_t12 => k0_hw2.2.2.2.2.2.2.2.1 k0_t11 k0_t12
theorem k0_off139_inb : ∀ (v75 : BitVec 32) (v107 : BitVec 32) (k0_hw2 : k0_chk2 v75 v107) (k0_t11 : Fin (k0_t11_loop v75 v107).trips) (k0_t12 : Fin (k0_t12_loop v75 v107 k0_t11).trips), ∀ a, (k0_off139 v75 v107 k0_t11 k0_t12) a + S1x1x16.size a ≤ S2x160x256.size a := fun v75 v107 k0_hw2 k0_t11 k0_t12 => k0_hw2.2.2.2.2.2.2.2.2.1 k0_t11 k0_t12
theorem k0_t13_ok : ∀ (v75 : BitVec 32) (v107 : BitVec 32) (k0_hw2 : k0_chk2 v75 v107) (k0_t11 : Fin (k0_t11_loop v75 v107).trips), (k0_t13_loop v75 v107 k0_t11).OK := fun v75 v107 k0_hw2 k0_t11 => k0_hw2.2.2.2.2.2.2.2.2.2.1 k0_t11
theorem k0_off140_inb : ∀ (v75 : BitVec 32) (v107 : BitVec 32) (k0_hw2 : k0_chk2 v75 v107) (k0_t11 : Fin (k0_t11_loop v75 v107).trips) (k0_t13 : Fin (k0_t13_loop v75 v107 k0_t11).trips), ∀ a, (k0_off140 v75 v107 k0_t11 k0_t13) a + S1x1x16.size a ≤ S2x160x256.size a := fun v75 v107 k0_hw2 k0_t11 k0_t13 => k0_hw2.2.2.2.2.2.2.2.2.2.2.1 k0_t11 k0_t13
theorem k0_off141_inb : ∀ (v75 : BitVec 32) (v107 : BitVec 32) (k0_hw2 : k0_chk2 v75 v107) (k0_t11 : Fin (k0_t11_loop v75 v107).trips) (k0_t13 : Fin (k0_t13_loop v75 v107 k0_t11).trips), ∀ a, (k0_off141 v75 v107 k0_t11 k0_t13) a + S1x1x16.size a ≤ S2x160x256.size a := fun v75 v107 k0_hw2 k0_t11 k0_t13 => k0_hw2.2.2.2.2.2.2.2.2.2.2.2.1 k0_t11 k0_t13
theorem k0_off142_inb : ∀ (v75 : BitVec 32) (v107 : BitVec 32) (k0_hw2 : k0_chk2 v75 v107) (k0_t11 : Fin (k0_t11_loop v75 v107).trips) (k0_t13 : Fin (k0_t13_loop v75 v107 k0_t11).trips), ∀ a, (k0_off142 v75 v107 k0_t11 k0_t13) a + S1x1x16.size a ≤ S2x160x256.size a := fun v75 v107 k0_hw2 k0_t11 k0_t13 => k0_hw2.2.2.2.2.2.2.2.2.2.2.2.2.1 k0_t11 k0_t13
theorem k0_off143_inb : ∀ (v75 : BitVec 32) (v107 : BitVec 32) (k0_hw2 : k0_chk2 v75 v107) (k0_t11 : Fin (k0_t11_loop v75 v107).trips) (k0_t13 : Fin (k0_t13_loop v75 v107 k0_t11).trips), ∀ a, (k0_off143 v75 v107 k0_t11 k0_t13) a + S1x1x16.size a ≤ S2x160x256.size a := fun v75 v107 k0_hw2 k0_t11 k0_t13 => k0_hw2.2.2.2.2.2.2.2.2.2.2.2.2.2.1 k0_t11 k0_t13
theorem k0_off144_inb : ∀ (v75 : BitVec 32) (v107 : BitVec 32) (k0_hw2 : k0_chk2 v75 v107) (k0_t11 : Fin (k0_t11_loop v75 v107).trips) (k0_t13 : Fin (k0_t13_loop v75 v107 k0_t11).trips), ∀ a, (k0_off144 v75 v107 k0_t11 k0_t13) a + S1x1x16.size a ≤ S2x160x256.size a := fun v75 v107 k0_hw2 k0_t11 k0_t13 => k0_hw2.2.2.2.2.2.2.2.2.2.2.2.2.2.2.1 k0_t11 k0_t13
theorem k0_off145_inb : ∀ (v75 : BitVec 32) (v107 : BitVec 32) (k0_hw2 : k0_chk2 v75 v107) (k0_t11 : Fin (k0_t11_loop v75 v107).trips) (k0_t13 : Fin (k0_t13_loop v75 v107 k0_t11).trips), ∀ a, (k0_off145 v75 v107 k0_t11 k0_t13) a + S1x1x16.size a ≤ S2x160x256.size a := fun v75 v107 k0_hw2 k0_t11 k0_t13 => k0_hw2.2.2.2.2.2.2.2.2.2.2.2.2.2.2.2.1 k0_t11 k0_t13
theorem k0_off146_inb : ∀ (v75 : BitVec 32) (v107 : BitVec 32) (k0_hw2 : k0_chk2 v75 v107) (k0_t11 : Fin (k0_t11_loop v75 v107).trips) (k0_t13 : Fin (k0_t13_loop v75 v107 k0_t11).trips), ∀ a, (k0_off146 v75 v107 k0_t11 k0_t13) a + S1x1x16.size a ≤ S2x160x256.size a := fun v75 v107 k0_hw2 k0_t11 k0_t13 => k0_hw2.2.2.2.2.2.2.2.2.2.2.2.2.2.2.2.2.1 k0_t11 k0_t13
theorem k0_off147_inb : ∀ (v75 : BitVec 32) (v107 : BitVec 32) (k0_hw2 : k0_chk2 v75 v107) (k0_t11 : Fin (k0_t11_loop v75 v107).trips) (k0_t13 : Fin (k0_t13_loop v75 v107 k0_t11).trips), ∀ a, (k0_off147 v75 v107 k0_t11 k0_t13) a + S1x1x16.size a ≤ S2x160x256.size a := fun v75 v107 k0_hw2 k0_t11 k0_t13 => k0_hw2.2.2.2.2.2.2.2.2.2.2.2.2.2.2.2.2.2.1 k0_t11 k0_t13
theorem k0_off148_inb : ∀ (v75 : BitVec 32) (v107 : BitVec 32) (k0_hw2 : k0_chk2 v75 v107) (k0_t11 : Fin (k0_t11_loop v75 v107).trips) (k0_t13 : Fin (k0_t13_loop v75 v107 k0_t11).trips), ∀ a, (k0_off148 v75 v107 k0_t11 k0_t13) a + S1x1x16.size a ≤ S2x160x256.size a := fun v75 v107 k0_hw2 k0_t11 k0_t13 => k0_hw2.2.2.2.2.2.2.2.2.2.2.2.2.2.2.2.2.2.2.1 k0_t11 k0_t13
theorem k0_off149_inb : ∀ (v75 : BitVec 32) (v107 : BitVec 32) (k0_hw2 : k0_chk2 v75 v107) (k0_t11 : Fin (k0_t11_loop v75 v107).trips) (k0_t13 : Fin (k0_t13_loop v75 v107 k0_t11).trips), ∀ a, (k0_off149 v75 v107 k0_t11 k0_t13) a + S1x1x16.size a ≤ S2x160x256.size a := fun v75 v107 k0_hw2 k0_t11 k0_t13 => k0_hw2.2.2.2.2.2.2.2.2.2.2.2.2.2.2.2.2.2.2.2.1 k0_t11 k0_t13
theorem k0_off150_inb : ∀ (v75 : BitVec 32) (v107 : BitVec 32) (k0_hw2 : k0_chk2 v75 v107) (k0_t11 : Fin (k0_t11_loop v75 v107).trips) (k0_t13 : Fin (k0_t13_loop v75 v107 k0_t11).trips), ∀ a, (k0_off150 v75 v107 k0_t11 k0_t13) a + S1x1x16.size a ≤ S2x160x256.size a := fun v75 v107 k0_hw2 k0_t11 k0_t13 => k0_hw2.2.2.2.2.2.2.2.2.2.2.2.2.2.2.2.2.2.2.2.2.1 k0_t11 k0_t13
theorem k0_off151_inb : ∀ (v75 : BitVec 32) (v107 : BitVec 32) (k0_hw2 : k0_chk2 v75 v107) (k0_t11 : Fin (k0_t11_loop v75 v107).trips) (k0_t13 : Fin (k0_t13_loop v75 v107 k0_t11).trips), ∀ a, (k0_off151 v75 v107 k0_t11 k0_t13) a + S1x1x16.size a ≤ S2x160x256.size a := fun v75 v107 k0_hw2 k0_t11 k0_t13 => k0_hw2.2.2.2.2.2.2.2.2.2.2.2.2.2.2.2.2.2.2.2.2.2.1 k0_t11 k0_t13
theorem k0_off152_inb : ∀ (v75 : BitVec 32) (v107 : BitVec 32) (k0_hw2 : k0_chk2 v75 v107) (k0_t11 : Fin (k0_t11_loop v75 v107).trips) (k0_t13 : Fin (k0_t13_loop v75 v107 k0_t11).trips), ∀ a, (k0_off152 v75 v107 k0_t11 k0_t13) a + S1x1x16.size a ≤ S2x160x256.size a := fun v75 v107 k0_hw2 k0_t11 k0_t13 => k0_hw2.2.2.2.2.2.2.2.2.2.2.2.2.2.2.2.2.2.2.2.2.2.2.1 k0_t11 k0_t13
theorem k0_off153_inb : ∀ (v75 : BitVec 32) (v107 : BitVec 32) (k0_hw2 : k0_chk2 v75 v107) (k0_t11 : Fin (k0_t11_loop v75 v107).trips) (k0_t13 : Fin (k0_t13_loop v75 v107 k0_t11).trips), ∀ a, (k0_off153 v75 v107 k0_t11 k0_t13) a + S1x1x16.size a ≤ S2x160x256.size a := fun v75 v107 k0_hw2 k0_t11 k0_t13 => k0_hw2.2.2.2.2.2.2.2.2.2.2.2.2.2.2.2.2.2.2.2.2.2.2.2.1 k0_t11 k0_t13
theorem k0_off154_inb : ∀ (v75 : BitVec 32) (v107 : BitVec 32) (k0_hw2 : k0_chk2 v75 v107) (k0_t11 : Fin (k0_t11_loop v75 v107).trips) (k0_t13 : Fin (k0_t13_loop v75 v107 k0_t11).trips), ∀ a, (k0_off154 v75 v107 k0_t11 k0_t13) a + S1x1x16.size a ≤ S2x160x256.size a := fun v75 v107 k0_hw2 k0_t11 k0_t13 => k0_hw2.2.2.2.2.2.2.2.2.2.2.2.2.2.2.2.2.2.2.2.2.2.2.2.2.1 k0_t11 k0_t13
theorem k0_off155_inb : ∀ (v75 : BitVec 32) (v107 : BitVec 32) (k0_hw2 : k0_chk2 v75 v107) (k0_t11 : Fin (k0_t11_loop v75 v107).trips) (k0_t13 : Fin (k0_t13_loop v75 v107 k0_t11).trips), ∀ a, (k0_off155 v75 v107 k0_t11 k0_t13) a + S1x1x16.size a ≤ S2x160x256.size a := fun v75 v107 k0_hw2 k0_t11 k0_t13 => k0_hw2.2.2.2.2.2.2.2.2.2.2.2.2.2.2.2.2.2.2.2.2.2.2.2.2.2 k0_t11 k0_t13

def k0_off156 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_87_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x256 : Shape := ⟨2, ![10000, 256]⟩
abbrev S2x160000 : Shape := ⟨2, ![2, 160000]⟩
abbrev S10000 : Shape := ⟨1, ![10000]⟩
abbrev S_ : Shape := ⟨0, ![]⟩
abbrev S64x256 : Shape := ⟨2, ![64, 256]⟩
abbrev S10000x1 : Shape := ⟨2, ![10000, 1]⟩
abbrev S64 : Shape := ⟨1, ![64]⟩
abbrev S64x1 : Shape := ⟨2, ![64, 1]⟩

abbrev nBuf : Space → Nat
  | .hbm => 20
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S10000, .i32⟩
  | .hbm, ⟨3, _⟩ => ⟨S_, .f32⟩
  | .hbm, ⟨4, _⟩ => ⟨S64x256, .f32⟩
  | .hbm, ⟨5, _⟩ => ⟨S10000x1, .i32⟩
  | .hbm, ⟨6, _⟩ => ⟨S64x256, .f32⟩
  | .hbm, ⟨7, _⟩ => ⟨S_, .f32⟩
  | .hbm, ⟨8, _⟩ => ⟨S10000, .f32⟩
  | .hbm, ⟨9, _⟩ => ⟨S_, .f32⟩
  | .hbm, ⟨10, _⟩ => ⟨S64, .f32⟩
  | .hbm, ⟨11, _⟩ => ⟨S10000x1, .i32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64x1, .f32⟩
  | .hbm, ⟨18, _⟩ => ⟨S64x256, .f32⟩
  | .hbm, ⟨19, _⟩ => ⟨S64x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]
-- ==== Proof.Words.lean ====
/-
  The arithmetic of one graph's rows on 32-bit words. A graph owns the rows `lo ≤ r < hi` of the array (`lo`, `hi` words
  the kernel counts); the kernel walks them in windows of 160 rows that start at `lo` rounded down to a multiple of 8. Here
  are the words it computes on the way — number of windows, where a window starts, the row the window's copy starts at
  (never past row 9840), the rows of the window to add — as functions of `lo` and `hi`, and their values as natural
  numbers when `lo ≤ hi ≤ 10000`.
-/
module

public import Idealize.ShloMosaic.Lib.WordArith
public import Idealize.ShloMosaic.Lib.WordArith.Masks
public import Idealize.ShloMosaic.Lib.Scf

@[expose] public section

namespace Cert.Words

open Idealize.ShloMosaic

/-! ## Word operations on small numbers -/

/-- A sum that does not overflow, -/
theorem addi_nat (x y : BitVec 32) (h : x.toNat + y.toNat < 2 ^ 32) : (Scalar.addi x y).toNat = x.toNat + y.toNat := by
  show (x + y).toNat = _
  rw [BitVec.toNat_add, Nat.mod_eq_of_lt h]

/-- a difference that does not, -/
theorem subi_nat (x y : BitVec 32) (h : y.toNat ≤ x.toNat) : (Scalar.subi x y).toNat = x.toNat - y.toNat := by
  show (x - y).toNat = _
  have := x.isLt
  rw [BitVec.toNat_sub]
  omega

/-- and a product that does not are those of the numbers. -/
theorem muli_nat (x y : BitVec 32) (h : x.toNat * y.toNat < 2 ^ 32) : (Scalar.muli x y).toNat = x.toNat * y.toNat := by
  show (x * y).toNat = _
  rw [BitVec.toNat_mul, Nat.mod_eq_of_lt h]

/-- A word below 2³¹ is the same number read signed. -/
theorem toInt_small (x : BitVec 32) (h : x.toNat < 2 ^ 31) : x.toInt = x.toNat :=
  BitVec.toInt_eq_toNat_of_lt (by omega)

/-- Of two such words the signed comparison is that of the numbers, -/
theorem slt_small (x y : BitVec 32) (hx : x.toNat < 2 ^ 31) (hy : y.toNat < 2 ^ 31) : x.slt y = decide (x.toNat < y.toNat) := by
  rw [BitVec.slt_eq_decide, toInt_small x hx, toInt_small y hy]; simp

/-- the signed minimum theirs, -/
theorem minsi_nat (x y : BitVec 32) (hx : x.toNat < 2 ^ 31) (hy : y.toNat < 2 ^ 31) :
    (Scalar.minsi x y).toNat = min x.toNat y.toNat := by
  show (if x.slt y then x else y).toNat = _
  rw [slt_small x y hx hy]
  by_cases h : x.toNat < y.toNat
  · simp [h]; omega
  · simp [h]; omega

/-- and the signed maximum. -/
theorem maxsi_nat (x y : BitVec 32) (hx : x.toNat < 2 ^ 31) (hy : y.toNat < 2 ^ 31) :
    (Scalar.maxsi x y).toNat = max x.toNat y.toNat := by
  show (if y.slt x then x else y).toNat = _
  rw [slt_small y x hy hx]
  by_cases h : y.toNat < x.toNat
  · simp [h]; omega
  · simp [h]; omega

/-- The signed quotient is theirs, -/
theorem divsi_nat (x c : BitVec 32) (hx : x.toNat < 2 ^ 31) (hc : c.toNat < 2 ^ 31) (hc0 : 0 < c.toNat) :
    (Scalar.divsi x c).toNat = x.toNat / c.toNat := by
  have h0 : c ≠ 0 := by rintro rfl; simp at hc0
  have h1 : c ≠ -1 := by rintro rfl; simp at hc
  have hcor : ¬ IntOp.SDivCorner x c := by
    rintro (h | ⟨-, h⟩)
    · exact h0 h
    · exact h1 h
  show (IntOp.divsi .scalar x c).toNat = _
  unfold IntOp.divsi
  rw [if_neg hcor, BitVec.sdiv_eq]
  have hmx : x.msb = false := by rw [BitVec.msb_eq_decide]; simp; omega
  have hmc : c.msb = false := by rw [BitVec.msb_eq_decide]; simp; omega
  rw [hmx, hmc]
  simp [BitVec.udiv_eq]

/-- and the remainder. -/
theorem remsi_nat (x c : BitVec 32) (hx : x.toNat < 2 ^ 31) (hc : c.toNat < 2 ^ 31) (hc0 : 0 < c.toNat) :
    (Scalar.remsi x c).toNat = x.toNat % c.toNat := by
  have h0 : c ≠ 0 := by rintro rfl; simp at hc0
  have h1 : c ≠ -1 := by rintro rfl; simp at hc
  have hcor : ¬ IntOp.SDivCorner x c := by
    rintro (h | ⟨-, h⟩)
    · exact h0 h
    · exact h1 h
  show (IntOp.remsi .scalar x c).toNat = _
  unfold IntOp.remsi
  rw [if_neg hcor, BitVec.srem_eq]
  have hmx : x.msb = false := by rw [BitVec.msb_eq_decide]; simp; omega
  have hmc : c.msb = false := by rw [BitVec.msb_eq_decide]; simp; omega
  rw [hmx, hmc]
  simp [BitVec.umod_eq]

/-- A word without its last three bits is rounded down to a multiple of 8. -/
theorem and_mask8 (x : BitVec 32) : (Scalar.andi x 4294967288#32).toNat = x.toNat / 8 * 8 := by
  show (x &&& 4294967288#32).toNat = _
  have hm : ∀ i, i < 32 → (4294967288#32).getLsbD i = decide (3 ≤ i) := by decide
  have h : x &&& 4294967288#32 = (x >>> 3) <<< 3 := by
    apply BitVec.eq_of_getLsbD_eq
    intro i hi
    rw [BitVec.getLsbD_and, hm i hi, BitVec.getLsbD_shiftLeft, BitVec.getLsbD_ushiftRight]
    by_cases h3 : 3 ≤ i
    · rw [show 3 + (i - 3) = i by omega]; simp [h3, hi]
    · simp [h3, hi]
  rw [h, BitVec.toNat_shiftLeft, BitVec.toNat_ushiftRight, Nat.shiftRight_eq_div_pow, Nat.shiftLeft_eq]
  have := x.isLt
  omega

/-- A word's last bit is its parity. -/
theorem and_one (x : BitVec 32) : (Scalar.andi x 1#32).toNat = x.toNat % 2 := by
  rw [WordArith.toNat_andi_lowMask x 1#32 1 (by decide), pow_one]

/-- The condition of a branch, a comparison's bit widened and compared with zero, is the bit. -/
theorem ne_zero_extui (c : BitVec 1) : Scalar.cmpi .ne (Scalar.extui c) 0#32 = c := by revert c; decide

/-- The bit of "less" is set exactly when the number is less, -/
theorem cmpi_slt_one (x y : BitVec 32) (hx : x.toNat < 2 ^ 31) (hy : y.toNat < 2 ^ 31) :
    Scalar.cmpi .slt x y = 1#1 ↔ x.toNat < y.toNat := by
  show BitVec.ofBool (x.slt y) = 1#1 ↔ _
  rw [slt_small x y hx hy, WordArith.ofBool_eq_one_iff, decide_eq_true_iff]

/-- and the bit of "greater" when it is greater. -/
theorem cmpi_sgt_one (x y : BitVec 32) (hx : x.toNat < 2 ^ 31) (hy : y.toNat < 2 ^ 31) :
    Scalar.cmpi .sgt x y = 1#1 ↔ y.toNat < x.toNat := by
  show BitVec.ofBool (y.slt x) = 1#1 ↔ _
  rw [slt_small y x hy hx, WordArith.ofBool_eq_one_iff, decide_eq_true_iff]

/-! ## The words of one graph -/

/-- The rows' bounds, as the kernel counts them. -/
def Bnd (lo hi : BitVec 32) : Prop := lo.toNat ≤ hi.toNat ∧ hi.toNat ≤ 10000

/-- `lo` rounded down to a multiple of 8: the first window's first row. -/
def first (lo : BitVec 32) : BitVec 32 := Scalar.andi lo 4294967288#32

/-- `hi - first + 159`, whose quotient by 160 is the number of windows of a graph that owns a row. -/
def span (lo hi : BitVec 32) : BitVec 32 := Scalar.addi (Scalar.subi hi (first lo)) 159#32

/-- A word's sign, as the kernel computes it. -/
def sign (x : BitVec 32) : BitVec 32 := Scalar.subi (Scalar.extui (Scalar.cmpi .sgt x 0#32)) (Scalar.extui (Scalar.cmpi .slt x 0#32))

/-- The floor of `span / 160`, as the kernel computes it from the quotient rounded toward zero. -/
def quot (lo hi : BitVec 32) : BitVec 32 :=
  Scalar.select (Scalar.andi (Scalar.cmpi .ne (sign (span lo hi)) (sign 160#32)) (Scalar.cmpi .ne (Scalar.remsi (span lo hi) 160#32) 0#32))
    (Scalar.subi (Scalar.divsi (span lo hi) 160#32) 1#32) (Scalar.divsi (span lo hi) 160#32)

/-- The number of windows: none for a graph without rows. -/
def windows (lo hi : BitVec 32) : BitVec 32 := Scalar.muli (quot lo hi) (Scalar.minsi (Scalar.subi hi lo) 1#32)

/-- Where the whole strides of the loop over the windows end. -/
def windowsEnd (lo hi : BitVec 32) : BitVec 32 :=
  Scalar.addi 0#32 (Scalar.muli (Scalar.divsi (Scalar.subi (windows lo hi) 0#32) 1#32) 1#32)

/-- The loop over the windows, -/
@[reducible] def winLoop (lo hi : BitVec 32) : Scf.Loop 32 := ⟨0#32, windowsEnd lo hi, 1#32⟩
/-- and what is left of it after the whole strides: nothing. -/
@[reducible] def winRest (lo hi : BitVec 32) : Scf.Loop 32 := ⟨windowsEnd lo hi, Scalar.addi 0#32 (Scalar.subi (windows lo hi) 0#32), 1#32⟩

/-- Window `w`'s first row, -/
def start (lo w : BitVec 32) : BitVec 32 := Scalar.addi (first lo) (Scalar.muli w 160#32)
/-- and the row its copy starts at: 160 rows from there are rows of the array. -/
def base (lo w : BitVec 32) : BitVec 32 := Scalar.minsi (start lo w) 9840#32
/-- The first row to add, counted in the copy, -/
def rowLb (lo w : BitVec 32) : BitVec 32 := Scalar.subi (Scalar.maxsi lo (start lo w)) (base lo w)
/-- and how many there are. -/
def rowLen (lo hi w : BitVec 32) : BitVec 32 :=
  Scalar.subi (Scalar.subi (Scalar.minsi hi (Scalar.addi (start lo w) 160#32)) (base lo w)) (rowLb lo w)
/-- Where the whole strides of the loop over the rows end. -/
def rowsEnd (lo hi w : BitVec 32) : BitVec 32 :=
  Scalar.addi (rowLb lo w) (Scalar.muli (Scalar.divsi (rowLen lo hi w) 1#32) 1#32)

/-- The loop over a window's rows, -/
@[reducible] def rowLoop (lo hi w : BitVec 32) : Scf.Loop 32 := ⟨rowLb lo w, rowsEnd lo hi w, 1#32⟩
/-- and what is left of it: nothing. -/
@[reducible] def rowRest (lo hi w : BitVec 32) : Scf.Loop 32 := ⟨rowsEnd lo hi w, Scalar.addi (rowLb lo w) (rowLen lo hi w), 1#32⟩

/-- Whether the graph owns a row. -/
def owns (lo hi : BitVec 32) : BitVec 1 := Scalar.cmpi .ne (Scalar.extui (Scalar.cmpi .sgt (Scalar.subi hi lo) 0#32)) 0#32
/-- Whether a window follows window `w`. -/
def more (lo hi w : BitVec 32) : BitVec 1 :=
  Scalar.cmpi .ne (Scalar.extui (Scalar.cmpi .slt (Scalar.addi w 1#32) (windows lo hi))) 0#32

/-! ## Their values -/

/-- The number of windows. -/
def nWin (lo hi : ℕ) : ℕ := if lo < hi then (hi - lo / 8 * 8 + 159) / 160 else 0
/-- The first row of window `t`, -/
def startN (lo t : ℕ) : ℕ := lo / 8 * 8 + t * 160
/-- the row its copy starts at, -/
def baseN (lo t : ℕ) : ℕ := min (startN lo t) 9840
/-- the first row to add, -/
def fromN (lo t : ℕ) : ℕ := max lo (startN lo t)
/-- and the row after the last. -/
def toN (lo hi t : ℕ) : ℕ := min hi (startN lo t + 160)

variable {lo hi : BitVec 32}

/-- `first` is `lo` rounded down to a multiple of 8. -/
theorem first_nat (lo : BitVec 32) : (first lo).toNat = lo.toNat / 8 * 8 := and_mask8 lo

/-- The value of `span`. -/
theorem span_nat (h : Bnd lo hi) : (span lo hi).toNat = hi.toNat - lo.toNat / 8 * 8 + 159 := by
  obtain ⟨h1, h2⟩ := h
  have hf := first_nat lo
  have hs := subi_nat hi (first lo) (by omega)
  unfold span
  rw [addi_nat _ _ (by rw [hs]; simp; omega), hs, hf]; simp

/-- A positive word's sign is one. -/
theorem sign_pos (x : BitVec 32) (h0 : 0 < x.toNat) (h : x.toNat < 2 ^ 31) : sign x = 1#32 := by
  unfold sign
  have h1 : Scalar.cmpi .sgt x 0#32 = 1#1 := (cmpi_sgt_one x 0#32 h (by decide)).2 (by simpa using h0)
  have h2 : Scalar.cmpi .slt x 0#32 = 0#1 := by
    have : ¬ Scalar.cmpi .slt x 0#32 = 1#1 := fun hc => absurd ((cmpi_slt_one x 0#32 h (by decide)).1 hc) (by simp)
    revert this; generalize Scalar.cmpi .slt x 0#32 = c; revert c; decide
  rw [h1, h2]; decide

/-- The value of `quot`: the plain quotient, since nothing is negative. -/
theorem quot_nat (h : Bnd lo hi) : (quot lo hi).toNat = (hi.toNat - lo.toNat / 8 * 8 + 159) / 160 := by
  have hs := span_nat h
  obtain ⟨h1, h2⟩ := h
  unfold quot
  rw [sign_pos (span lo hi) (by omega) (by omega), sign_pos 160#32 (by decide) (by decide)]
  have h0 : Scalar.cmpi .ne (1#32) 1#32 = 0#1 := by decide
  rw [h0, show ∀ c : BitVec 1, Scalar.andi 0#1 c = 0#1 by decide, show ∀ a b : BitVec 32, Scalar.select 0#1 a b = b from fun _ _ => rfl,
    divsi_nat _ _ (by omega) (by decide) (by decide), hs]
  rfl

/-- The kernel's number of windows is `nWin`. -/
theorem windows_nat (h : Bnd lo hi) : (windows lo hi).toNat = nWin lo.toNat hi.toNat := by
  have hq := quot_nat h
  obtain ⟨h1, h2⟩ := h
  have hs := subi_nat hi lo h1
  have hm := minsi_nat (Scalar.subi hi lo) 1#32 (by omega) (by decide)
  rw [show (1#32).toNat = 1 from rfl] at hm
  unfold windows nWin
  have : (quot lo hi).toNat ≤ 10000 := by omega
  rcases Nat.lt_or_ge lo.toNat hi.toNat with hl | hl
  · rw [hs, Nat.min_eq_right (by omega)] at hm
    rw [muli_nat _ _ (by rw [hm]; omega), hm, if_pos hl, hq, Nat.mul_one]
  · rw [hs, Nat.min_eq_left (by omega), show hi.toNat - lo.toNat = 0 by omega] at hm
    rw [muli_nat _ _ (by rw [hm]; omega), hm, if_neg (by omega), Nat.mul_zero]

/-- There are at most 63 windows. -/
theorem nWin_le (lo hi : ℕ) (h : hi ≤ 10000) : nWin lo hi ≤ 63 := by unfold nWin; split <;> omega

/-- Dividing by one and multiplying by one changes nothing. -/
theorem one_one (x : BitVec 32) : Scalar.muli (Scalar.divsi x 1#32) 1#32 = x := by
  have : Scalar.divsi x 1#32 = x := WordArith.divsi_one .scalar x
  rw [this]
  show x * 1#32 = x
  simp

/-- Taking zero away, -/
theorem sub_zero' (x : BitVec 32) : Scalar.subi x 0#32 = x := by show x - 0#32 = x; simp
/-- or adding to zero, changes nothing. -/
theorem zero_add' (x : BitVec 32) : Scalar.addi 0#32 x = x := by show 0#32 + x = x; simp

/-- The loop over the windows ends at their number. -/
theorem windowsEnd_eq (lo hi : BitVec 32) : windowsEnd lo hi = windows lo hi := by
  unfold windowsEnd; rw [one_one, zero_add', sub_zero']

/-- The trips of a loop of step one between small words. -/
theorem trips_one (a b : BitVec 32) (ha : a.toNat < 2 ^ 31) (hb : b.toNat < 2 ^ 31) : Scf.trips a b 1#32 = b.toNat - a.toNat := by
  unfold Scf.trips
  rw [toInt_small a ha, toInt_small b hb, show (1#32).toInt = 1 from by decide]
  omega

/-- A loop by ones is in order where its bounds are small. -/
theorem ok_one (a b : BitVec 32) (ha : a.toNat < 2 ^ 31) (hb : b.toNat < 2 ^ 31) : Scf.OK a b 1#32 := by
  refine ⟨by decide, ?_⟩
  rw [trips_one a b ha hb, toInt_small a ha, show (1#32).toInt = 1 from by decide]
  show (a.toNat : ℤ) + ((b.toNat - a.toNat : ℕ) : ℤ) * 1 < 2147483648
  omega

/-- Its counter at trip `k` is `k` past the start. -/
theorem iv_one (a : BitVec 32) (k : ℕ) (h : a.toNat + k < 2 ^ 32) : (Scf.iv a 1#32 k).toNat = a.toNat + k := by
  unfold Scf.iv
  rw [BitVec.toNat_add, BitVec.toNat_mul, BitVec.toNat_ofNat]
  simp
  omega

/-- The loop over the windows makes a trip for each window, -/
theorem winLoop_trips (h : Bnd lo hi) : (winLoop lo hi).trips = nWin lo.toNat hi.toNat := by
  have hw := windows_nat h
  have := nWin_le lo.toNat hi.toNat h.2
  show Scf.trips 0#32 (windowsEnd lo hi) 1#32 = _
  rw [windowsEnd_eq, trips_one _ _ (by decide) (by omega), hw]; rfl

/-- and is in order. -/
theorem winLoop_ok (h : Bnd lo hi) : (winLoop lo hi).OK := by
  have hw := windows_nat h
  have := nWin_le lo.toNat hi.toNat h.2
  show Scf.OK 0#32 (windowsEnd lo hi) 1#32
  rw [windowsEnd_eq]; exact ok_one _ _ (by decide) (by omega)

/-- What is left of it makes none, -/
theorem winRest_trips (lo hi : BitVec 32) : (winRest lo hi).trips = 0 := by
  show Scf.trips (windowsEnd lo hi) (Scalar.addi 0#32 (Scalar.subi (windows lo hi) 0#32)) 1#32 = 0
  rw [windowsEnd_eq, zero_add', sub_zero']
  unfold Scf.trips
  rw [show (1#32).toInt = 1 from by decide]; omega

/-- and is in order too. -/
theorem winRest_ok (h : Bnd lo hi) : (winRest lo hi).OK := by
  have hw := windows_nat h
  have := nWin_le lo.toNat hi.toNat h.2
  show Scf.OK (windowsEnd lo hi) (Scalar.addi 0#32 (Scalar.subi (windows lo hi) 0#32)) 1#32
  rw [windowsEnd_eq, zero_add', sub_zero']; exact ok_one _ _ (by omega) (by omega)

/-- A window's number, as the word the loop counts it in. -/
abbrev tw (t : ℕ) : BitVec 32 := Scf.iv 0#32 1#32 t

/-- The counter's word at trip `t` is `t`. -/
theorem tw_nat (t : ℕ) (h : t < 2 ^ 32) : (tw t).toNat = t := WordArith.toNat_iv_zero_one t h

/-- The facts of a window's number, in natural numbers: what every bound below is computed from. -/
theorem win_facts (h : Bnd lo hi) {t : ℕ} (ht : t < nWin lo.toNat hi.toNat) :
    lo.toNat < hi.toNat ∧ startN lo.toNat t < hi.toNat ∧ t < 63 := by
  obtain ⟨h1, h2⟩ := h
  have h63 := nWin_le lo.toNat hi.toNat h2
  unfold nWin at ht h63
  unfold startN
  split at ht
  · refine ⟨by assumption, ?_, by omega⟩; omega
  · omega

/-- The value of `start`, -/
theorem start_nat (h : Bnd lo hi) {w : BitVec 32} (hw : w.toNat ≤ 63) : (start lo w).toNat = startN lo.toNat w.toNat := by
  obtain ⟨h1, h2⟩ := h
  have hf := first_nat lo
  have hm := muli_nat w 160#32 (by show w.toNat * 160 < _; omega)
  rw [show (160#32).toNat = 160 from rfl] at hm
  unfold start startN
  rw [addi_nat _ _ (by omega), hf, hm]

/-- and of `base`. -/
theorem base_nat (h : Bnd lo hi) {w : BitVec 32} (hw : w.toNat ≤ 63) : (base lo w).toNat = baseN lo.toNat w.toNat := by
  have hs := start_nat h hw
  obtain ⟨h1, h2⟩ := h
  unfold base baseN
  rw [minsi_nat _ _ (by rw [hs]; unfold startN; omega) (by decide), hs]; rfl

/-- A window's copy starts at a multiple of 8, -/
theorem base_dvd (h : Bnd lo hi) {w : BitVec 32} (hw : w.toNat ≤ 63) : 8 ∣ (base lo w).toNat := by
  rw [base_nat h hw]; unfold baseN startN
  rcases Nat.le_total (lo.toNat / 8 * 8 + w.toNat * 160) 9840 with h | h
  · rw [Nat.min_eq_left h]; omega
  · rw [Nat.min_eq_right h]; decide

/-- and ends within the rows. -/
theorem base_le (h : Bnd lo hi) {w : BitVec 32} (hw : w.toNat ≤ 63) : (base lo w).toNat + 160 ≤ 10000 := by
  rw [base_nat h hw]; unfold baseN; omega

/-- A window's rows in its copy: the window holds a row of the graph, its first row to add lies in the copy, and so does
    its last. -/
theorem rows_facts (h : Bnd lo hi) {t : ℕ} (ht : t < nWin lo.toNat hi.toNat) :
    baseN lo.toNat t ≤ fromN lo.toNat t ∧ fromN lo.toNat t < toN lo.toNat hi.toNat t ∧ toN lo.toNat hi.toNat t ≤ baseN lo.toNat t + 160 := by
  obtain ⟨ha, hb, hc⟩ := win_facts h ht
  obtain ⟨h1, h2⟩ := h
  unfold baseN fromN toN
  unfold startN at *
  omega

/-- The first row to add, counted in the copy, -/
theorem rowLb_nat (h : Bnd lo hi) {t : ℕ} (ht : t < nWin lo.toNat hi.toNat) :
    (rowLb lo (tw t)).toNat = fromN lo.toNat t - baseN lo.toNat t := by
  obtain ⟨ha, hb, hc⟩ := win_facts h ht
  have hr := rows_facts h ht
  have htw := tw_nat t (by omega)
  have hs := start_nat h (w := tw t) (by omega)
  have hbs := base_nat h (w := tw t) (by omega)
  rw [htw] at hs hbs
  have h1 := h.1
  have h2 := h.2
  have hm := maxsi_nat lo (start lo (tw t)) (by omega) (by rw [hs]; omega)
  rw [hs] at hm
  unfold rowLb
  rw [subi_nat _ _ (by rw [hm, hbs]; exact hr.1), hm, hbs]
  rfl

/-- and the number of rows to add. -/
theorem rowLen_nat (h : Bnd lo hi) {t : ℕ} (ht : t < nWin lo.toNat hi.toNat) :
    (rowLen lo hi (tw t)).toNat = toN lo.toNat hi.toNat t - fromN lo.toNat t := by
  obtain ⟨ha, hb, hc⟩ := win_facts h ht
  have hr := rows_facts h ht
  have htw := tw_nat t (by omega)
  have hs := start_nat h (w := tw t) (by omega)
  have hbs := base_nat h (w := tw t) (by omega)
  have hlb := rowLb_nat h ht
  rw [htw] at hs hbs
  have h1 := h.1
  have h2 := h.2
  have hadd := addi_nat (start lo (tw t)) 160#32 (by rw [hs, show (160#32).toNat = 160 from rfl]; omega)
  rw [hs, show (160#32).toNat = 160 from rfl] at hadd
  have hm := minsi_nat hi (Scalar.addi (start lo (tw t)) 160#32) (by omega) (by rw [hadd]; omega)
  rw [hadd] at hm
  have hsub := subi_nat (Scalar.minsi hi (Scalar.addi (start lo (tw t)) 160#32)) (base lo (tw t))
    (by rw [hm, hbs]; unfold toN at hr; omega)
  rw [hm, hbs] at hsub
  unfold rowLen
  rw [subi_nat _ _ (by rw [hsub, hlb]; unfold toN at hr; omega), hsub, hlb]
  unfold toN at *
  omega

/-- The loop over a window's rows ends that many after its start: -/
theorem rowsEnd_eq (lo hi w : BitVec 32) : rowsEnd lo hi w = Scalar.addi (rowLb lo w) (rowLen lo hi w) := by
  unfold rowsEnd; rw [one_one]

/-- at the last row to add, counted in the copy. -/
theorem rowsEnd_nat (h : Bnd lo hi) {t : ℕ} (ht : t < nWin lo.toNat hi.toNat) :
    (rowsEnd lo hi (tw t)).toNat = toN lo.toNat hi.toNat t - baseN lo.toNat t := by
  have hr := rows_facts h ht
  have h2 := h.2
  have := rowLb_nat h ht
  have := rowLen_nat h ht
  have : toN lo.toNat hi.toNat t ≤ hi.toNat := Nat.min_le_left _ _
  rw [rowsEnd_eq, addi_nat _ _ (by omega)]
  omega

/-- The loop over the rows makes a trip for each of them, -/
theorem rowLoop_trips (h : Bnd lo hi) {t : ℕ} (ht : t < nWin lo.toNat hi.toNat) :
    (rowLoop lo hi (tw t)).trips = toN lo.toNat hi.toNat t - fromN lo.toNat t := by
  have hr := rows_facts h ht
  have h2 := h.2
  have ha := rowLb_nat h ht
  have hb := rowsEnd_nat h ht
  have : toN lo.toNat hi.toNat t ≤ hi.toNat := Nat.min_le_left _ _
  show Scf.trips (rowLb lo (tw t)) (rowsEnd lo hi (tw t)) 1#32 = _
  rw [trips_one _ _ (by omega) (by omega)]
  omega

/-- and is in order. -/
theorem rowLoop_ok (h : Bnd lo hi) {t : ℕ} (ht : t < nWin lo.toNat hi.toNat) : (rowLoop lo hi (tw t)).OK := by
  have hr := rows_facts h ht
  have h2 := h.2
  have ha := rowLb_nat h ht
  have hb := rowsEnd_nat h ht
  have : toN lo.toNat hi.toNat t ≤ hi.toNat := Nat.min_le_left _ _
  exact ok_one (rowLb lo (tw t)) (rowsEnd lo hi (tw t)) (by omega) (by omega)

/-- What is left of it makes none, -/
theorem rowRest_trips (lo hi w : BitVec 32) : (rowRest lo hi w).trips = 0 := by
  show Scf.trips (rowsEnd lo hi w) (Scalar.addi (rowLb lo w) (rowLen lo hi w)) 1#32 = 0
  rw [rowsEnd_eq]
  unfold Scf.trips
  rw [show (1#32).toInt = 1 from by decide]; omega

/-- and is in order too. -/
theorem rowRest_ok (h : Bnd lo hi) {t : ℕ} (ht : t < nWin lo.toNat hi.toNat) : (rowRest lo hi (tw t)).OK := by
  have hr := rows_facts h ht
  have h2 := h.2
  have hb := rowsEnd_nat h ht
  have : toN lo.toNat hi.toNat t ≤ hi.toNat := Nat.min_le_left _ _
  show Scf.OK (rowsEnd lo hi (tw t)) (Scalar.addi (rowLb lo (tw t)) (rowLen lo hi (tw t))) 1#32
  rw [← rowsEnd_eq]
  exact ok_one _ _ (by omega) (by omega)

/-- Row `k` of a window's loop, counted in the copy. -/
theorem row_nat (h : Bnd lo hi) {t : ℕ} (ht : t < nWin lo.toNat hi.toNat) {k : ℕ} (hk : k < (rowLoop lo hi (tw t)).trips) :
    (Scf.iv (rowLb lo (tw t)) 1#32 k).toNat = fromN lo.toNat t + k - baseN lo.toNat t := by
  have hr := rows_facts h ht
  have h2 := h.2
  rw [rowLoop_trips h ht] at hk
  have ha := rowLb_nat h ht
  have : toN lo.toNat hi.toNat t ≤ hi.toNat := Nat.min_le_left _ _
  rw [iv_one _ _ (by omega)]
  omega

/-- A row to add is one of the copy's 160. -/
theorem row_lt (h : Bnd lo hi) {t : ℕ} (ht : t < nWin lo.toNat hi.toNat) {k : ℕ} (hk : k < (rowLoop lo hi (tw t)).trips) :
    (Scf.iv (rowLb lo (tw t)) 1#32 k).toNat < 160 := by
  rw [row_nat h ht hk]
  have hr := rows_facts h ht
  rw [rowLoop_trips h ht] at hk
  omega

/-- The slot of a window's copy, -/
theorem slot_nat {t : ℕ} (ht : t < 2 ^ 32) : (Scalar.andi (tw t) 1#32).toNat = t % 2 := by rw [and_one, tw_nat t ht]

/-- and of the next one's. -/
theorem slot_succ_nat {t : ℕ} (ht : t < 63) : (Scalar.andi (Scalar.addi (tw t) 1#32) 1#32).toNat = (t + 1) % 2 := by
  have := tw_nat t (by omega)
  rw [and_one, addi_nat _ _ (by rw [this]; simp; omega), this]; rfl

/-- The next window's number. -/
theorem tw_succ_nat {t : ℕ} (ht : t < 63) : (Scalar.addi (tw t) 1#32).toNat = t + 1 := by
  have := tw_nat t (by omega)
  rw [addi_nat _ _ (by rw [this]; simp; omega), this]; rfl

/-- The kernel asks for a first window exactly when the graph has a row, -/
theorem owns_iff (h : Bnd lo hi) : owns lo hi = 1#1 ↔ lo.toNat < hi.toNat := by
  obtain ⟨h1, h2⟩ := h
  have hs := subi_nat hi lo h1
  unfold owns
  rw [ne_zero_extui, cmpi_sgt_one _ _ (by omega) (by decide), hs]
  show 0 < _ ↔ _
  omega

/-- and for a next window exactly when there is one. -/
theorem more_iff (h : Bnd lo hi) {t : ℕ} (ht : t < nWin lo.toNat hi.toNat) : more lo hi (tw t) = 1#1 ↔ t + 1 < nWin lo.toNat hi.toNat := by
  have hw := windows_nat h
  obtain ⟨ha, hb, hc⟩ := win_facts h ht
  have := nWin_le lo.toNat hi.toNat h.2
  have hs := tw_succ_nat hc
  unfold more
  rw [ne_zero_extui, cmpi_slt_one _ _ (by omega) (by omega), hs, hw]

end Cert.Words
-- ==== Proof.ChecksI.lean ====
module

public import proofs.«01_k».proof.Defs
public import proofs.«01_k».proof.Proof.Words

/-! # The facts the body assumes of the words it computes hold.

The body counts three bounds `lo ≤ mid ≤ hi`: the rows of its first graph are `lo … mid` and those of its second `mid … hi`.
Every offset it computes from two consecutive bounds is in bounds. -/

@[expose] public section

open Idealize.ShloMosaic
open Cert.Words

set_option maxHeartbeats 4000000

namespace Cert.KernelIdeal

/-- Slot `x` of the two is one of them. -/
theorem slot_inb {x : ℕ} (h : x < 2) : ∀ a, (![x, 0, 0] : Fin 3 → ℕ) a + S1x160x256.size a ≤ S2x160x256.size a
  | ⟨0, _⟩ => by show x + 1 ≤ 2; omega
  | ⟨1, _⟩ => by show 0 + 160 ≤ 160; omega
  | ⟨2, _⟩ => by show 0 + 256 ≤ 256; omega

/-- Semaphore `x` of the two is one of them. -/
theorem sem_inb {x : ℕ} (h : x < 2) : ∀ a, (![x] : Fin 1 → ℕ) a + S1.size a ≤ S2.size a
  | ⟨0, _⟩ => by show x + 1 ≤ 2; omega

/-- 160 whole rows from row `x` are rows of the array. -/
theorem base_inb {x : ℕ} (h : x + 160 ≤ 10000) : ∀ a, (![x, 0] : Fin 2 → ℕ) a + S160x256.size a ≤ S10000x256.size a
  | ⟨0, _⟩ => by show x + 160 ≤ 10000; omega
  | ⟨1, _⟩ => by show 0 + 256 ≤ 256; omega

/-- Sixteen elements from column `z` of row `y` of slot `x` lie in the slots. -/
theorem row_inb {x y z : ℕ} (hx : x < 2) (hy : y < 160) (hz : z + 16 ≤ 256) :
    ∀ a, (![x, y, z] : Fin 3 → ℕ) a + S1x1x16.size a ≤ S2x160x256.size a
  | ⟨0, _⟩ => by show x + 1 ≤ 2; omega
  | ⟨1, _⟩ => by show y + 1 ≤ 160; omega
  | ⟨2, _⟩ => by show z + 16 ≤ 256; omega

variable {lo hi : BitVec 32}

/-- The row at which the first window's copy starts, as the kernel computes it. -/
theorem base0_eq (lo : BitVec 32) : Scalar.minsi (Scalar.addi (first lo) 0#32) 9840#32 = base lo 0#32 := by
  unfold base start
  rw [show Scalar.muli 0#32 160#32 = 0#32 from by decide]

/-- A word's lowest bit names a slot. -/
theorem slot_lt (w : BitVec 32) : (Scalar.andi w 1#32).toNat < 2 := by rw [and_one]; omega

/-- A loop without trips has no trip. -/
theorem none_lt {L : Scf.Loop 32} (h : L.trips = 0) (t : Fin L.trips) : False := absurd t.isLt (by omega)

/-- Nothing is left of the loop over a window's rows. -/
theorem no_row (lo hi w : BitVec 32) (r : Fin (rowRest lo hi w).trips) : False := none_lt (rowRest_trips _ _ _) r

/-- Nothing is left of the loop over the windows. -/
theorem no_win (lo hi : BitVec 32) (t : Fin (winRest lo hi).trips) : False := none_lt (winRest_trips _ _) t

/-- A window's number is small, and the next one's too. -/
theorem tw_le (h : Bnd lo hi) (t : Fin (winLoop lo hi).trips) : (tw t.val).toNat ≤ 63 ∧ (Scalar.addi (tw t.val) 1#32).toNat ≤ 63 := by
  have ht := lt_of_lt_of_eq t.isLt (winLoop_trips h)
  obtain ⟨_, _, h63⟩ := win_facts h ht
  rw [tw_nat _ (by omega), tw_succ_nat h63]; omega

/-- A trip of the loop over the windows is a window. -/
theorem t_lt (h : Bnd lo hi) (t : Fin (winLoop lo hi).trips) : t.val < nWin lo.toNat hi.toNat :=
  lt_of_lt_of_eq t.isLt (winLoop_trips h)

/-- Row `r` of window `t` is a row of the slot it is read from. -/
theorem read_inb (h : Bnd lo hi) (t : Fin (winLoop lo hi).trips) (r : Fin (rowLoop lo hi (tw t.val)).trips) {z : ℕ} (hz : z + 16 ≤ 256) :
    ∀ a, (![(Scalar.indexCast (Scalar.andi (tw t.val) 1#32)).toNat, (Scalar.indexCast (Scf.iv (rowLb lo (tw t.val)) 1#32 r.val)).toNat, z] : Fin 3 → ℕ) a
      + S1x1x16.size a ≤ S2x160x256.size a :=
  row_inb (slot_lt _) (row_lt h (t_lt h t) r.isLt) hz

/-- The first window's copy starts at a multiple of 8, -/
theorem base0_dvd (h : Bnd lo hi) : 8 ∣ (Scalar.minsi (Scalar.addi (first lo) 0#32) 9840#32).toNat := by
  rw [base0_eq]; exact base_dvd h (by decide)

/-- and lies in the array. -/
theorem base0_inb (h : Bnd lo hi) : ∀ a, (![(Scalar.minsi (Scalar.addi (first lo) 0#32) 9840#32).toNat, 0] : Fin 2 → ℕ) a + S160x256.size a ≤ S10000x256.size a := by
  rw [base0_eq]; exact base_inb (base_le h (by decide))

/-- Window `w`'s copy lies in the array. -/
theorem basew_inb (h : Bnd lo hi) {w : BitVec 32} (hw : w.toNat ≤ 63) : ∀ a, (![(base lo w).toNat, 0] : Fin 2 → ℕ) a + S160x256.size a ≤ S10000x256.size a :=
  base_inb (base_le h hw)

/-- Facts 0 to 31 of the body's first list. -/
theorem chk1_0 (h : Bnd lo hi) : k0_chk1_0 lo hi :=
  ⟨fun _ => base0_dvd h,
   fun _ => base0_inb h,
   winLoop_ok h,
   fun t => base_dvd h (tw_le h t).1,
   fun t => slot_inb (slot_lt _),
   fun t => basew_inb h (tw_le h t).1,
   fun t => sem_inb (slot_lt _),
   fun t _ => base_dvd h (tw_le h t).2,
   fun t _ => slot_inb (slot_lt _),
   fun t _ => basew_inb h (tw_le h t).2,
   fun t _ => sem_inb (slot_lt _),
   fun t => rowLoop_ok h (t_lt h t),
   fun t r => read_inb h t r (z := 0) (by decide),
   fun t r => read_inb h t r (z := 16) (by decide),
   fun t r => read_inb h t r (z := 32) (by decide),
   fun t r => read_inb h t r (z := 48) (by decide),
   fun t r => read_inb h t r (z := 64) (by decide),
   fun t r => read_inb h t r (z := 80) (by decide),
   fun t r => read_inb h t r (z := 96) (by decide),
   fun t r => read_inb h t r (z := 112) (by decide),
   fun t r => read_inb h t r (z := 128) (by decide),
   fun t r => read_inb h t r (z := 144) (by decide),
   fun t r => read_inb h t r (z := 160) (by decide),
   fun t r => read_inb h t r (z := 176) (by decide),
   fun t r => read_inb h t r (z := 192) (by decide),
   fun t r => read_inb h t r (z := 208) (by decide),
   fun t r => read_inb h t r (z := 224) (by decide),
   fun t r => read_inb h t r (z := 240) (by decide),
   fun t => rowRest_ok h (t_lt h t),
   fun t r => (no_row lo hi (tw t.val) r).elim,
   fun t r => (no_row lo hi (tw t.val) r).elim,
   fun t r => (no_row lo hi (tw t.val) r).elim⟩

/-- Facts 32 to 63 of the body's first list. -/
theorem chk1_1 (h : Bnd lo hi) : k0_chk1_1 lo hi :=
  ⟨fun t r => (no_row lo hi (tw t.val) r).elim,
   fun t r => (no_row lo hi (tw t.val) r).elim,
   fun t r => (no_row lo hi (tw t.val) r).elim,
   fun t r => (no_row lo hi (tw t.val) r).elim,
   fun t r => (no_row lo hi (tw t.val) r).elim,
   fun t r => (no_row lo hi (tw t.val) r).elim,
   fun t r => (no_row lo hi (tw t.val) r).elim,
   fun t r => (no_row lo hi (tw t.val) r).elim,
   fun t r => (no_row lo hi (tw t.val) r).elim,
   fun t r => (no_row lo hi (tw t.val) r).elim,
   fun t r => (no_row lo hi (tw t.val) r).elim,
   fun t r => (no_row lo hi (tw t.val) r).elim,
   fun t r => (no_row lo hi (tw t.val) r).elim,
   winRest_ok h,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim⟩

/-- Facts 64 to 87 of the body's first list. -/
theorem chk1_2 (h : Bnd lo hi) : k0_chk1_2 lo hi :=
  ⟨fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim,
   fun t => (no_win lo hi t).elim⟩

/-- The body's first list of facts holds of two bounds in order. -/
theorem chk1 (h : Bnd lo hi) : k0_chk1 lo hi := ⟨chk1_0 h, chk1_1 h, chk1_2 h⟩

/-- The second list is the first one again, of the next two bounds. -/
theorem chk2_0 (h : Bnd lo hi) : k0_chk2_0 lo hi := chk1_0 h
/-- The second part of the second graph's conditions is the first graph's, -/
theorem chk2_1 (h : Bnd lo hi) : k0_chk2_1 lo hi := chk1_1 h
/-- and so is the third part. -/
theorem chk2_2 (h : Bnd lo hi) : k0_chk2_2 lo hi := chk1_2 h
/-- What the body assumes of the second graph's rows holds. -/
theorem chk2 (h : Bnd lo hi) : k0_chk2 lo hi := ⟨chk2_0 h, chk2_1 h, chk2_2 h⟩

end Cert.KernelIdeal
-- ==== Proof.SetupI.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.ValueKit.Geometry
public import Idealize.ShloMosaic.Lib.Tactic
public import proofs.«01_k».proof.Proof.Gen.KernelIdeal
public import proofs.«01_k».proof.Proof.Gen.KernelIdeal.Skeleton
public import proofs.«01_k».proof.Proof.ChecksI

/-! # The pooling kernel as its launch sees it: buffers, pieces and the values the tiles compute.

Tile `(c, s)` of the 32 is number `w = 2 s + c` and pools graphs `2 w` and `2 w + 1`. -/

@[expose] public section

noncomputable section

namespace Cert.Proof.PoolI

open Cert.KernelIdeal Cert.KernelIdeal.Gen
open Cert.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

/-- The labels of the program, -/
abbrev ΛP : Labels := Pipeline.Sig Λ₀ (Fin 0) fun p => (pcfgs (F := F) p).Adm
/-- its SparseCore configuration, -/
abbrev K : SparseCore.Cfg τ sig (ΛP (F := F)) 1 := sc (F := F)
/-- The call runs on sixteen tiles of a core. -/
theorem nSub_zero : (K (F := F)).nSub 0 = 16 := rfl
/-- The program's bodies, -/
abbrev D [FloatOps F] : Defs nD τ sig (Elt F) (ΛP (F := F)) := Pipeline.defs pcfgs defs₀
/-- no loop of which needs a measure; -/
abbrev 𝒱₀ : Variants := Variants.none
/-- the same with the call's, -/
abbrev 𝒱 : Variants := 𝒱₀.lift
/-- and the one there is. -/
abbrev v₀ : 𝒱.V := Sum.inl none

/-- The configuration is well formed. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' ghost state, -/
abbrev UH : Type := URounds (GSem nD τ sig) ℕ
/-- with the counters beside it, -/
abbrev UU : Type := UH × Counters

/-- The resources the proof speaks of. -/
abbrev MM (F : FTy → Type) : Type := MT nD τ sig (HIx 1) (Elt F) ℕ UU ℕ

local notation "𝕄" => MT nD τ sig (HIx 1) (Elt F) ℕ UU ℕ

/-- and its place in the whole. -/
abbrev EH : Emb UH (MT nD τ sig (HIx 1) (Elt F) ℕ UU ℕ) := embL

/-! ## The tile, its buffers and their pieces -/

/-- A tile's core, -/
abbrev cV (L : grid0.Coords) : Fin τ.nSC := (L 0).castLE hcore0
/-- and its number there. -/
abbrev jV (L : grid0.Coords) : Fin τ.nSub := (L 1).castLE hsub0

/-- The rows, the batch's graph numbers and the means, and a tile's copies of the numbers, of two windows of rows and of its
    two means. -/
abbrev xW : Memref sig Kind.scVector Space.hbm S10000x256 EltTy.f32 := Memref.whole main_arg0_scv
/-- the graph numbers, -/
abbrev bW : Memref sig Kind.scVector Space.hbm S10000 EltTy.i32 := Memref.whole main_arg2_scv
/-- the means; -/
abbrev oW : Memref sig Kind.scVector Space.hbm S64x256 EltTy.f32 := Memref.whole main_v0_scv
/-- and its scratch: its copy of the graph numbers, -/
abbrev w5 : Memref sig Kind.scVector Space.vmem S10000 EltTy.i32 := Memref.whole cc0_scratch0
/-- the two slots for windows, -/
abbrev w6 : Memref sig Kind.scVector Space.vmem S2x160x256 EltTy.f32 := Memref.whole cc0_scratch1
/-- and the two rows of means. -/
abbrev w7 : Memref sig Kind.scVector Space.vmem S2x256 EltTy.f32 := Memref.whole cc0_scratch2

/-- Slot `p` of the two windows. -/
abbrev slotM {p : ℕ} (hp : p < 2) : Memref sig .scVector .vmem S160x256 .f32 :=
  (w6.slice (Rect.unit (s := S2x160x256) ![p, 0, 0] S1x160x256.size (slot_inb hp)) (fun _ => rfl)).squeeze S160x256 squeezes_S1x160x256_S160x256
/-- The 160 rows from `b`. -/
abbrev srcM {b : ℕ} (hb : b + 160 ≤ 10000) : Memref sig .scVector .hbm S160x256 .f32 :=
  xW.slice (Rect.unit (s := S10000x256) ![b, 0] S160x256.size (base_inb hb)) (fun _ => rfl)
/-- The semaphore of slot `p`'s copies. -/
abbrev semM {p : ℕ} (hp : p < 2) : DmaSem sig :=
  ((cc0_scratch3.slice (Rect.unit (s := S2) ![p] S1.size (sem_inb hp))).squeeze S_ squeezes_S1_S_).sem

/-- The elements of slot `p`. -/
def slotS (p : ℕ) : Finset S2x160x256.Idx := Finset.univ.filter fun i => (i 0).val = p

/-- An element is of slot `p` when its first coordinate is `p`. -/
theorem mem_slotS {p : ℕ} {i : S2x160x256.Idx} : i ∈ slotS p ↔ (i 0).val = p := by simp [slotS]

/-- The slot that the kernel slices out is that set. -/
theorem set_slotM {p : ℕ} (hp : p < 2) : (slotM hp).view.set = slotS p := by
  rw [Memref.set_view_squeeze]
  show ((View.whole (cc0_scratch1 : Ref sig .scVector)).slice _).set = _
  rw [View.set_slice_whole]
  ext i
  rw [Rect.mem_set_unit, mem_slotS]
  constructor
  · intro h
    have := h 0
    have h1 : p ≤ (i 0).val ∧ (i 0).val < p + 1 := this
    omega
  · rintro h ⟨a, ha⟩
    match a, ha with
    | 0, _ => show p ≤ (i 0).val ∧ (i 0).val < p + 1; omega
    | 1, _ => have h1 : (i 1).val < 160 := (i 1).isLt; show 0 ≤ (i 1).val ∧ (i 1).val < 0 + 160; omega
    | 2, _ => have h1 : (i 2).val < 256 := (i 2).isLt; show 0 ≤ (i 2).val ∧ (i 2).val < 0 + 256; omega

/-! ## Values -/

/-- The index of row `r`, column `c`; both wrapped, so that every pair of numbers names one. -/
def xIdx (r c : ℕ) : S10000x256.Idx
  | ⟨0, _⟩ => ⟨r % 10000, Nat.mod_lt _ (by decide)⟩
  | ⟨1, _⟩ => ⟨c % 256, Nat.mod_lt _ (by decide)⟩

/-- The element of the rows there. -/
def xAt (X : S10000x256.Idx → Elt F .f32) (r c : ℕ) : Elt F .f32 := X (xIdx r c)

/-- A window of the rows from `b`, as a slot holds it. -/
def winAt (X : S10000x256.Idx → Elt F .f32) (b : ℕ) : S2x160x256.Idx → Elt F .f32 := fun i => xAt X (b + (i 1).val) (i 2).val

/-- Sixteen elements of row `r` from column `z`. -/
def blk (X : S10000x256.Idx → Elt F .f32) (r z : ℕ) : Vec F S1x1x16 .f32 := fun i => xAt X r (z + (i 2).val)

variable [FloatOps F]

/-- The sum of `n` rows from `lo`, at the sixteen columns from `z`: added row by row from zero. -/
def sums (X : S10000x256.Idx → Elt F .f32) (lo z : ℕ) : ℕ → FVec F S16 .f32
  | 0 => k0_pay118
  | n + 1 => k0_pay130 (sums X lo z n) (blk X (lo + n) z)

/-- A tile's sixteen sums. -/
abbrev Acc (F : FTy → Type) : Type :=
  FVec F S16 .f32 × FVec F S16 .f32 × FVec F S16 .f32 × FVec F S16 .f32 × FVec F S16 .f32 × FVec F S16 .f32 × FVec F S16 .f32 × FVec F S16 .f32
    × FVec F S16 .f32 × FVec F S16 .f32 × FVec F S16 .f32 × FVec F S16 .f32 × FVec F S16 .f32 × FVec F S16 .f32 × FVec F S16 .f32 × FVec F S16 .f32

/-- The sums of `n` rows from `lo` at all 256 columns. -/
def accAt (X : S10000x256.Idx → Elt F .f32) (lo n : ℕ) : Acc F :=
  (sums X lo 0 n, sums X lo 16 n, sums X lo 32 n, sums X lo 48 n, sums X lo 64 n, sums X lo 80 n, sums X lo 96 n, sums X lo 112 n,
    sums X lo 128 n, sums X lo 144 n, sums X lo 160 n, sums X lo 176 n, sums X lo 192 n, sums X lo 208 n, sums X lo 224 n, sums X lo 240 n)

/-! ## One row -/

section Tile

variable (d : Dev nD) (L : grid0.Coords)

/-- The tile's thread. -/
abbrev thr : Thread nD τ := V d (cV L) (jV L)

variable {d L}

/-- Sixteen elements of a row of slot `p`, which holds the window of rows from `b`. -/
theorem ld_step {X : S10000x256.Idx → Elt F .f32} {p y z b : ℕ} {off : Fin 3 → ℕ} {inb : ∀ a, off a + S1x1x16.size a ≤ S2x160x256.size a}
    (hoff : off = ![p, y, z]) {α : Type} {hl : w6.view.LoadsAt (Rect.unit (s := S2x160x256) off S1x1x16.size inb)}
    {k : Vec F S1x1x16 .f32 → Prog (TpuEff nD τ sig (Elt F) Λ₀ (thr d L).2) α} {R : sProp 𝕄} {Q : α → sProp 𝕄}
    (hk : iprop((w6.view.loc (thr d L) ↦[slotS p]{fullShare} winAt X b) ∗ R)
      ⊢ wp frame (wpE (defs₀ (F := F)) 𝒱₀ (thr d L) none) Set.univ (k (blk X (b + y) z)) Q) :
    iprop((w6.view.loc (thr d L) ↦[slotS p]{fullShare} winAt X b) ∗ R)
      ⊢ wp frame (wpE (defs₀ (F := F)) 𝒱₀ (thr d L) none) Set.univ
        (.op (.load w6 (Rect.unit (s := S2x160x256) off S1x1x16.size inb).toLoadRect hl) k) Q := by
  subst hoff
  iintro ⟨H, HR⟩
  iapply (wp_load_rect 𝒱₀ (thr d L) none Set.univ (S := slotS p) (m := w6) (r := Rect.unit (s := S2x160x256) ![p, y, z] S1x1x16.size inb)
    (by
      intro i hi
      rw [show (w6.access (Rect.unit (s := S2x160x256) ![p, y, z] S1x1x16.size inb)).set = (Rect.unit (s := S2x160x256) ![p, y, z] S1x1x16.size inb).set from
        View.set_slice_whole _ _, Rect.mem_set_unit] at hi
      have := hi 0
      have h1 : p ≤ (i 0).val ∧ (i 0).val < p + 1 := this
      rw [mem_slotS]; omega)) $$ H
  iintro H
  have e : (w6.access (Rect.unit (s := S2x160x256) ![p, y, z] S1x1x16.size inb)).read (Elt F) (winAt X b) = blk X (b + y) z := by
    funext i
    rw [View.read_apply]
    show xAt X (b + ((Rect.unit (s := S2x160x256) ![p, y, z] S1x1x16.size inb).emb i 1).val) ((Rect.unit (s := S2x160x256) ![p, y, z] S1x1x16.size inb).emb i 2).val
      = xAt X (b + y) (z + (i 2).val)
    have h1 : ((Rect.unit (s := S2x160x256) ![p, y, z] S1x1x16.size inb).emb i 1).val = y + (i 1).val := ValueKit.rect_emb_unit_val _ _ _ _ _
    have h2 : ((Rect.unit (s := S2x160x256) ![p, y, z] S1x1x16.size inb).emb i 2).val = z + (i 2).val := ValueKit.rect_emb_unit_val _ _ _ _ _
    have h3 : (i 1).val = 0 := by have : (i 1).val < 1 := (i 1).isLt; omega
    rw [h1, h2, h3]; rfl
  rw [e]
  iapply hk
  isplitl [H] <;> iassumption

variable {lo hi : BitVec 32}

/-- One trip of the loop over a window's rows adds row `fromN + r` to the sums. -/
theorem row_trip (h : Bnd lo hi) {hw : k0_chk1 lo hi} (X : S10000x256.Idx → Elt F .f32) (v11 : IVec S16 32) (v104 : IVec S1 32)
    (t : Fin (k0_t2_loop lo hi).trips) (v345 v365 : BitVec 32) (r : Fin (k0_t3_loop lo hi t).trips) (n : ℕ)
    (hn : lo.toNat + n = fromN lo.toNat t.val + r.val) {R : sProp 𝕄} {Q : Acc F → sProp 𝕄}
    (hQ : iprop((w6.view.loc (thr d L) ↦[slotS (t.val % 2)]{fullShare} winAt X (baseN lo.toNat t.val)) ∗ R) ⊢ Q (accAt X lo.toNat (n + 1))) :
    iprop((w6.view.loc (thr d L) ↦[slotS (t.val % 2)]{fullShare} winAt X (baseN lo.toNat t.val)) ∗ R)
      ⊢ wp frame (wpE (defs₀ (F := F)) 𝒱₀ (thr d L) none) Set.univ
        (k0_t3_body L xW (Memref.isWhole_whole _) bW (Memref.isWhole_whole _) oW (Memref.isWhole_whole _) w5 (Memref.isWhole_whole _)
          w6 (Memref.isWhole_whole _) w7 (Memref.isWhole_whole _) cc0_scratch3 cc0_scoped0 cc0_scoped1 v11 lo hi hw v104 t v345 v365 r (accAt X lo.toNat n)) Q := by
  have ht := t_lt h t
  have hy := row_nat h ht r.isLt
  have hf := rows_facts h ht
  have hy' : baseN lo.toNat t.val + (Scf.iv (rowLb lo (tw t.val)) 1#32 r.val).toNat = lo.toNat + n := by rw [hy]; omega
  have hp : (Scalar.andi (tw t.val) 1#32).toNat = t.val % 2 := slot_nat (by have := (win_facts h ht).2.2; omega)
  have off : ∀ z : ℕ, (![(Scalar.andi (tw t.val) 1#32).toNat, (Scf.iv (rowLb lo (tw t.val)) 1#32 r.val).toNat, z] : Fin 3 → ℕ)
      = ![t.val % 2, (Scf.iv (rowLb lo (tw t.val)) 1#32 r.val).toNat, z] := fun z => by rw [hp]
  refine ld_step (off 0) ?_
  refine ld_step (off 16) ?_
  refine ld_step (off 32) ?_
  refine ld_step (off 48) ?_
  refine ld_step (off 64) ?_
  refine ld_step (off 80) ?_
  refine ld_step (off 96) ?_
  refine ld_step (off 112) ?_
  refine ld_step (off 128) ?_
  refine ld_step (off 144) ?_
  refine ld_step (off 160) ?_
  refine ld_step (off 176) ?_
  refine ld_step (off 192) ?_
  refine ld_step (off 208) ?_
  refine ld_step (off 224) ?_
  refine ld_step (off 240) ?_
  rw [hy']
  exact hQ.trans (le_wp_ret _ _ _ (accAt X lo.toNat (n + 1)) Q)

end Tile

end Cert.Proof.PoolI
-- ==== Proof.WindowI.lean ====
module

public import Idealize.ShloMosaic.Lib.ValueLayout
public import Idealize.ShloMosaic.Lib.ViewIndex
public import proofs.«01_k».proof.Proof.SetupI

/-! # One graph's windows: the copies of the rows and the loop that adds them.

The windows of a graph's rows alternate between the two slots: while the rows of one are added the next is fetched into the other. -/

@[expose] public section

noncomputable section

namespace Cert.Proof.PoolI

open Cert.KernelIdeal Cert.KernelIdeal.Gen
open Cert.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The body of the first graph's loop over the windows is the second's. -/
theorem t8_eq [FloatOps F] (L : grid0.Coords) (lo hi : BitVec 32) (hw1 : k0_chk1 lo hi) (hw2 : k0_chk2 lo hi) (v11 : IVec S16 32) (v104 : IVec S1 32)
    (v110 : BitVec 32) (v108 v141_15 v146 v217 : FVec F S16 .f32) (v219 : Vec F S1x16 .f32) (v228 : BitVec 32) (hv : v110 = v228) :
    k0_t8_body (F := F) L xW (Memref.isWhole_whole _) bW (Memref.isWhole_whole _) oW (Memref.isWhole_whole _) w5 (Memref.isWhole_whole _)
          w6 (Memref.isWhole_whole _) w7 (Memref.isWhole_whole _) cc0_scratch3 cc0_scoped0 cc0_scoped1 lo hi hw2 v108 v141_15 v146 v217 v219 v228
      = k0_t2_body L xW (Memref.isWhole_whole _) bW (Memref.isWhole_whole _) oW (Memref.isWhole_whole _) w5 (Memref.isWhole_whole _)
          w6 (Memref.isWhole_whole _) w7 (Memref.isWhole_whole _) cc0_scratch3 cc0_scoped0 cc0_scoped1 v11 lo hi hw1 v104 v110 := by
  subst hv; rfl

/-- A number's parity names a slot. -/
theorem mod2 (p : ℕ) : p % 2 < 2 := Nat.mod_lt p (by decide)

/-- A loop without trips is its initial values. -/
theorem wp_for_none {σ : Type} {thr : Thread nD τ} [FloatOps F] (l : Scf.Loop 32) (hok : l.OK) (h0 : l.trips = 0) (init : σ)
    (body : Fin l.trips → σ → Prog (TpuEff nD τ sig (Elt F) Λ₀ thr.2) σ) {Q : σ → sProp 𝕄} :
    Q init ⊢ wp frame (wpE (defs₀ (F := F)) 𝒱₀ thr none) Set.univ (Scf.Loop.for l hok init body) Q := by
  iintro H
  iapply (Scf.wp_for frame _ Set.univ l.lb l.ub l.st hok init body (fun _ acc => iprop(⌜acc = init⌝ ∗ Q init))
    (fun k _ => absurd k.isLt (by have : Scf.trips l.lb l.ub l.st = 0 := h0; omega)))
  isplitl [H]
  · isplitr [H]
    · ipureintro; rfl
    · iexact H
  · iintro %acc ⟨%e, H⟩
    subst e
    iexact H

/-! ## A copy into a slot -/

section Tile

variable [FloatOps F] {d : Dev nD} {L : grid0.Coords}

/-- A slot nothing is read from: at any contents. -/
def slotE (d : Dev nD) (L : grid0.Coords) (p : ℕ) : sProp 𝕄 := iprop(∃ f, w6.view.loc (thr d L) ↦[slotS p]{fullShare} f)
/-- Slot `p % 2`'s semaphore at rest. -/
abbrev sem0 (d : Dev nD) (L : grid0.Coords) (p : ℕ) : sProp 𝕄 := semVal (thr d L, .dma (semM (mod2 p))) 0

/-- The rows, read by this tile at share `q`. -/
abbrev xPts (d : Dev nD) (L : grid0.Coords) (q : PosShare TreeShare) (X : S10000x256.Idx → Elt F .f32) (S : Finset S10000x256.Idx) : sProp 𝕄 :=
  xW.view.loc (thr d L) ↦[S]{q} X

/-- A slot reads, at a row and a column of its own, the window it holds. -/
theorem read_slot (X : S10000x256.Idx → Elt F .f32) {p b : ℕ} (hp : p < 2) (hb : b + 160 ≤ 10000) :
    (slotM hp).view.read (Elt F) (winAt X b) = (srcM hb).view.read (Elt F) X := by
  have e : (slotM hp).view.read (Elt F) (winAt X b) = shapeCast S160x256
      (w6.view.readAt (Elt F) (Rect.unit (s := S2x160x256) ![p, 0, 0] S1x160x256.size (slot_inb hp)).toLoadRect (winAt X b)) squeezes_S1x160x256_S160x256.numel_eq := rfl
  funext j
  rw [e, ValueIdx.eq_ix2 j]
  refine (ValueIdx.shapeCast_1ab_ab_apply _ _ (j 0) (j 1)).trans ?_
  show xAt X (b + ((Rect.unit (s := S2x160x256) ![p, 0, 0] S1x160x256.size (slot_inb hp)).emb (ValueIdx.ix3 0 (j 0) (j 1)) 1).val)
      ((Rect.unit (s := S2x160x256) ![p, 0, 0] S1x160x256.size (slot_inb hp)).emb (ValueIdx.ix3 0 (j 0) (j 1)) 2).val
    = X ((Rect.unit (s := S10000x256) ![b, 0] S160x256.size (base_inb hb)).emb (ValueIdx.ix2 (j 0) (j 1)))
  have h1 : ((Rect.unit (s := S2x160x256) ![p, 0, 0] S1x160x256.size (slot_inb hp)).emb (ValueIdx.ix3 0 (j 0) (j 1)) 1).val = 0 + (j 0).val :=
    ValueKit.rect_emb_unit_val _ _ _ _ _
  have h2 : ((Rect.unit (s := S2x160x256) ![p, 0, 0] S1x160x256.size (slot_inb hp)).emb (ValueIdx.ix3 0 (j 0) (j 1)) 2).val = 0 + (j 1).val :=
    ValueKit.rect_emb_unit_val _ _ _ _ _
  have h3 : ((Rect.unit (s := S10000x256) ![b, 0] S160x256.size (base_inb hb)).emb (ValueIdx.ix2 (j 0) (j 1)) 0).val = b + (j 0).val :=
    ValueKit.rect_emb_unit_val _ _ _ _ _
  have h4 : ((Rect.unit (s := S10000x256) ![b, 0] S160x256.size (base_inb hb)).emb (ValueIdx.ix2 (j 0) (j 1)) 1).val = 0 + (j 1).val :=
    ValueKit.rect_emb_unit_val _ _ _ _ _
  rw [h1, h2]
  have hj0 : (j 0).val < 160 := (j 0).isLt
  have hj1 : (j 1).val < 256 := (j 1).isLt
  refine congrArg X (funext fun a => Fin.ext ?_)
  match a with
  | ⟨0, _⟩ => rw [show ((⟨0, _⟩ : Fin S10000x256.rank)) = 0 from rfl, h3]; show (b + (0 + (j 0).val)) % 10000 = _; omega
  | ⟨1, _⟩ => rw [show ((⟨1, _⟩ : Fin S10000x256.rank)) = 1 from rfl, h4]; show (0 + (j 1).val) % 256 = _; omega

/-- A copy of the 160 rows from `b` into a slot leaves those rows there. -/
theorem write_slot (X f : S10000x256.Idx → Elt F .f32) {p b : ℕ} (hp : p < 2) (hb : b + 160 ≤ 10000) (f : S2x160x256.Idx → Elt F .f32) :
    ∀ i ∈ slotS p, (slotM hp).view.write (Elt F) f ((srcM hb).view.read (Elt F) X) Finset.univ i = winAt X b i := by
  intro i hi
  rw [← set_slotM hp] at hi
  obtain ⟨x, -, rfl⟩ := Finset.mem_map.mp hi
  refine View.eq_of_read_eq (v := (slotM hp).view) ?_
  rw [View.read_write_univ, read_slot]

/-- A copy of the rows from `b` into slot `p`, in flight. -/
def busy (d : Dev nD) (L : grid0.Coords) (q : PosShare TreeShare) (X : S10000x256.Idx → Elt F .f32) (p b : ℕ) : sProp 𝕄 :=
  iprop(∃ hb : b + 160 ≤ 10000,
    Transfers.Flight (countersEmb (U := UU)) (thr d L) (.dma (semM (mod2 p))) (none : HIx 1)
      (slotM (mod2 p)).view.dmaCredit
      iprop((w6.view.loc (thr d L) ↦[slotS (p % 2)]{fullShare} winAt X b) ∗ xPts d L q X (srcM hb).view.set)
    ∗ xPts d L q X (Finset.univ \ (srcM hb).view.set))

/-- Starting one. -/
theorem wp_start {q : PosShare TreeShare} {X : S10000x256.Idx → Elt F .f32} {p b : ℕ} (hb : b + 160 ≤ 10000)
    {offD : Fin 3 → ℕ} {inbD : ∀ a, offD a + S1x160x256.size a ≤ S2x160x256.size a} (hD : offD = ![p % 2, 0, 0])
    {offS : Fin 2 → ℕ} {inbS : ∀ a, offS a + S160x256.size a ≤ S10000x256.size a} (hS : offS = ![b, 0])
    {offM : Fin 1 → ℕ} {inbM : ∀ a, offM a + S1.size a ≤ S2.size a} (hM : offM = ![p % 2])
    {hsrc : (xW.slice (Rect.unit (s := S10000x256) offS S160x256.size inbS) (fun _ => rfl)).view.WordExact}
    {hdst : ((w6.slice (Rect.unit (s := S2x160x256) offD S1x160x256.size inbD) (fun _ => rfl)).squeeze S160x256 squeezes_S1x160x256_S160x256).view.WordExact}
    {hsem} {α : Type} {k : PUnit → Prog (TpuEff nD τ sig (Elt F) Λ₀ (thr d L).2) α} {Q : α → sProp 𝕄} {R : sProp 𝕄}
    (hk : iprop(busy d L q X p b ∗ R) ⊢ wp frame (wpE (defs₀ (F := F)) 𝒱₀ (thr d L) none) Set.univ (k ⟨⟩) Q) :
    iprop((slotE d L (p % 2) ∗ sem0 d L p ∗ xPts d L q X Finset.univ) ∗ R)
      ⊢ wp frame (wpE (defs₀ (F := F)) 𝒱₀ (thr d L) none) Set.univ
        (.op (.enqueueDma (xW.slice (Rect.unit (s := S10000x256) offS S160x256.size inbS) (fun _ => rfl))
          (.here ((w6.slice (Rect.unit (s := S2x160x256) offD S1x160x256.size inbD) (fun _ => rfl)).squeeze S160x256 squeezes_S1x160x256_S160x256))
          (.dma ((cc0_scratch3.slice (Rect.unit (s := S2) offM S1.size inbM)).squeeze S_ squeezes_S1_S_).sem) hsrc hdst hsem) k) Q := by
  subst hD hS hM
  unfold slotE
  iintro ⟨⟨⟨%f, Hw⟩, Hs, Hx⟩, HR⟩
  ihave Hx2 := (pointsTo_split_subset (Finset.subset_univ (srcM hb).view.set)).1 $$ Hx
  icases Hx2 with ⟨Hx1, Hxr⟩
  iapply (Transfers.wp_dmaLocal (countersEmb (U := UU)) 𝒱₀ (thr d L) none (src := srcM hb) (dst := slotM (mod2 p))
    (sm := .dma (semM (mod2 p))) (fs := X) (fd := f) (Sd := slotS (p % 2)) (none : HIx 1)
    (slotM (mod2 p)).view.dmaCredit rfl
    (View.amount_pos _ (.dma (semM (mod2 p))) (show 0 < S160x256.numel by decide)) (by rw [set_slotM])) $$ [Hx1 Hw Hs]
  · isplitl [Hx1]; · iexact Hx1
    isplitl [Hw]; · iexact Hw
    iexact Hs
  iintro HF
  iapply hk
  isplitr [HR]
  · unfold busy
    iexists hb
    isplitl [HF]
    · iapply (Transfers.Flight_mono (countersEmb (U := UU)) (thr d L) (sep_mono_left (Entails.of_eq (pointsTo_congr (write_slot X X (mod2 p) hb f)))))
      iexact HF
    · iexact Hxr
  · iexact HR

/-- Waiting for it. -/
theorem wp_finish {q : PosShare TreeShare} {X : S10000x256.Idx → Elt F .f32} {p b : ℕ} {O : CellTallies nD τ sig (HIx 1)} {W : Waits sig (HIx 1)}
    {offD : Fin 3 → ℕ} {inbD : ∀ a, offD a + S1x160x256.size a ≤ S2x160x256.size a}
    {offS : Fin 2 → ℕ} {inbS : ∀ a, offS a + S160x256.size a ≤ S10000x256.size a}
    {offM : Fin 1 → ℕ} {inbM : ∀ a, offM a + S1.size a ≤ S2.size a} (hM : offM = ![p % 2])
    {hsrc : (xW.slice (Rect.unit (s := S10000x256) offS S160x256.size inbS) (fun _ => rfl)).view.WordExact}
    {hdst : ((w6.slice (Rect.unit (s := S2x160x256) offD S1x160x256.size inbD) (fun _ => rfl)).squeeze S160x256 squeezes_S1x160x256_S160x256).view.WordExact}
    {α : Type} {k : PUnit → Prog (TpuEff nD τ sig (Elt F) Λ₀ (thr d L).2) α} {Q : α → sProp 𝕄} {R : sProp 𝕄}
    (hk : iprop(((w6.view.loc (thr d L) ↦[slotS (p % 2)]{fullShare} winAt X b) ∗ sem0 d L p ∗ xPts d L q X Finset.univ)
        ∗ Transfers.MayWaits (thr d L) (none : HIx 1) O ∗ owes (thr d L) O (insert (SemLoc.dma (semM (mod2 p)), none) W) ∗ R)
      ⊢ wp frame (wpE (defs₀ (F := F)) 𝒱₀ (thr d L) none) Set.univ (k ⟨⟩) Q) :
    iprop(busy d L q X p b ∗ Transfers.MayWaits (thr d L) (none : HIx 1) O ∗ owes (thr d L) O W ∗ R)
      ⊢ wp frame (wpE (defs₀ (F := F)) 𝒱₀ (thr d L) none) Set.univ
        (.op (.waitDma2 ((cc0_scratch3.slice (Rect.unit (s := S2) offM S1.size inbM)).squeeze S_ squeezes_S1_S_).sem
          (xW.slice (Rect.unit (s := S10000x256) offS S160x256.size inbS) (fun _ => rfl))
          ((w6.slice (Rect.unit (s := S2x160x256) offD S1x160x256.size inbD) (fun _ => rfl)).squeeze S160x256 squeezes_S1x160x256_S160x256)
          hsrc hdst) k) Q := by
  subst hM
  unfold busy
  iintro ⟨⟨%hb, HF, Hxr⟩, #Hmw, HO, HR⟩
  ihave Hm := (Transfers.MayWaits.elim (SemLoc.dma (semM (mod2 p)))) $$ Hmw
  iapply (Transfers.wp_waitLocalO (countersEmb (U := UU)) 𝒱₀ (thr d L) none (none : HIx 1) rfl) $$ [HF HO Hm]
  · isplitl [HF]; · iexact HF
    isplitl [HO]; · iexact HO
    iexact Hm
  iintro ⟨⟨Hw, Hx⟩, Hs, HO⟩
  iapply hk
  isplitr [HO HR]
  · isplitl [Hw]; · iexact Hw
    isplitl [Hs]; · iexact Hs
    iapply (pointsTo_split_subset (Finset.subset_univ (srcM hb).view.set)).2
    isplitl [Hx] <;> iassumption
  · isplitr [HO HR]; · iexact Hmw
    isplitl [HO] <;> iassumption

end Tile

end Cert.Proof.PoolI
-- ==== Proof.SegmentI.lean ====
module

public import proofs.«01_k».proof.Proof.WindowI

/-! # One graph's sums: the loops over its windows and over each window's rows.

After `i` windows the sums hold the first `done lo hi i` rows of the graph; window `i`, if there is one, is on its way. -/

@[expose] public section

set_option maxHeartbeats 4000000

noncomputable section

namespace Cert.Proof.PoolI

open Cert.KernelIdeal Cert.KernelIdeal.Gen
open Cert.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- How many of the graph's rows the first `i` windows hold. -/
def done (lo hi i : ℕ) : ℕ := min hi (startN lo i) - lo

section Tile

variable [FloatOps F] {d : Dev nD} {L : grid0.Coords} {lo hi : BitVec 32}

/-- No copy in flight. -/
def idle (d : Dev nD) (L : grid0.Coords) (q : PosShare TreeShare) (X : S10000x256.Idx → Elt F .f32) : sProp 𝕄 :=
  iprop(slotE d L 0 ∗ slotE d L 1 ∗ sem0 d L 0 ∗ sem0 d L 1 ∗ xPts d L q X Finset.univ)

/-- The copies before window `i` of `n`. -/
def ahead (d : Dev nD) (L : grid0.Coords) (q : PosShare TreeShare) (X : S10000x256.Idx → Elt F .f32) (lo n i : ℕ) : sProp 𝕄 :=
  if i < n then iprop(busy d L q X i (baseN lo i) ∗ slotE d L ((i + 1) % 2) ∗ sem0 d L (i + 1)) else idle d L q X

/-- What the tile owes, having waited on its own copies only. -/
def owing (d : Dev nD) (L : grid0.Coords) (O : CellTallies nD τ sig (HIx 1)) (W : Waits sig (HIx 1)) : sProp 𝕄 :=
  iprop(∃ W', ⌜∀ p ∈ W', p ∈ W ∨ p.2 = none⌝ ∗ owes (thr d L) O W')

/-- A free slot named by an equal number is the same slot. -/
theorem slotE_congr {a b : ℕ} (h : a = b) : (slotE d L a : sProp 𝕄) ⊢ slotE d L b := by subst h; exact .rfl
/-- A semaphore named by an equal number is the same semaphore. -/
theorem sem_eq {a b : ℕ} (h : a = b) (ha : a < 2) (hb : b < 2) : semM ha = semM hb := by subst h; rfl
/-- A semaphore at zero, named by a number of the same parity, is the same one. -/
theorem sem0_congr {a b : ℕ} (h : a % 2 = b % 2) : (sem0 d L a : sProp 𝕄) ⊢ sem0 d L b := by
  unfold sem0; rw [sem_eq h (mod2 a) (mod2 b)]

/-- Both slots free, in either order. -/
theorem idle_of {q : PosShare TreeShare} {X : S10000x256.Idx → Elt F .f32} (i : ℕ) :
    iprop(slotE d L (i % 2) ∗ sem0 d L i ∗ slotE d L ((i + 1) % 2) ∗ sem0 d L (i + 1) ∗ xPts d L q X Finset.univ) ⊢ idle (F := F) d L q X := by
  unfold idle
  rcases Nat.mod_two_eq_zero_or_one i with h | h
  · iintro ⟨Ha, Hsa, Hb, Hsb, Hx⟩
    isplitl [Ha]; · iapply (slotE_congr h); iexact Ha
    isplitl [Hb]; · iapply (slotE_congr (show (i + 1) % 2 = 1 by omega)); iexact Hb
    isplitl [Hsa]; · iapply (sem0_congr (show i % 2 = 0 % 2 by omega)); iexact Hsa
    isplitl [Hsb]; · iapply (sem0_congr (show (i + 1) % 2 = 1 % 2 by omega)); iexact Hsb
    iexact Hx
  · iintro ⟨Ha, Hsa, Hb, Hsb, Hx⟩
    isplitl [Hb]; · iapply (slotE_congr (show (i + 1) % 2 = 0 by omega)); iexact Hb
    isplitl [Ha]; · iapply (slotE_congr h); iexact Ha
    isplitl [Hsb]; · iapply (sem0_congr (show (i + 1) % 2 = 0 % 2 by omega)); iexact Hsb
    isplitl [Hsa]; · iapply (sem0_congr (show i % 2 = 1 % 2 by omega)); iexact Hsa
    iexact Hx

/-- The loop over the rows of window `t`. -/
theorem row_loop (h : Bnd lo hi) {hw : k0_chk1 lo hi} (X : S10000x256.Idx → Elt F .f32) (v11 : IVec S16 32) (v104 : IVec S1 32)
    (t : Fin (k0_t2_loop lo hi).trips) (v345 v365 : BitVec 32) (hok : (k0_t3_loop lo hi t).OK) :
    (w6.view.loc (thr d L) ↦[slotS (t.val % 2)]{fullShare} winAt X (baseN lo.toNat t.val) : sProp 𝕄)
      ⊢ wp frame (wpE (defs₀ (F := F)) 𝒱₀ (thr d L) none) Set.univ
        (Scf.Loop.for (k0_t3_loop lo hi t) hok (accAt X lo.toNat (done lo.toNat hi.toNat t.val))
          (k0_t3_body L xW (Memref.isWhole_whole _) bW (Memref.isWhole_whole _) oW (Memref.isWhole_whole _) w5 (Memref.isWhole_whole _)
          w6 (Memref.isWhole_whole _) w7 (Memref.isWhole_whole _) cc0_scratch3 cc0_scoped0 cc0_scoped1 v11 lo hi hw v104 t v345 v365))
        fun acc => iprop(⌜acc = accAt X lo.toNat (done lo.toNat hi.toNat (t.val + 1))⌝
          ∗ (w6.view.loc (thr d L) ↦[slotS (t.val % 2)]{fullShare} winAt X (baseN lo.toNat t.val))) := by
  have ht := t_lt h t
  have hf := rows_facts h ht
  have hs := win_facts h ht
  have htr := rowLoop_trips h ht
  have hd : lo.toNat + done lo.toNat hi.toNat t.val = fromN lo.toNat t.val := by unfold done fromN; omega
  have hd' : done lo.toNat hi.toNat (t.val + 1) = done lo.toNat hi.toNat t.val + (k0_t3_loop lo hi t).trips := by
    rw [show (k0_t3_loop lo hi t).trips = _ from htr]
    unfold done toN fromN startN at *; omega
  refine BIBase.Entails.trans ?_ (Scf.wp_for frame _ Set.univ _ _ _ hok _ _
    (fun k acc => iprop((w6.view.loc (thr d L) ↦[slotS (t.val % 2)]{fullShare} winAt X (baseN lo.toNat t.val))
      ∗ ⌜acc = accAt X lo.toNat (done lo.toNat hi.toNat t.val + k)⌝)) (fun r acc => ?_))
  · iintro H
    isplitl [H]
    · isplitl [H]
      · iexact H
      · ipureintro; rfl
    · iintro %acc ⟨H, %e⟩
      isplitr [H]
      · ipureintro; rw [e, hd']
      · iexact H
  · iintro ⟨H, %e⟩
    subst e
    iapply (row_trip h (hw := hw) X v11 v104 t v345 v365 r (done lo.toNat hi.toNat t.val + r.val) (by omega)
      (R := iprop(emp)) (Q := fun acc => iprop((w6.view.loc (thr d L) ↦[slotS (t.val % 2)]{fullShare} winAt X (baseN lo.toNat t.val))
      ∗ ⌜acc = accAt X lo.toNat (done lo.toNat hi.toNat t.val + (r.val + 1))⌝)) (by
        iintro ⟨H, -⟩
        isplitl [H]
        · iexact H
        · ipureintro; rfl))
    isplitl [H]
    · iexact H
    · iempintro

/-- A branch whose condition holds, -/
theorem wp_dif_pos {α : Type} {c : Prop} [Decidable c] (hc : c) {t : c → Prog (TpuEff nD τ sig (Elt F) Λ₀ (thr d L).2) α} {e : ¬ c → Prog (TpuEff nD τ sig (Elt F) Λ₀ (thr d L).2) α}
    {H : sProp 𝕄} {Q : α → sProp 𝕄} (h : H ⊢ wp frame (wpE (defs₀ (F := F)) 𝒱₀ (thr d L) none) Set.univ (t hc) Q) :
    H ⊢ wp frame (wpE (defs₀ (F := F)) 𝒱₀ (thr d L) none) Set.univ (dite c t e) Q := by rw [dif_pos hc]; exact h
/-- and one whose condition does not. -/
theorem wp_dif_neg {α : Type} {c : Prop} [Decidable c] (hc : ¬ c) {t : c → Prog (TpuEff nD τ sig (Elt F) Λ₀ (thr d L).2) α} {e : ¬ c → Prog (TpuEff nD τ sig (Elt F) Λ₀ (thr d L).2) α}
    {H : sProp 𝕄} {Q : α → sProp 𝕄} (h : H ⊢ wp frame (wpE (defs₀ (F := F)) 𝒱₀ (thr d L) none) Set.univ (e hc) Q) :
    H ⊢ wp frame (wpE (defs₀ (F := F)) 𝒱₀ (thr d L) none) Set.univ (dite c t e) Q := by rw [dif_neg hc]; exact h

/-- A loop without trips before the rest of a program. -/
theorem wp_none_bind {σ β : Type} (l : Scf.Loop 32) {hok : l.OK} (h0 : l.trips = 0) {init : σ}
    {body : Fin l.trips → σ → Prog (TpuEff nD τ sig (Elt F) Λ₀ (thr d L).2) σ} {kk : σ → Prog (TpuEff nD τ sig (Elt F) Λ₀ (thr d L).2) β}
    {H : sProp 𝕄} {Q : β → sProp 𝕄} (h : H ⊢ wp frame (wpE (defs₀ (F := F)) 𝒱₀ (thr d L) none) Set.univ (kk init) Q) :
    H ⊢ wp frame (wpE (defs₀ (F := F)) 𝒱₀ (thr d L) none) Set.univ (Scf.Loop.for l hok init body >>= kk) Q := by
  rw [wp_bind]; exact h.trans (wp_for_none l hok h0 init body (Q := fun a => wp frame (wpE (defs₀ (F := F)) 𝒱₀ (thr d L) none) Set.univ (kk a) Q))

/-- The loop over a window's rows before the rest of a program. -/
theorem row_loop_bind (h : Bnd lo hi) {hw : k0_chk1 lo hi} {X : S10000x256.Idx → Elt F .f32} {v11 : IVec S16 32} {v104 : IVec S1 32}
    {t : Fin (k0_t2_loop lo hi).trips} {v345 v365 : BitVec 32} {hok : (k0_t3_loop lo hi t).OK} {β : Type}
    {kk : Acc F → Prog (TpuEff nD τ sig (Elt F) Λ₀ (thr d L).2) β} {R : sProp 𝕄} {Q : β → sProp 𝕄}
    (hk : iprop((w6.view.loc (thr d L) ↦[slotS (t.val % 2)]{fullShare} winAt X (baseN lo.toNat t.val)) ∗ R)
      ⊢ wp frame (wpE (defs₀ (F := F)) 𝒱₀ (thr d L) none) Set.univ (kk (accAt X lo.toNat (done lo.toNat hi.toNat (t.val + 1)))) Q) :
    iprop((w6.view.loc (thr d L) ↦[slotS (t.val % 2)]{fullShare} winAt X (baseN lo.toNat t.val)) ∗ R)
      ⊢ wp frame (wpE (defs₀ (F := F)) 𝒱₀ (thr d L) none) Set.univ
        (Scf.Loop.for (k0_t3_loop lo hi t) hok (accAt X lo.toNat (done lo.toNat hi.toNat t.val))
          (k0_t3_body L xW (Memref.isWhole_whole _) bW (Memref.isWhole_whole _) oW (Memref.isWhole_whole _) w5 (Memref.isWhole_whole _)
          w6 (Memref.isWhole_whole _) w7 (Memref.isWhole_whole _) cc0_scratch3 cc0_scoped0 cc0_scoped1 v11 lo hi hw v104 t v345 v365) >>= kk) Q := by
  rw [wp_bind]
  iintro ⟨H, HR⟩
  ihave Hl := (row_loop h (hw := hw) X v11 v104 t v345 v365 hok) $$ H
  iapply (wp_wand_r frame _ Set.univ)
  isplitl [Hl]
  · iexact Hl
  · iintro %acc ⟨%e, H⟩
    subst e
    iapply hk
    isplitl [H] <;> iassumption

/-- The state before window `i`. -/
def winInv (d : Dev nD) (L : grid0.Coords) (q : PosShare TreeShare) (X : S10000x256.Idx → Elt F .f32) (O : CellTallies nD τ sig (HIx 1))
    (W : Waits sig (HIx 1)) (lo hi i : ℕ) (acc : Acc F) : sProp 𝕄 :=
  iprop(ahead d L q X lo (nWin lo hi) i ∗ Transfers.MayWaits (thr d L) (none : HIx 1) O ∗ owing d L O W ∗ ⌜acc = accAt X lo (done lo hi i)⌝)

/-- One window. -/
theorem win_trip (h : Bnd lo hi) {hw : k0_chk1 lo hi} (q : PosShare TreeShare) (X : S10000x256.Idx → Elt F .f32)
    (O : CellTallies nD τ sig (HIx 1)) (W : Waits sig (HIx 1)) (v11 : IVec S16 32) (v104 : IVec S1 32) (v110 : BitVec 32)
    (t : Fin (k0_t2_loop lo hi).trips) (acc : Acc F) :
    (winInv d L q X O W lo.toNat hi.toNat t.val acc : sProp 𝕄)
      ⊢ wp frame (wpE (defs₀ (F := F)) 𝒱₀ (thr d L) none) Set.univ
        (k0_t2_body L xW (Memref.isWhole_whole _) bW (Memref.isWhole_whole _) oW (Memref.isWhole_whole _) w5 (Memref.isWhole_whole _)
          w6 (Memref.isWhole_whole _) w7 (Memref.isWhole_whole _) cc0_scratch3 cc0_scoped0 cc0_scoped1 v11 lo hi hw v104 v110 t acc)
        (winInv d L q X O W lo.toNat hi.toNat (t.val + 1)) := by
  have ht := t_lt h t
  obtain ⟨-, -, h63⟩ := win_facts h ht
  have hp : (Scalar.andi (tw t.val) 1#32).toNat = t.val % 2 := slot_nat (by omega)
  have hp' : (Scalar.andi (Scalar.addi (tw t.val) 1#32) 1#32).toNat = (t.val + 1) % 2 := slot_succ_nat h63
  have hb' : (base lo (Scalar.addi (tw t.val) 1#32)).toNat = baseN lo.toNat (t.val + 1) := by
    rw [base_nat h (by rw [tw_succ_nat h63]; omega), tw_succ_nat h63]
  have key : ∀ W' : Waits sig (HIx 1), (∀ p ∈ W', p ∈ W ∨ p.2 = none) →
      (iprop(busy d L q X t.val (baseN lo.toNat t.val) ∗ Transfers.MayWaits (thr d L) (none : HIx 1) O ∗ owes (thr d L) O W'
          ∗ slotE d L ((t.val + 1) % 2) ∗ sem0 d L (t.val + 1)) : sProp 𝕄)
        ⊢ wp frame (wpE (defs₀ (F := F)) 𝒱₀ (thr d L) none) Set.univ
          (k0_t2_body L xW (Memref.isWhole_whole _) bW (Memref.isWhole_whole _) oW (Memref.isWhole_whole _) w5 (Memref.isWhole_whole _)
          w6 (Memref.isWhole_whole _) w7 (Memref.isWhole_whole _) cc0_scratch3 cc0_scoped0 cc0_scoped1 v11 lo hi hw v104 v110 t (accAt X lo.toNat (done lo.toNat hi.toNat t.val)))
          (winInv d L q X O W lo.toNat hi.toNat (t.val + 1)) := by
    intro W' hW
    refine wp_finish (show k0_off5 lo hi t = ![t.val % 2] from (congrArg (fun x => ![x]) hp : _)) ?_
    by_cases hm : k0_cond2 lo hi t = 1#1
    · have hnx : t.val + 1 < nWin lo.toNat hi.toNat := (more_iff h ht).1 hm
      refine wp_dif_pos hm ?_
      refine BIBase.Entails.trans (Q := iprop((slotE d L ((t.val + 1) % 2) ∗ sem0 d L (t.val + 1) ∗ xPts d L q X Finset.univ)
        ∗ ((w6.view.loc (thr d L) ↦[slotS (t.val % 2)]{fullShare} winAt X (baseN lo.toNat t.val)) ∗ sem0 d L t.val
          ∗ Transfers.MayWaits (thr d L) (none : HIx 1) O ∗ owes (thr d L) O (insert (SemLoc.dma (semM (mod2 t.val)), none) W')))) ?_ ?_
      · iintro ⟨⟨Hw, Hs, Hx⟩, Hm, HO, He, Hs'⟩
        isplitl [He Hs' Hx]
        · isplitl [He]; · iexact He
          isplitl [Hs'] <;> iassumption
        · isplitl [Hw]; · iexact Hw
          isplitl [Hs]; · iexact Hs
          isplitl [Hm] <;> iassumption
      refine wp_start (p := t.val + 1) (b := baseN lo.toNat (t.val + 1)) (hb' ▸ base_le h (by rw [tw_succ_nat h63]; omega))
        (show k0_off6 lo hi t = ![(t.val + 1) % 2, 0, 0] from (congrArg (fun x => ![x, 0, 0]) hp' : _))
        (show k0_off7 lo hi t = ![baseN lo.toNat (t.val + 1), 0] from (congrArg (fun x => ![x, 0]) hb' : _))
        (show k0_off8 lo hi t = ![(t.val + 1) % 2] from (congrArg (fun x => ![x]) hp' : _)) ?_
      refine BIBase.Entails.trans (Q := iprop((w6.view.loc (thr d L) ↦[slotS (t.val % 2)]{fullShare} winAt X (baseN lo.toNat t.val))
        ∗ (busy d L q X (t.val + 1) (baseN lo.toNat (t.val + 1)) ∗ sem0 d L t.val
          ∗ Transfers.MayWaits (thr d L) (none : HIx 1) O ∗ owes (thr d L) O (insert (SemLoc.dma (semM (mod2 t.val)), none) W')))) ?_ ?_
      · iintro ⟨Hb, Hw, Hr⟩
        isplitl [Hw]; · iexact Hw
        isplitl [Hb] <;> iassumption
      refine row_loop_bind h ?_
      refine wp_none_bind _ (rowRest_trips _ _ _) ?_
      refine BIBase.Entails.trans ?_ (le_wp_ret _ _ _ (accAt X lo.toNat (done lo.toNat hi.toNat (t.val + 1))) _)
      unfold winInv ahead owing
      rw [if_pos hnx]
      iintro ⟨Hw, Hb, Hs, Hm, HO⟩
      isplitl [Hw Hb Hs]
      · isplitl [Hb]; · iexact Hb
        isplitl [Hw]
        · iapply (slotE_congr (show t.val % 2 = (t.val + 1 + 1) % 2 by omega)); unfold slotE; iexists _; iexact Hw
        · iapply (sem0_congr (show t.val % 2 = (t.val + 1 + 1) % 2 by omega)); iexact Hs
      isplitl [Hm]; · iexact Hm
      isplitl [HO]
      · iexists _
        isplitr; swap; · iexact HO
        ipureintro
        intro p hp
        rcases Finset.mem_insert.mp hp with rfl | hp
        · exact .inr rfl
        · exact hW p hp
      · ipureintro; rfl
    · have hnx : ¬ t.val + 1 < nWin lo.toNat hi.toNat := fun hc => hm ((more_iff h ht).2 hc)
      refine wp_dif_neg hm ?_
      refine BIBase.Entails.trans (Q := iprop((w6.view.loc (thr d L) ↦[slotS (t.val % 2)]{fullShare} winAt X (baseN lo.toNat t.val))
        ∗ (sem0 d L t.val ∗ slotE d L ((t.val + 1) % 2) ∗ sem0 d L (t.val + 1) ∗ xPts d L q X Finset.univ
          ∗ Transfers.MayWaits (thr d L) (none : HIx 1) O ∗ owes (thr d L) O (insert (SemLoc.dma (semM (mod2 t.val)), none) W')))) ?_ ?_
      · iintro ⟨⟨Hw, Hs, Hx⟩, Hm, HO, He, Hs'⟩
        isplitl [Hw]; · iexact Hw
        isplitl [Hs]; · iexact Hs
        isplitl [He]; · iexact He
        isplitl [Hs']; · iexact Hs'
        isplitl [Hx]; · iexact Hx
        isplitl [Hm] <;> iassumption
      refine row_loop_bind h ?_
      refine wp_none_bind _ (rowRest_trips _ _ _) ?_
      refine BIBase.Entails.trans ?_ (le_wp_ret _ _ _ (accAt X lo.toNat (done lo.toNat hi.toNat (t.val + 1))) _)
      unfold winInv ahead owing
      rw [if_neg hnx]
      iintro ⟨Hw, Hs, He, Hs', Hx, Hm, HO⟩
      isplitl [Hw Hs He Hs' Hx]
      · iapply (idle_of (F := F) t.val)
        isplitl [Hw]; · unfold slotE; iexists _; iexact Hw
        isplitl [Hs]; · iexact Hs
        isplitl [He]; · iexact He
        isplitl [Hs'] <;> iassumption
      isplitl [Hm]; · iexact Hm
      isplitl [HO]
      · iexists _
        isplitr; swap; · iexact HO
        ipureintro
        intro p hp
        rcases Finset.mem_insert.mp hp with rfl | hp
        · exact .inr rfl
        · exact hW p hp
      · ipureintro; rfl
  unfold winInv ahead owing
  rw [if_pos ht]
  iintro ⟨⟨Hb, Hw, Hs⟩, #Hmw, ⟨%W', %hW, HO⟩, %e⟩
  subst e
  iapply (key W' hW)
  isplitl [Hb]; · iexact Hb
  isplitr; · iexact Hmw
  isplitl [HO]; · iexact HO
  isplitl [Hw] <;> iassumption

end Tile

end Cert.Proof.PoolI
-- ==== Proof.StoreI.lean ====
module

public import Idealize.ShloMosaic.Lib.ValueLayout
public import proofs.«01_k».proof.Proof.SetupI

/-! # The counts and the means: what a tile reads of the graph numbers and what it stores of its sums.

The tile counts, sixteen numbers at a time, the graph numbers below each of its three thresholds. -/

@[expose] public section

set_option maxHeartbeats 4000000

noncomputable section

namespace Cert.Proof.PoolI

open Cert.KernelIdeal Cert.KernelIdeal.Gen
open Cert.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Counts -/

/-- The index of graph number `r`, wrapped. -/
def bIdx (r : ℕ) : S10000.Idx
  | ⟨0, _⟩ => ⟨r % 10000, Nat.mod_lt _ (by decide)⟩

/-- Sixteen graph numbers from `r`. -/
def bBlk (B : S10000.Idx → Elt F .i32) (r : ℕ) : Vec F S16 .i32 := fun i => B (bIdx (r + (i 0).val))

/-- One where the number is below the threshold, zero elsewhere. -/
def below (s : IVec S16 32) (v : Vec F S16 .i32) : IVec S16 32 :=
  minsi (maxsi (subi s (k0_pay108 v)) (broadcast S16 0#32)) (broadcast S16 1#32)

/-- How many of the first `n` sixteens are below, by their place in the sixteen. -/
def cnt (B : S10000.Idx → Elt F .i32) (s : IVec S16 32) : ℕ → IVec S16 32
  | 0 => k0_pay107
  | n + 1 => addi (cnt B s n) (below s (bBlk B (16 * n)))

/-- The sum of sixteen counts. -/
def tot (v : IVec S16 32) : BitVec 32 := extractAt ![0] (k0_pay112 v) inpos_S1_p0

/-- How many of the 10000 are below. -/
def cut (B : S10000.Idx → Elt F .i32) (s : IVec S16 32) : BitVec 32 := tot (cnt B s 625)

section Tile

variable [FloatOps F] {d : Dev nD} {L : grid0.Coords}

/-- Sixteen graph numbers. -/
theorem ld5_step {B : S10000.Idx → Elt F .i32} {y : ℕ} (hy : y + 16 ≤ 10000) {off : Fin 1 → ℕ} {inb : ∀ a, off a + S16.size a ≤ S10000.size a}
    (hoff : off = ![y]) {α : Type} {hl : w5.view.LoadsAt (Rect.unit (s := S10000) off S16.size inb)}
    {k : Vec F S16 .i32 → Prog (TpuEff nD τ sig (Elt F) Λ₀ (thr d L).2) α} {R : sProp 𝕄} {Q : α → sProp 𝕄}
    (hk : iprop((w5.view.loc (thr d L) ↦{fullShare} B) ∗ R)
      ⊢ wp frame (wpE (defs₀ (F := F)) 𝒱₀ (thr d L) none) Set.univ (k (bBlk B y)) Q) :
    iprop((w5.view.loc (thr d L) ↦{fullShare} B) ∗ R)
      ⊢ wp frame (wpE (defs₀ (F := F)) 𝒱₀ (thr d L) none) Set.univ
        (.op (.load w5 (Rect.unit (s := S10000) off S16.size inb).toLoadRect hl) k) Q := by
  subst hoff
  iintro ⟨H, HR⟩
  iapply (wp_load_rect 𝒱₀ (thr d L) none Set.univ (S := Finset.univ) (m := w5) (r := Rect.unit (s := S10000) ![y] S16.size inb)
    (Finset.subset_univ _)) $$ H
  iintro H
  have e : (w5.access (Rect.unit (s := S10000) ![y] S16.size inb)).read (Elt F) B = bBlk B y := by
    funext i
    rw [View.read_apply]
    show B ((Rect.unit (s := S10000) ![y] S16.size inb).emb i) = B (bIdx (y + (i 0).val))
    have h1 : ((Rect.unit (s := S10000) ![y] S16.size inb).emb i 0).val = y + (i 0).val := ValueKit.rect_emb_unit_val _ _ _ _ _
    have h2 : (i 0).val < 16 := (i 0).isLt
    refine congrArg B (funext fun a => Fin.ext ?_)
    match a with
    | ⟨0, _⟩ => rw [show ((⟨0, _⟩ : Fin S10000.rank)) = 0 from rfl, h1]; show _ = (y + (i 0).val) % 10000; omega
  rw [e]
  iapply hk
  isplitl [H] <;> iassumption

/-- Trip `t` reads its five sixteens one after the other. -/
theorem off1_nat (t : Fin k0_t1_loop.trips) {j : ℕ} (hj : j < 5) : k0_off1 t (BitVec.ofNat 32 j) = ![16 * (5 * t.val + j)] := by
  have ht : t.val < 125 := lt_of_lt_of_eq t.isLt (by decide)
  have h1 : (Scf.iv 0#32 1#32 t.val).toNat = t.val := tw_nat t.val (by omega)
  have h2 : (Scalar.muli (Scf.iv 0#32 1#32 t.val) 5#32).toNat = t.val * 5 := by
    rw [muli_nat _ _ (by rw [h1]; show t.val * 5 < _; omega), h1]; rfl
  have hj' : (BitVec.ofNat 32 j).toNat = j := by rw [BitVec.toNat_ofNat]; omega
  have h3 : (Scalar.addi (Scalar.muli (Scf.iv 0#32 1#32 t.val) 5#32) (BitVec.ofNat 32 j)).toNat = t.val * 5 + j := by
    rw [addi_nat _ _ (by rw [h2, hj']; omega), h2, hj']
  have h4 : (Scalar.muli (Scalar.addi (Scalar.muli (Scf.iv 0#32 1#32 t.val) 5#32) (BitVec.ofNat 32 j)) 16#32).toNat = (t.val * 5 + j) * 16 := by
    rw [muli_nat _ _ (by rw [h3]; show (t.val * 5 + j) * 16 < _; omega), h3]; rfl
  show (![_] : Fin 1 → ℕ) = _
  have h5 : (t.val * 5 + j) * 16 = 16 * (5 * t.val + j) := by ring
  exact congrArg (fun x => ![x]) (h4.trans h5)

/-- The three counts. -/
def cnts (B : S10000.Idx → Elt F .i32) (L : grid0.Coords) (n : ℕ) : IVec S16 32 × IVec S16 32 × IVec S16 32 :=
  (cnt B (k0_pay104 L) n, cnt B (k0_pay105 L) n, cnt B (k0_pay106 L) n)

/-- One trip of the counting loop. -/
theorem cnt_trip (B : S10000.Idx → Elt F .i32) (t : Fin k0_t1_loop.trips) {R : sProp 𝕄} {Q : IVec S16 32 × IVec S16 32 × IVec S16 32 → sProp 𝕄}
    (hQ : iprop((w5.view.loc (thr d L) ↦{fullShare} B) ∗ R) ⊢ Q (cnts B L (5 * (t.val + 1)))) :
    iprop((w5.view.loc (thr d L) ↦{fullShare} B) ∗ R)
      ⊢ wp frame (wpE (defs₀ (F := F)) 𝒱₀ (thr d L) none) Set.univ
        (k0_t1_body L xW (Memref.isWhole_whole _) bW (Memref.isWhole_whole _) oW (Memref.isWhole_whole _) w5 (Memref.isWhole_whole _)
          w6 (Memref.isWhole_whole _) w7 (Memref.isWhole_whole _) cc0_scratch3 cc0_scoped0 cc0_scoped1 t (cnts B L (5 * t.val))) Q := by
  have ht : t.val < 125 := lt_of_lt_of_eq t.isLt (by decide)
  refine ld5_step (y := 16 * (5 * t.val + 0)) (by omega) (off1_nat t (j := 0) (by decide)) ?_
  refine ld5_step (y := 16 * (5 * t.val + 1)) (by omega) (off1_nat t (j := 1) (by decide)) ?_
  refine ld5_step (y := 16 * (5 * t.val + 2)) (by omega) (off1_nat t (j := 2) (by decide)) ?_
  refine ld5_step (y := 16 * (5 * t.val + 3)) (by omega) (off1_nat t (j := 3) (by decide)) ?_
  refine ld5_step (y := 16 * (5 * t.val + 4)) (by omega) (off1_nat t (j := 4) (by decide)) ?_
  exact hQ.trans (le_wp_ret _ _ _ (cnts B L (5 * t.val + 1 + 1 + 1 + 1 + 1)) Q)

/-- The counting loop before the rest of a program. -/
theorem cnt_loop_bind (B : S10000.Idx → Elt F .i32) {hok : k0_t1_loop.OK} {β : Type}
    {kk : IVec S16 32 × IVec S16 32 × IVec S16 32 → Prog (TpuEff nD τ sig (Elt F) Λ₀ (thr d L).2) β} {R : sProp 𝕄} {Q : β → sProp 𝕄}
    (hk : iprop((w5.view.loc (thr d L) ↦{fullShare} B) ∗ R)
      ⊢ wp frame (wpE (defs₀ (F := F)) 𝒱₀ (thr d L) none) Set.univ (kk (cnts B L 625)) Q) :
    iprop((w5.view.loc (thr d L) ↦{fullShare} B) ∗ R)
      ⊢ wp frame (wpE (defs₀ (F := F)) 𝒱₀ (thr d L) none) Set.univ
        (Scf.Loop.for k0_t1_loop hok (k0_pay107, k0_pay107, k0_pay107)
          (k0_t1_body L xW (Memref.isWhole_whole _) bW (Memref.isWhole_whole _) oW (Memref.isWhole_whole _) w5 (Memref.isWhole_whole _)
          w6 (Memref.isWhole_whole _) w7 (Memref.isWhole_whole _) cc0_scratch3 cc0_scoped0 cc0_scoped1) >>= kk) Q := by
  have htr : Scf.trips k0_t1_loop.lb k0_t1_loop.ub k0_t1_loop.st = 125 := by decide
  rw [wp_bind]
  refine BIBase.Entails.trans ?_ (Scf.wp_for frame _ Set.univ _ _ _ hok _ _
    (fun k acc => iprop((w5.view.loc (thr d L) ↦{fullShare} B) ∗ R ∗ ⌜acc = cnts B L (5 * k)⌝)) (fun r acc => ?_))
  · iintro ⟨H, HR⟩
    isplitl [H HR]
    · isplitl [H]
      · iexact H
      · isplitl [HR]
        · iexact HR
        · ipureintro; rfl
    · iintro %acc ⟨H, HR, %e⟩
      rw [htr] at e
      subst e
      iapply hk
      isplitl [H] <;> iassumption
  · iintro ⟨H, HR, %e⟩
    subst e
    iapply (cnt_trip B r (R := R) (Q := fun acc => iprop((w5.view.loc (thr d L) ↦{fullShare} B) ∗ R ∗ ⌜acc = cnts B L (5 * (r.val + 1))⌝)) (by
        iintro ⟨H, HR⟩
        isplitl [H]
        · iexact H
        · isplitl [HR]
          · iexact HR
          · ipureintro; rfl))
    isplitl [H] <;> iassumption

/-! ## Means -/

/-- The means of the rows `lo … hi` at the sixteen columns from `z`. -/
def meanV (X : S10000x256.Idx → Elt F .f32) (lo hi : BitVec 32) (z : ℕ) : FVec F S1x16 .f32 :=
  k0_pay202 (sums X lo.toNat z (hi.toNat - lo.toNat)) (k0_pay184 (k0_pay183 lo hi))

/-- The mean at column `c`. -/
def meanAt (X : S10000x256.Idx → Elt F .f32) (lo hi : BitVec 32) (c : ℕ) : Elt F .f32 :=
  meanV X lo hi (c / 16 * 16) (ValueIdx.ix2 (0 : Fin 1) ⟨c % 16, Nat.mod_lt _ (by decide)⟩)

/-- The tile's two rows of means. -/
def outV (X : S10000x256.Idx → Elt F .f32) (lo mid hi : BitVec 32) : S2x256.Idx → Elt F .f32 := fun i =>
  if (i 0).val = 0 then meanAt X lo mid (i 1).val else meanAt X mid hi (i 1).val

/-- The first `n` sixteens of the two rows are stored. -/
def filled (d : Dev nD) (L : grid0.Coords) (g : S2x256.Idx → Elt F .f32) (n : ℕ) : sProp 𝕄 :=
  iprop(∃ f, ⌜∀ i : S2x256.Idx, (i 0).val * 256 + (i 1).val < 16 * n → f i = g i⌝ ∗ (w7.view.loc (thr d L) ↦{fullShare} f))

/-- A load whose value is not used. -/
theorem ld7 {g : S2x256.Idx → Elt F .f32} {n : ℕ} {r : Rect S2x256} {α : Type} {hl : w7.view.LoadsAt r}
    {k : (r.shape.Idx → Elt F .f32) → Prog (TpuEff nD τ sig (Elt F) Λ₀ (thr d L).2) α} {R : sProp 𝕄} {Q : α → sProp 𝕄}
    (hk : ∀ v, iprop(filled d L g n ∗ R) ⊢ wp frame (wpE (defs₀ (F := F)) 𝒱₀ (thr d L) none) Set.univ (k v) Q) :
    iprop(filled d L g n ∗ R) ⊢ wp frame (wpE (defs₀ (F := F)) 𝒱₀ (thr d L) none) Set.univ (.op (.load w7 r.toLoadRect hl) k) Q := by
  unfold filled at *
  iintro ⟨⟨%f, %hf, H⟩, HR⟩
  iapply (wp_load_rect 𝒱₀ (thr d L) none Set.univ (S := Finset.univ) (m := w7) (r := r) (Finset.subset_univ _)) $$ H
  iintro H
  iapply (hk _)
  isplitl [H]
  · iexists f
    isplitr
    · ipureintro; exact hf
    · iexact H
  · iexact HR

/-- A store of the next sixteen. -/
theorem st7 {g : S2x256.Idx → Elt F .f32} {k z n : ℕ} (hz : z % 16 = 0 ∧ z < 256) (hk2 : k < 2) (hn : k * 16 + z / 16 = n) {off : Fin 2 → ℕ} {inb : ∀ a, off a + S1x16.size a ≤ S2x256.size a}
    (hoff : off = ![k, z]) {w : FVec F S1x16 .f32} (hw : ∀ i : S2x256.Idx, ∀ l : S1x16.Idx, (i 0).val = k → (i 1).val = z + (l 1).val → w l = g i)
    {α : Type} {hx : (w7.access (Rect.unit (s := S2x256) off S1x16.size inb)).Stores Finset.univ}
    {hm : (Finset.univ : Finset (Rect.unit (s := S2x256) off S1x16.size inb).shape.Idx) = Finset.univ ∨ ∀ a, (Rect.unit (s := S2x256) off S1x16.size inb).stride a = 1}
    {p : PUnit → Prog (TpuEff nD τ sig (Elt F) Λ₀ (thr d L).2) α} {R : sProp 𝕄} {Q : α → sProp 𝕄}
    (hk : iprop(filled d L g (n + 1) ∗ R) ⊢ wp frame (wpE (defs₀ (F := F)) 𝒱₀ (thr d L) none) Set.univ (p ⟨⟩) Q) :
    iprop(filled d L g n ∗ R) ⊢ wp frame (wpE (defs₀ (F := F)) 𝒱₀ (thr d L) none) Set.univ
      (.op (.store w7 (Rect.unit (s := S2x256) off S1x16.size inb) w Finset.univ hx hm) p) Q := by
  subst hoff
  unfold filled at *
  iintro ⟨⟨%f, %hf, H⟩, HR⟩
  iapply (wp_store 𝒱₀ (thr d L) none Set.univ (S := Finset.univ) (m := w7) (r := Rect.unit (s := S2x256) ![k, z] S1x16.size inb) (w := w) (Mk := Finset.univ)
    (Finset.subset_univ _)) $$ H
  iintro H
  iapply hk
  isplitl [H]
  · iexists _
    isplitr; swap; · iexact H
    ipureintro
    intro i hi
    by_cases hin : i ∈ (Rect.unit (s := S2x256) ![k, z] S1x16.size inb).set
    · rw [← Rect.map_emb_univ] at hin
      obtain ⟨l, -, e⟩ := Finset.mem_map.mp hin
      have h0 : ((Rect.unit (s := S2x256) ![k, z] S1x16.size inb).emb l 0).val = k + (l 0).val := ValueKit.rect_emb_unit_val _ _ _ _ _
      have h1 : ((Rect.unit (s := S2x256) ![k, z] S1x16.size inb).emb l 1).val = z + (l 1).val := ValueKit.rect_emb_unit_val _ _ _ _ _
      have h2 : (l 0).val = 0 := by have : (l 0).val < 1 := (l 0).isLt; omega
      subst e
      rw [← hw _ l (by rw [h0, h2]; rfl) h1]
      exact View.write_emb_of_mem (v := w7.access (Rect.unit (s := S2x256) ![k, z] S1x16.size inb)) f w (Finset.mem_univ l)
    · rw [View.write_of_not_mem]
      · apply hf
        rw [Rect.mem_set_unit] at hin
        have hi1 : (i 1).val < 256 := (i 1).isLt
        by_contra hc
        apply hin
        rintro ⟨a, ha⟩
        match a, ha with
        | 0, _ => show k ≤ (i 0).val ∧ (i 0).val < k + 1; omega
        | 1, _ => show z ≤ (i 1).val ∧ (i 1).val < z + 16; omega
      · rw [View.setOn_univ]
        rwa [show (w7.access (Rect.unit (s := S2x256) ![k, z] S1x16.size inb)).set = _ from View.set_slice_whole _ _]
  · iexact HR

/-- The first row's sixteens, -/
theorem mean_row0 {X : S10000x256.Idx → Elt F .f32} {lo mid hi : BitVec 32} {z : ℕ} (hz : z % 16 = 0) (i : S2x256.Idx) (l : S1x16.Idx)
    (h0 : (i 0).val = 0) (h1 : (i 1).val = z + (l 1).val) : meanV X lo mid z l = outV X lo mid hi i := by
  have hl : (l 1).val < 16 := (l 1).isLt
  have hl0 : (l 0).val < 1 := (l 0).isLt
  unfold outV meanAt
  rw [if_pos h0, h1, show (z + (l 1).val) / 16 * 16 = z by omega]
  congr 1
  funext a
  apply Fin.ext
  match a with
  | ⟨0, _⟩ => show (l 0).val = 0; omega
  | ⟨1, _⟩ => show (l 1).val = (z + (l 1).val) % 16; omega

/-- and the second's. -/
theorem mean_row1 {X : S10000x256.Idx → Elt F .f32} {lo mid hi : BitVec 32} {z : ℕ} (hz : z % 16 = 0) (i : S2x256.Idx) (l : S1x16.Idx)
    (h0 : (i 0).val = 1) (h1 : (i 1).val = z + (l 1).val) : meanV X mid hi z l = outV X lo mid hi i := by
  have hl : (l 1).val < 16 := (l 1).isLt
  have hl0 : (l 0).val < 1 := (l 0).isLt
  unfold outV meanAt
  rw [if_neg (by omega), h1, show (z + (l 1).val) / 16 * 16 = z by omega]
  congr 1
  funext a
  apply Fin.ext
  match a with
  | ⟨0, _⟩ => show (l 0).val = 0; omega
  | ⟨1, _⟩ => show (l 1).val = (z + (l 1).val) % 16; omega

end Tile

end Cert.Proof.PoolI
-- ==== Proof.StepsI.lean ====
module

public import proofs.«01_k».proof.Proof.SegmentI
public import proofs.«01_k».proof.Proof.StoreI

/-! # The tile's body: the graph numbers in, the three cuts, the two graphs' sums and means, the means out. -/

@[expose] public section

set_option maxHeartbeats 4000000

noncomputable section

namespace Cert.Proof.PoolI

open Cert.KernelIdeal Cert.KernelIdeal.Gen
open Cert.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Before the first window no row is done, -/
theorem done_zero {lo hi : ℕ} (h : lo ≤ hi) : done lo hi 0 = 0 := by unfold done startN; omega
/-- and after the last all are. -/
theorem done_end {lo hi : ℕ} (h : lo ≤ hi) : done lo hi (nWin lo hi) = hi - lo := by
  unfold done startN nWin; split <;> omega

section Tile

variable [FloatOps F] {d : Dev nD} {L : grid0.Coords} {lo hi : BitVec 32}

/-! ## Steps -/

/-- A side condition that holds. -/
theorem wp_chk {P : Prop} {dp : Decidable P} {α : Type} {k : PLift P → Prog (TpuEff nD τ sig (Elt F) Λ₀ (thr d L).2) α} {H : sProp 𝕄} {Q : α → sProp 𝕄} (h : P)
    (hk : H ⊢ wp frame (wpE (defs₀ (F := F)) 𝒱₀ (thr d L) none) Set.univ (k ⟨h⟩) Q) :
    H ⊢ wp frame (wpE (defs₀ (F := F)) 𝒱₀ (thr d L) none) Set.univ (.op (.assume P dp) k) Q :=
  hk.trans (wp_assume 𝒱₀ (thr d L) none Set.univ h)

/-- Starting the first window, if there is one. -/
theorem seg_start (h : Bnd lo hi) (q : PosShare TreeShare) (X : S10000x256.Idx → Elt F .f32)
    {offD : Fin 3 → ℕ} {inbD : ∀ a, offD a + S1x160x256.size a ≤ S2x160x256.size a} (hD : offD = ![0, 0, 0])
    {offS : Fin 2 → ℕ} {inbS : owns lo hi = 1#1 → ∀ a, offS a + S160x256.size a ≤ S10000x256.size a}
    (hS : offS = ![(Scalar.minsi (Scalar.addi (first lo) 0#32) 9840#32).toNat, 0])
    {offM : Fin 1 → ℕ} {inbM : ∀ a, offM a + S1.size a ≤ S2.size a} (hM : offM = ![0])
    {hsrc : ∀ c, (xW.slice (Rect.unit (s := S10000x256) offS S160x256.size (inbS c)) (fun _ => rfl)).view.WordExact}
    {hdst : ((w6.slice (Rect.unit (s := S2x160x256) offD S1x160x256.size inbD) (fun _ => rfl)).squeeze S160x256 squeezes_S1x160x256_S160x256).view.WordExact}
    {α : Type} {k : PUnit → Prog (TpuEff nD τ sig (Elt F) Λ₀ (thr d L).2) α} {k' : Prog (TpuEff nD τ sig (Elt F) Λ₀ (thr d L).2) α}
    (hkk : k' = k ⟨⟩) {Q : α → sProp 𝕄} {R : sProp 𝕄}
    (hk : iprop(ahead d L q X lo.toNat (nWin lo.toNat hi.toNat) 0 ∗ R) ⊢ wp frame (wpE (defs₀ (F := F)) 𝒱₀ (thr d L) none) Set.univ (k ⟨⟩) Q) :
    iprop(idle d L q X ∗ R)
      ⊢ wp frame (wpE (defs₀ (F := F)) 𝒱₀ (thr d L) none) Set.univ
        (dite (owns lo hi = 1#1) (fun c => .op (.enqueueDma (xW.slice (Rect.unit (s := S10000x256) offS S160x256.size (inbS c)) (fun _ => rfl))
          (.here ((w6.slice (Rect.unit (s := S2x160x256) offD S1x160x256.size inbD) (fun _ => rfl)).squeeze S160x256 squeezes_S1x160x256_S160x256))
          (.dma ((cc0_scratch3.slice (Rect.unit (s := S2) offM S1.size inbM)).squeeze S_ squeezes_S1_S_).sem) (hsrc c) hdst ⟨Or.inl rfl, trivial⟩) k) (fun _ => k')) Q := by
  subst hkk
  have hb0 : (base lo 0#32).toNat = baseN lo.toNat 0 := base_nat h (w := 0#32) (by decide)
  by_cases hc : owns lo hi = 1#1
  · have hlt := (owns_iff h).1 hc
    have hn : 0 < nWin lo.toNat hi.toNat := by unfold nWin; rw [if_pos hlt]; omega
    refine wp_dif_pos hc ?_
    refine BIBase.Entails.trans (Q := iprop((slotE d L (0 % 2) ∗ sem0 d L 0 ∗ xPts d L q X Finset.univ) ∗ (slotE d L 1 ∗ sem0 d L 1 ∗ R))) ?_ ?_
    · unfold idle
      iintro ⟨⟨H0, H1, Hs0, Hs1, Hx⟩, HR⟩
      isplitl [H0 Hs0 Hx]
      · isplitl [H0]; · iexact H0
        isplitl [Hs0] <;> iassumption
      · isplitl [H1]; · iexact H1
        isplitl [Hs1] <;> iassumption
    refine wp_start (p := 0) (b := baseN lo.toNat 0) (hb0 ▸ base_le h (w := 0#32) (by decide)) hD (hS.trans (by rw [base0_eq, hb0])) hM ?_
    refine BIBase.Entails.trans ?_ hk
    unfold ahead
    rw [if_pos hn]
    iintro ⟨Hb, H1, Hs1, HR⟩
    isplitl [Hb H1 Hs1]
    · isplitl [Hb]; · iexact Hb
      isplitl [H1] <;> iassumption
    · iexact HR
  · have hlt : ¬ lo.toNat < hi.toNat := fun c => hc ((owns_iff h).2 c)
    have hn : ¬ 0 < nWin lo.toNat hi.toNat := by unfold nWin; rw [if_neg hlt]; omega
    refine wp_dif_neg hc ?_
    refine BIBase.Entails.trans ?_ hk
    unfold ahead
    rw [if_neg hn]

/-- The loop over a graph's windows before the rest of a program. -/
theorem win_loop_bind (h : Bnd lo hi) {hw : k0_chk1 lo hi} {q : PosShare TreeShare} {X : S10000x256.Idx → Elt F .f32}
    {O : CellTallies nD τ sig (HIx 1)} {W : Waits sig (HIx 1)} (v11 : IVec S16 32) (v104 : IVec S1 32) (v110 : BitVec 32)
    {hok : (k0_t2_loop lo hi).OK} {body : Fin (k0_t2_loop lo hi).trips → Acc F → Prog (TpuEff nD τ sig (Elt F) Λ₀ (thr d L).2) (Acc F)}
    (hbody : body = k0_t2_body L xW (Memref.isWhole_whole _) bW (Memref.isWhole_whole _) oW (Memref.isWhole_whole _) w5 (Memref.isWhole_whole _)
          w6 (Memref.isWhole_whole _) w7 (Memref.isWhole_whole _) cc0_scratch3 cc0_scoped0 cc0_scoped1 v11 lo hi hw v104 v110) {β : Type}
    {kk : Acc F → Prog (TpuEff nD τ sig (Elt F) Λ₀ (thr d L).2) β} {R : sProp 𝕄} {Q : β → sProp 𝕄}
    (hk : iprop(idle d L q X ∗ Transfers.MayWaits (thr d L) (none : HIx 1) O ∗ owing d L O W ∗ R)
      ⊢ wp frame (wpE (defs₀ (F := F)) 𝒱₀ (thr d L) none) Set.univ (kk (accAt X lo.toNat (hi.toNat - lo.toNat))) Q) :
    iprop(ahead d L q X lo.toNat (nWin lo.toNat hi.toNat) 0 ∗ Transfers.MayWaits (thr d L) (none : HIx 1) O ∗ owing d L O W ∗ R)
      ⊢ wp frame (wpE (defs₀ (F := F)) 𝒱₀ (thr d L) none) Set.univ
        (Scf.Loop.for (k0_t2_loop lo hi) hok (accAt X lo.toNat 0) body >>= kk) Q := by
  subst hbody
  have htr : Scf.trips (k0_t2_loop lo hi).lb (k0_t2_loop lo hi).ub (k0_t2_loop lo hi).st = nWin lo.toNat hi.toNat := winLoop_trips h
  rw [wp_bind]
  refine BIBase.Entails.trans ?_ (Scf.wp_for frame _ Set.univ _ _ _ hok _ _
    (fun i acc => iprop(winInv d L q X O W lo.toNat hi.toNat i acc ∗ R)) (fun r acc => ?_))
  · iintro ⟨Ha, Hm, HO, HR⟩
    isplitl [Ha Hm HO HR]
    · isplitr [HR]
      · unfold winInv
        isplitl [Ha]; · iexact Ha
        isplitl [Hm]; · iexact Hm
        isplitl [HO]; · iexact HO
        ipureintro; rw [done_zero h.1]
      · iexact HR
    · iintro %acc ⟨Hi, HR⟩
      rw [htr]
      unfold winInv ahead
      rw [if_neg (Nat.lt_irrefl _)]
      icases Hi with ⟨Ha, Hm, HO, %e⟩
      rw [done_end h.1] at e
      subst e
      iapply hk
      isplitl [Ha]; · iexact Ha
      isplitl [Hm]; · iexact Hm
      isplitl [HO] <;> iassumption
  · iintro ⟨Hi, HR⟩
    ihave Hl := (win_trip h (hw := hw) q X O W v11 v104 v110 r acc) $$ Hi
    iapply (wp_wand_r frame _ Set.univ)
    isplitl [Hl]
    · iexact Hl
    · iintro %acc' H
      isplitl [H] <;> iassumption

/-- A whole copy: started, then waited for. -/
theorem wp_copy {sp sp' : Space} {s : Shape} {e : EltTy} {src : Memref sig .scVector sp s e} {dst : Memref sig .scVector sp' s e} {sm : DmaSem sig}
    {q : PosShare TreeShare} {fs : Buf (Elt F) (src.view.loc (thr d L))} {fd g : Buf (Elt F) (dst.view.loc (thr d L))} {Sd : Finset (Idx (dst.view.loc (thr d L)))}
    {O : CellTallies nD τ sig (HIx 1)} {W : Waits sig (HIx 1)}
    (hs : 0 < s.numel) (hSd : dst.view.set ⊆ Sd) (hg : ∀ i ∈ Sd, dst.view.write (Elt F) fd (src.view.read (Elt F) fs) Finset.univ i = g i)
    {hsrc : src.view.WordExact} {hdst : dst.view.WordExact} {hsem} {hsrc' : src.view.WordExact} {hdst' : dst.view.WordExact}
    {α : Type} {k : PUnit → Prog (TpuEff nD τ sig (Elt F) Λ₀ (thr d L).2) α} {Q : α → sProp 𝕄} {R : sProp 𝕄}
    (hk : iprop(((src.view.loc (thr d L) ↦[src.view.set]{q} fs) ∗ (dst.view.loc (thr d L) ↦[Sd]{fullShare} g) ∗ semVal (thr d L, .dma sm) 0)
        ∗ Transfers.MayWaits (thr d L) (none : HIx 1) O ∗ owing d L O W ∗ R)
      ⊢ wp frame (wpE (defs₀ (F := F)) 𝒱₀ (thr d L) none) Set.univ (k ⟨⟩) Q) :
    iprop(((src.view.loc (thr d L) ↦[src.view.set]{q} fs) ∗ (dst.view.loc (thr d L) ↦[Sd]{fullShare} fd) ∗ semVal (thr d L, .dma sm) 0)
        ∗ Transfers.MayWaits (thr d L) (none : HIx 1) O ∗ owing d L O W ∗ R)
      ⊢ wp frame (wpE (defs₀ (F := F)) 𝒱₀ (thr d L) none) Set.univ
        (.op (.enqueueDma src (.here dst) (.dma sm) hsrc hdst hsem) fun _ => .op (.waitDma2 sm src dst hsrc' hdst') k) Q := by
  unfold owing at *
  iintro ⟨⟨Hs, Hd, Hv⟩, #Hmw, ⟨%W', %hW, HO⟩, HR⟩
  iapply (Transfers.wp_dmaLocal (countersEmb (U := UU)) 𝒱₀ (thr d L) none (src := src) (dst := dst)
    (sm := .dma sm) (fs := fs) (fd := fd) (Sd := Sd) (none : HIx 1)
    dst.view.dmaCredit rfl (View.amount_pos _ (.dma sm) hs) hSd) $$ [Hs Hd Hv]
  · isplitl [Hs]; · iexact Hs
    isplitl [Hd] <;> iassumption
  iintro HF
  ihave Hm := (Transfers.MayWaits.elim (SemLoc.dma sm)) $$ Hmw
  iapply (Transfers.wp_waitLocalO (countersEmb (U := UU)) 𝒱₀ (thr d L) none (none : HIx 1) rfl) $$ [HF HO Hm]
  · isplitl [HF]; · iexact HF
    isplitl [HO]; · iexact HO
    iexact Hm
  iintro ⟨⟨Hd, Hs⟩, Hv, HO⟩
  iapply hk
  isplitl [Hs Hd Hv]
  · isplitl [Hs]; · iexact Hs
    isplitr [Hv]
    · iapply (Entails.of_eq (pointsTo_congr hg)); iexact Hd
    · iexact Hv
  isplitr; · iexact Hmw
  isplitl [HO]
  · iexists _
    isplitr; swap
    · iexact HO
    ipureintro
    intro p hp
    rcases Finset.mem_insert.mp hp with rfl | hp
    · exact .inr rfl
    · exact hW p hp
  · iexact HR

end Tile

end Cert.Proof.PoolI
-- ==== Proof.PartsI.lean ====
module

public import proofs.«01_k».proof.Proof.StepsI

/-! # The parts of the tile's body.

Each part is a step: what it leaves goes to what follows it. -/

@[expose] public section

set_option maxHeartbeats 4000000

noncomputable section

namespace Cert.Proof.PoolI

open Cert.KernelIdeal Cert.KernelIdeal.Gen
open Cert.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A tile's two graphs -/

/-- The first of a tile's two graphs. -/
def g0 (L : grid0.Coords) : ℕ := ((L 1).val * 2 + (L 0).val) * 2

/-- A tile's two graphs are among the 64. -/
theorem g0_lt (L : grid0.Coords) : g0 L + 2 ≤ 64 := by
  have h0 : (L 0).val < 2 := (L 0).isLt
  have h1 : (L 1).val < 16 := (L 1).isLt
  unfold g0; omega

/-- The word the tile computes for it. -/
def g0w (L : grid0.Coords) : BitVec 32 :=
  Scalar.muli (Scalar.addi (Scalar.muli (BitVec.ofNat 32 (L 1).val) 2#32) (BitVec.ofNat 32 (L 0).val)) 2#32

/-- The word for a tile's first graph is its number, -/
theorem g0w_nat (L : grid0.Coords) : (g0w L).toNat = g0 L := by
  have h0 : (L 0).val < 2 := (L 0).isLt
  have h1 : (L 1).val < 16 := (L 1).isLt
  have e0 : (BitVec.ofNat 32 (L 0).val).toNat = (L 0).val := by rw [BitVec.toNat_ofNat]; omega
  have e1 : (BitVec.ofNat 32 (L 1).val).toNat = (L 1).val := by rw [BitVec.toNat_ofNat]; omega
  have e2 : (2#32).toNat = 2 := rfl
  have m1 : (Scalar.muli (BitVec.ofNat 32 (L 1).val) 2#32).toNat = (L 1).val * 2 := by
    rw [muli_nat _ _ (by rw [e1, e2]; omega), e1, e2]
  have a1 : (Scalar.addi (Scalar.muli (BitVec.ofNat 32 (L 1).val) 2#32) (BitVec.ofNat 32 (L 0).val)).toNat = (L 1).val * 2 + (L 0).val := by
    rw [addi_nat _ _ (by rw [m1, e0]; omega), m1, e0]
  unfold g0w g0
  rw [muli_nat _ _ (by rw [a1, e2]; omega), a1, e2]

/-- and so it is for the two that follow. -/
theorem g0w_add (L : grid0.Coords) {j : ℕ} (hj : j ≤ 2) : Scalar.addi (g0w L) (BitVec.ofNat 32 j) = BitVec.ofNat 32 (g0 L + j) := by
  have h := g0_lt L
  have ej : (BitVec.ofNat 32 j).toNat = j := by rw [BitVec.toNat_ofNat]; omega
  apply BitVec.eq_of_toNat_eq
  rw [addi_nat _ _ (by rw [g0w_nat, ej]; omega), g0w_nat, ej, BitVec.toNat_ofNat]
  omega

/-- The threshold `s`, at every place. -/
def thresh (s : ℕ) : IVec S16 32 := broadcast S16 (BitVec.ofNat 32 s)

/-- The first threshold is the tile's first graph, -/
theorem thresh0 (L : grid0.Coords) : k0_pay104 L = thresh (g0 L) := congrArg (broadcast S16) (g0w_add L (j := 0) (by decide))
/-- the second its second graph, -/
theorem thresh1 (L : grid0.Coords) : k0_pay105 L = thresh (g0 L + 1) := congrArg (broadcast S16) (g0w_add L (j := 1) (by decide))
/-- and the third the graph after those. -/
theorem thresh2 (L : grid0.Coords) : k0_pay106 L = thresh (g0 L + 2) := congrArg (broadcast S16) (g0w_add L (j := 2) (by decide))
/-- The tile's means go to the rows of its graphs. -/
theorem off156 (L : grid0.Coords) : k0_off156 L = ![g0 L, 0] := congrArg (fun x => ![x, 0]) (g0w_nat L)

/-- How many graph numbers are below `s`. -/
def cutAt (B : S10000.Idx → Elt F .i32) (s : ℕ) : BitVec 32 := cut B (thresh s)

section Tile

variable [FloatOps F] {d : Dev nD} {L : grid0.Coords} {lo hi : BitVec 32}

/-- All the means: of graph `i`, the rows between the cuts `i` and `i + 1`. -/
def gOut (X : S10000x256.Idx → Elt F .f32) (B : S10000.Idx → Elt F .i32) : S64x256.Idx → Elt F .f32 := fun i =>
  meanAt X (cutAt B (i 0).val) (cutAt B ((i 0).val + 1)) (i 1).val

/-- The tile's two rows of the result. -/
abbrev oK (L : grid0.Coords) : Memref sig .scVector .hbm S2x256 .f32 :=
  oW.slice (Rect.unit (s := S64x256) (k0_off156 L) S2x256.size (k0_off156_inb L)) (fun _ => rfl)

/-- Written with the tile's two means, they are the result's. -/
theorem write_out (X : S10000x256.Idx → Elt F .f32) (B : S10000.Idx → Elt F .i32) (f : S64x256.Idx → Elt F .f32) {w : S2x256.Idx → Elt F .f32}
    (hw : w = outV X (cutAt B (g0 L)) (cutAt B (g0 L + 1)) (cutAt B (g0 L + 2))) :
    ∀ i ∈ (oK L).view.set, (oK L).view.write (Elt F) f w Finset.univ i = gOut X B i := by
  subst hw
  intro i hi
  obtain ⟨x, -, rfl⟩ := Finset.mem_map.mp hi
  refine (View.write_emb_of_mem (v := (oK L).view) f _ (Finset.mem_univ x)).trans ?_
  have r0 := ValueKit.rect_emb_unit_val (s := S64x256) (k0_off156 L) S2x256.size (k0_off156_inb L) x 0
  have r1 := ValueKit.rect_emb_unit_val (s := S64x256) (k0_off156 L) S2x256.size (k0_off156_inb L) x 1
  have h0 : ((oK L).view.emb x 0).val = g0 L + (x 0).val := r0.trans (congrArg (fun f : Fin 2 → ℕ => f 0 + (x 0).val) (off156 L))
  have h1 : ((oK L).view.emb x 1).val = 0 + (x 1).val := r1.trans (congrArg (fun f : Fin 2 → ℕ => f 1 + (x 1).val) (off156 L))
  have hx : (x 0).val < 2 := (x 0).isLt
  show outV X _ _ _ x = gOut X B _
  unfold gOut outV
  rw [h0, h1, Nat.zero_add]
  split
  · next e => rw [e]; rfl
  · next e => rw [show (x 0).val = 1 by omega]

/-- The first row's next sixteen means stored, -/
theorem put0 {X : S10000x256.Idx → Elt F .f32} {lo mid hi : BitVec 32} {n : ℕ} (hn : n < 16) {off : Fin 2 → ℕ} {inb : ∀ a, off a + S1x16.size a ≤ S2x256.size a}
    (hoff : off = ![0, 16 * n]) {w : FVec F S1x16 .f32} (hw : w = meanV X lo mid (16 * n))
    {α : Type} {hx : (w7.access (Rect.unit (s := S2x256) off S1x16.size inb)).Stores Finset.univ}
    {hm : (Finset.univ : Finset (Rect.unit (s := S2x256) off S1x16.size inb).shape.Idx) = Finset.univ ∨ ∀ a, (Rect.unit (s := S2x256) off S1x16.size inb).stride a = 1}
    {p : PUnit → Prog (TpuEff nD τ sig (Elt F) Λ₀ (thr d L).2) α} {R : sProp 𝕄} {Q : α → sProp 𝕄}
    (hk : iprop(filled d L (outV X lo mid hi) (n + 1) ∗ R) ⊢ wp frame (wpE (defs₀ (F := F)) 𝒱₀ (thr d L) none) Set.univ (p ⟨⟩) Q) :
    iprop(filled d L (outV X lo mid hi) n ∗ R) ⊢ wp frame (wpE (defs₀ (F := F)) 𝒱₀ (thr d L) none) Set.univ
      (.op (.store w7 (Rect.unit (s := S2x256) off S1x16.size inb) w Finset.univ hx hm) p) Q :=
  st7 (k := 0) (z := 16 * n) (by omega) (by decide) (by omega) hoff (fun i l h0 h1 => hw ▸ mean_row0 (by omega) i l h0 h1) hk
/-- and the second's. -/
theorem put1 {X : S10000x256.Idx → Elt F .f32} {lo mid hi : BitVec 32} {n : ℕ} (hn : 16 ≤ n ∧ n < 32) {off : Fin 2 → ℕ} {inb : ∀ a, off a + S1x16.size a ≤ S2x256.size a}
    (hoff : off = ![1, 16 * (n - 16)]) {w : FVec F S1x16 .f32} (hw : w = meanV X mid hi (16 * (n - 16)))
    {α : Type} {hx : (w7.access (Rect.unit (s := S2x256) off S1x16.size inb)).Stores Finset.univ}
    {hm : (Finset.univ : Finset (Rect.unit (s := S2x256) off S1x16.size inb).shape.Idx) = Finset.univ ∨ ∀ a, (Rect.unit (s := S2x256) off S1x16.size inb).stride a = 1}
    {p : PUnit → Prog (TpuEff nD τ sig (Elt F) Λ₀ (thr d L).2) α} {R : sProp 𝕄} {Q : α → sProp 𝕄}
    (hk : iprop(filled d L (outV X lo mid hi) (n + 1) ∗ R) ⊢ wp frame (wpE (defs₀ (F := F)) 𝒱₀ (thr d L) none) Set.univ (p ⟨⟩) Q) :
    iprop(filled d L (outV X lo mid hi) n ∗ R) ⊢ wp frame (wpE (defs₀ (F := F)) 𝒱₀ (thr d L) none) Set.univ
      (.op (.store w7 (Rect.unit (s := S2x256) off S1x16.size inb) w Finset.univ hx hm) p) Q :=
  st7 (k := 1) (z := 16 * (n - 16)) (by omega) (by decide) (by omega) hoff (fun i l h0 h1 => hw ▸ mean_row1 (by omega) i l h0 h1) hk

/-- Everything stored. -/
theorem filled_all {g : S2x256.Idx → Elt F .f32} : (filled d L g 32 : sProp 𝕄) ⊢ (w7.view.loc (thr d L) ↦{fullShare} g) := by
  unfold filled
  iintro ⟨%f, %hf, H⟩
  have e : f = g := funext fun i => hf i (by
    have h0 : (i 0).val < 2 := (i 0).isLt
    have h1 : (i 1).val < 256 := (i 1).isLt
    omega)
  subst e
  iexact H

/-- A buffer that holds anything is filled up to nothing. -/
theorem filled_none {g : S2x256.Idx → Elt F .f32} : (iprop(∃ f, w7.view.loc (thr d L) ↦{fullShare} f) : sProp 𝕄) ⊢ filled d L g 0 := by
  unfold filled
  iintro ⟨%f, H⟩
  iexists f
  isplitr
  · ipureintro; intro i hi; omega
  · iexact H

/-- A part of a program before the rest, -/
theorem wp_part {α β : Type} {p : Prog (TpuEff nD τ sig (Elt F) Λ₀ (thr d L).2) β} {kk : β → Prog (TpuEff nD τ sig (Elt F) Λ₀ (thr d L).2) α} {H : sProp 𝕄} {Q : α → sProp 𝕄}
    (h : H ⊢ wp frame (wpE (defs₀ (F := F)) 𝒱₀ (thr d L) none) Set.univ p (fun a => wp frame (wpE (defs₀ (F := F)) 𝒱₀ (thr d L) none) Set.univ (kk a) Q)) : H ⊢ wp frame (wpE (defs₀ (F := F)) 𝒱₀ (thr d L) none) Set.univ (p >>= kk) Q := by
  rw [wp_bind]; exact h
/-- and the end of one. -/
theorem wp_end {α : Type} {a : α} {H : sProp 𝕄} {Q : α → sProp 𝕄} (h : H ⊢ Q a) : H ⊢ wp frame (wpE (defs₀ (F := F)) 𝒱₀ (thr d L) none) Set.univ (.ret a) Q :=
  h.trans (le_wp_ret _ _ _ a Q)

/-- The fourth of five taken to the front, -/
theorem to_fill {A B C D E : sProp 𝕄} : iprop(A ∗ B ∗ C ∗ D ∗ E) ⊢ iprop(D ∗ A ∗ B ∗ C ∗ E) := by
  iintro ⟨HA, HB, HC, HD, HE⟩
  isplitl [HD]; · iexact HD
  isplitl [HA]; · iexact HA
  isplitl [HB]; · iexact HB
  isplitl [HC] <;> iassumption

/-- and put back. -/
theorem of_fill {A B C D E : sProp 𝕄} : iprop(D ∗ A ∗ B ∗ C ∗ E) ⊢ iprop(A ∗ B ∗ C ∗ D ∗ E) := by
  iintro ⟨HD, HA, HB, HC, HE⟩
  isplitl [HA]; · iexact HA
  isplitl [HB]; · iexact HB
  isplitl [HC]; · iexact HC
  isplitl [HD] <;> iassumption

/-- A program that is a conditional. -/
theorem wp_cond {α : Type} {c : Prop} [Decidable c] {t : c → Prog (TpuEff nD τ sig (Elt F) Λ₀ (thr d L).2) α} {e : ¬ c → Prog (TpuEff nD τ sig (Elt F) Λ₀ (thr d L).2) α}
    {H : sProp 𝕄} {Q : α → sProp 𝕄} (h : H ⊢ wp frame (wpE (defs₀ (F := F)) 𝒱₀ (thr d L) none) Set.univ (dite c t e) Q) :
    H ⊢ wp frame (wpE (defs₀ (F := F)) 𝒱₀ (thr d L) none) Set.univ (dite c t e) Q := h

/-- The sum at the `j`-th sixteen columns. -/
abbrev rs (X : S10000x256.Idx → Elt F .f32) (lo hi : BitVec 32) (j : ℕ) : FVec F S16 .f32 := sums X lo.toNat (16 * j) (hi.toNat - lo.toNat)
/-- What the sums are multiplied by. -/
abbrev inv (lo hi : BitVec 32) : FVec F S16 .f32 := k0_pay184 (k0_pay183 lo hi)

/-- The numbers in, and counted. -/
theorem part11 (B : S10000.Idx → Elt F .i32) {q : PosShare TreeShare} {O : CellTallies nD τ sig (HIx 1)} {W : Waits sig (HIx 1)} {f5 : S10000.Idx → Elt F .i32}
    {R : sProp 𝕄} {Q : _ → sProp 𝕄}
    (hk : iprop(((bW.view.loc (thr d L) ↦[bW.view.set]{q} B) ∗ (w5.view.loc (thr d L) ↦{fullShare} B) ∗ semVal (thr d L, .dma cc0_scoped0.sem) 0) ∗ Transfers.MayWaits (thr d L) (none : HIx 1) O ∗ owing d L O W ∗ R)
      ⊢ Q ⟨cnt B (k0_pay105 L) 625, cnt B (k0_pay106 L) 625, tot (cnt B (k0_pay104 L) 625), k0_pay113 (cnt B (k0_pay105 L) 625), k0_pay114 (cnt B (k0_pay105 L) 625)⟩) :
    iprop(((bW.view.loc (thr d L) ↦[bW.view.set]{q} B) ∗ (w5.view.loc (thr d L) ↦{fullShare} f5) ∗ semVal (thr d L, .dma cc0_scoped0.sem) 0) ∗ Transfers.MayWaits (thr d L) (none : HIx 1) O ∗ owing d L O W ∗ R)
      ⊢ wp frame (wpE (defs₀ (F := F)) 𝒱₀ (thr d L) none) Set.univ (k0_part11 L xW (Memref.isWhole_whole _) bW (Memref.isWhole_whole _) oW (Memref.isWhole_whole _) w5 (Memref.isWhole_whole _)
          w6 (Memref.isWhole_whole _) w7 (Memref.isWhole_whole _) cc0_scratch3 cc0_scoped0 cc0_scoped1) Q := by
  rw [k0_part11_eq_skeleton]
  refine wp_copy (src := bW) (dst := w5) (g := B) (by decide) (Finset.subset_univ _)
    (fun i _ => congrFun (View.write_whole_univ (Val := Elt F) (cc0_scratch0 : Ref sig .scVector) f5 B) i) ?_
  refine BIBase.Entails.trans (Q := iprop((w5.view.loc (thr d L) ↦{fullShare} B) ∗ ((bW.view.loc (thr d L) ↦[bW.view.set]{q} B)
      ∗ semVal (thr d L, .dma cc0_scoped0.sem) 0 ∗ Transfers.MayWaits (thr d L) (none : HIx 1) O ∗ owing d L O W ∗ R))) ?_ ?_
  · iintro ⟨⟨Hb, H5, Hs⟩, HR⟩
    isplitl [H5]; · iexact H5
    isplitl [Hb]; · iexact Hb
    isplitl [Hs] <;> iassumption
  refine cnt_loop_bind B ?_
  refine wp_end (BIBase.Entails.trans ?_ hk)
  iintro ⟨H5, Hb, Hs, HR⟩
  isplitl [H5 Hb Hs]
  · isplitl [Hb]; · iexact Hb
    isplitl [H5] <;> iassumption
  · iexact HR

/-- The middle cut. -/
theorem part12 {n1 n2 : IVec S16 32} (h : Bnd lo (tot n1)) {H : sProp 𝕄} {Q : _ → sProp 𝕄}
    (hk : H ⊢ Q ⟨tot n1, chk1 h, k0_pay116 n2⟩) :
    H ⊢ wp frame (wpE (defs₀ (F := F)) 𝒱₀ (thr d L) none) Set.univ (k0_part12 L xW (Memref.isWhole_whole _) bW (Memref.isWhole_whole _) oW (Memref.isWhole_whole _) w5 (Memref.isWhole_whole _)
          w6 (Memref.isWhole_whole _) w7 (Memref.isWhole_whole _) cc0_scratch3 cc0_scoped0 cc0_scoped1
      n1 n2 lo (k0_pay113 n1) (k0_pay114 n1)) Q := by
  rw [k0_part12_eq_skeleton]
  refine wp_chk (chk1 h) ?_
  exact wp_end hk

/-- The last cut, and the first graph's sums. -/
theorem part13 {q : PosShare TreeShare} {X : S10000x256.Idx → Elt F .f32} {O : CellTallies nD τ sig (HIx 1)} {W : Waits sig (HIx 1)} {n2 : IVec S16 32} (h : Bnd lo hi) (h2 : Bnd hi (tot n2)) {R : sProp 𝕄} {Q : _ → sProp 𝕄}
    (hk : iprop(idle d L q X ∗ Transfers.MayWaits (thr d L) (none : HIx 1) O ∗ owing d L O W ∗ R)
      ⊢ Q ⟨tot n2, chk2 h2, k0_pay118, rs X lo hi 0, rs X lo hi 1, rs X lo hi 2, rs X lo hi 3, rs X lo hi 4, rs X lo hi 5, rs X lo hi 6, rs X lo hi 7, rs X lo hi 8, rs X lo hi 9, rs X lo hi 10, rs X lo hi 11, rs X lo hi 12, rs X lo hi 13, rs X lo hi 14, rs X lo hi 15, k0_pay183 lo hi⟩) :
    iprop(idle d L q X ∗ Transfers.MayWaits (thr d L) (none : HIx 1) O ∗ owing d L O W ∗ R)
      ⊢ wp frame (wpE (defs₀ (F := F)) 𝒱₀ (thr d L) none) Set.univ (k0_part13 L xW (Memref.isWhole_whole _) bW (Memref.isWhole_whole _) oW (Memref.isWhole_whole _) w5 (Memref.isWhole_whole _)
          w6 (Memref.isWhole_whole _) w7 (Memref.isWhole_whole _) cc0_scratch3 cc0_scoped0 cc0_scoped1
      n2 lo hi (chk1 h) (k0_pay116 n2)) Q := by
  rw [k0_part13_eq_skeleton]
  refine wp_chk (chk2 h2) ?_
  refine wp_cond ?_
  refine seg_start h q X rfl rfl rfl rfl ?_
  refine win_loop_bind h _ _ _ rfl ?_
  refine wp_none_bind _ (winRest_trips _ _) ?_
  exact wp_end hk

/-- The first graph's means: the first columns, -/
theorem part14 {X : S10000x256.Idx → Elt F .f32} {mid : BitVec 32} {R : sProp 𝕄} {Q : _ → sProp 𝕄}
    (hk : iprop(filled d L (outV X lo mid hi) 7 ∗ R) ⊢ Q ⟨inv lo mid, k0_pay192 (rs X lo mid 7) (k0_pay183 lo mid)⟩) :
    iprop(filled d L (outV X lo mid hi) 0 ∗ R) ⊢ wp frame (wpE (defs₀ (F := F)) 𝒱₀ (thr d L) none) Set.univ (k0_part14 L xW (Memref.isWhole_whole _) bW (Memref.isWhole_whole _) oW (Memref.isWhole_whole _) w5 (Memref.isWhole_whole _)
          w6 (Memref.isWhole_whole _) w7 (Memref.isWhole_whole _) cc0_scratch3 cc0_scoped0 cc0_scoped1
      (rs X lo mid 0) (rs X lo mid 1) (rs X lo mid 2) (rs X lo mid 3) (rs X lo mid 4) (rs X lo mid 5) (rs X lo mid 6) (rs X lo mid 7) (k0_pay183 lo mid)) Q := by
  rw [k0_part14_eq_skeleton]
  iterate 7 (refine ld7 fun _ => ?_; refine put0 (by decide) rfl rfl ?_)
  exact wp_end hk

/-- the next. -/
theorem part15 {X : S10000x256.Idx → Elt F .f32} {mid : BitVec 32} {R : sProp 𝕄} {Q : _ → sProp 𝕄}
    (hk : ∀ v, iprop(filled d L (outV X lo mid hi) 14 ∗ R) ⊢ Q ⟨k0_pay200 (rs X lo mid 14) (inv lo mid), v⟩) :
    iprop(filled d L (outV X lo mid hi) 7 ∗ R) ⊢ wp frame (wpE (defs₀ (F := F)) 𝒱₀ (thr d L) none) Set.univ (k0_part15 L xW (Memref.isWhole_whole _) bW (Memref.isWhole_whole _) oW (Memref.isWhole_whole _) w5 (Memref.isWhole_whole _)
          w6 (Memref.isWhole_whole _) w7 (Memref.isWhole_whole _) cc0_scratch3 cc0_scoped0 cc0_scoped1
      (rs X lo mid 8) (rs X lo mid 9) (rs X lo mid 10) (rs X lo mid 11) (rs X lo mid 12) (rs X lo mid 13) (rs X lo mid 14) (inv lo mid) (k0_pay192 (rs X lo mid 7) (k0_pay183 lo mid))) Q := by
  rw [k0_part15_eq_skeleton]
  iterate 7 (refine ld7 fun _ => ?_; refine put0 (by decide) rfl rfl ?_)
  refine ld7 fun v => ?_
  exact wp_end (hk v)

/-- The first graph's last means, and the second graph's sums. -/
theorem part16 {q : PosShare TreeShare} {X : S10000x256.Idx → Elt F .f32} {O : CellTallies nD τ sig (HIx 1)} {W : Waits sig (HIx 1)} {mid : BitVec 32} (h : Bnd mid hi) {v : Vec F S1x16 .f32} {R : sProp 𝕄} {Q : _ → sProp 𝕄}
    (hk : ∀ v228 v249 v257, iprop(idle d L q X ∗ Transfers.MayWaits (thr d L) (none : HIx 1) O ∗ owing d L O W ∗ filled d L (outV X lo mid hi) 16 ∗ R)
      ⊢ Q ⟨Scalar.subi hi mid, v228, v249, v257, rs X mid hi 0, rs X mid hi 1, rs X mid hi 2, rs X mid hi 3, rs X mid hi 4, rs X mid hi 5, rs X mid hi 6, rs X mid hi 7, rs X mid hi 8, rs X mid hi 9, rs X mid hi 10, rs X mid hi 11, rs X mid hi 12, rs X mid hi 13, rs X mid hi 14, rs X mid hi 15, 1#32⟩) :
    iprop(idle d L q X ∗ Transfers.MayWaits (thr d L) (none : HIx 1) O ∗ owing d L O W ∗ filled d L (outV X lo mid hi) 14 ∗ R)
      ⊢ wp frame (wpE (defs₀ (F := F)) 𝒱₀ (thr d L) none) Set.univ (k0_part16 L xW (Memref.isWhole_whole _) bW (Memref.isWhole_whole _) oW (Memref.isWhole_whole _) w5 (Memref.isWhole_whole _)
          w6 (Memref.isWhole_whole _) w7 (Memref.isWhole_whole _) cc0_scratch3 cc0_scoped0 cc0_scoped1
      mid hi (chk2 h) k0_pay118 (rs X lo mid 15) (inv lo mid) (k0_pay200 (rs X lo mid 14) (inv lo mid)) v) Q := by
  rw [k0_part16_eq_skeleton]
  refine to_fill.trans ?_
  refine put0 (by decide) rfl rfl ?_
  refine ld7 fun _ => ?_
  refine put0 (by decide) rfl rfl ?_
  refine of_fill.trans ?_
  refine wp_cond ?_
  refine seg_start h q X rfl rfl rfl rfl ?_
  refine win_loop_bind h (k0_pay104 L) (fun _ => 0#32) _ (t8_eq L _ _ (chk1 h) _ _ _ _ _ _ _ _ _ _ rfl) ?_
  exact wp_end (hk _ _ _)

/-- The second graph's means: the first columns, -/
theorem part17 {X : S10000x256.Idx → Elt F .f32} {mid v228 v249 v257 : BitVec 32} (h : Bnd mid hi) {R : sProp 𝕄} {Q : _ → sProp 𝕄}
    (hk : iprop(filled d L (outV X lo mid hi) 22 ∗ R) ⊢ Q ⟨rs X mid hi 7, rs X mid hi 8, rs X mid hi 9, rs X mid hi 10, rs X mid hi 11, rs X mid hi 12, rs X mid hi 13, rs X mid hi 14, rs X mid hi 15, inv mid hi, k0_pay274 (Scalar.subi hi mid) (rs X mid hi 6)⟩) :
    iprop(filled d L (outV X lo mid hi) 16 ∗ R) ⊢ wp frame (wpE (defs₀ (F := F)) 𝒱₀ (thr d L) none) Set.univ (k0_part17 L xW (Memref.isWhole_whole _) bW (Memref.isWhole_whole _) oW (Memref.isWhole_whole _) w5 (Memref.isWhole_whole _)
          w6 (Memref.isWhole_whole _) w7 (Memref.isWhole_whole _) cc0_scratch3 cc0_scoped0 cc0_scoped1
      mid hi (chk2 h) (Scalar.subi hi mid) v228 v249 v257 (rs X mid hi 0) (rs X mid hi 1) (rs X mid hi 2) (rs X mid hi 3) (rs X mid hi 4) (rs X mid hi 5) (rs X mid hi 6) (rs X mid hi 7) (rs X mid hi 8) (rs X mid hi 9) (rs X mid hi 10) (rs X mid hi 11) (rs X mid hi 12) (rs X mid hi 13) (rs X mid hi 14) (rs X mid hi 15) 1#32) Q := by
  rw [k0_part17_eq_skeleton]
  refine wp_none_bind _ (winRest_trips _ _) ?_
  iterate 6 (refine ld7 fun _ => ?_; refine put1 (by decide) rfl rfl ?_)
  exact wp_end hk

/-- the next. -/
theorem part18 {X : S10000x256.Idx → Elt F .f32} {mid : BitVec 32} {R : sProp 𝕄} {Q : _ → sProp 𝕄}
    (hk : iprop(filled d L (outV X lo mid hi) 30 ∗ R) ⊢ Q ⟨⟩) :
    iprop(filled d L (outV X lo mid hi) 22 ∗ R) ⊢ wp frame (wpE (defs₀ (F := F)) 𝒱₀ (thr d L) none) Set.univ (k0_part18 L xW (Memref.isWhole_whole _) bW (Memref.isWhole_whole _) oW (Memref.isWhole_whole _) w5 (Memref.isWhole_whole _)
          w6 (Memref.isWhole_whole _) w7 (Memref.isWhole_whole _) cc0_scratch3 cc0_scoped0 cc0_scoped1
      (rs X mid hi 7) (rs X mid hi 8) (rs X mid hi 9) (rs X mid hi 10) (rs X mid hi 11) (rs X mid hi 12) (rs X mid hi 13) (inv mid hi) (k0_pay274 (Scalar.subi hi mid) (rs X mid hi 6))) Q := by
  rw [k0_part18_eq_skeleton]
  iterate 8 (refine ld7 fun _ => ?_; refine put1 (by decide) rfl rfl ?_)
  exact wp_end hk

end Tile

end Cert.Proof.PoolI
-- ==== Proof.BodyI.lean ====
module

public import proofs.«01_k».proof.Proof.PartsI

/-! # The tile's body: the graph numbers in, the three cuts, the two graphs' sums and means, the means out. -/

@[expose] public section

set_option maxHeartbeats 4000000

noncomputable section

namespace Cert.Proof.PoolI

open Cert.KernelIdeal Cert.KernelIdeal.Gen
open Cert.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable [FloatOps F] {d : Dev nD} {L : grid0.Coords}

/-- What the tile holds between its steps: the rows, the numbers and its scratch, with `o` in its two rows of the result. -/
def tileRes (d : Dev nD) (L : grid0.Coords) (q : PosShare TreeShare) (X : S10000x256.Idx → Elt F .f32) (B : S10000.Idx → Elt F .i32)
    (O : CellTallies nD τ sig (HIx 1)) (W : Waits sig (HIx 1)) (o : S64x256.Idx → Elt F .f32) : sProp 𝕄 :=
  iprop(((bW.view.loc (thr d L) ↦[bW.view.set]{q} B) ∗ (∃ f, w5.view.loc (thr d L) ↦{fullShare} f) ∗ semVal (thr d L, .dma cc0_scoped0.sem) 0)
    ∗ Transfers.MayWaits (thr d L) (none : HIx 1) O ∗ owing d L O W ∗ idle d L q X
    ∗ (∃ f, w7.view.loc (thr d L) ↦{fullShare} f) ∗ ((oK L).view.loc (thr d L) ↦[(oK L).view.set]{fullShare} o) ∗ semVal (thr d L, .dma cc0_scoped1.sem) 0)

/-- The whole body, from the numbers' scratch at `f5`. -/
theorem body_core (X : S10000x256.Idx → Elt F .f32) (B : S10000.Idx → Elt F .i32) (hb : ∀ s, s < 64 → Bnd (cutAt B s) (cutAt B (s + 1)))
    (q : PosShare TreeShare) (O : CellTallies nD τ sig (HIx 1)) (W : Waits sig (HIx 1)) (o : S64x256.Idx → Elt F .f32) (f5 : S10000.Idx → Elt F .i32) :
    (iprop(((bW.view.loc (thr d L) ↦[bW.view.set]{q} B) ∗ (w5.view.loc (thr d L) ↦{fullShare} f5) ∗ semVal (thr d L, .dma cc0_scoped0.sem) 0)
      ∗ Transfers.MayWaits (thr d L) (none : HIx 1) O ∗ owing d L O W
      ∗ (idle d L q X ∗ filled d L (outV X (cut B (k0_pay104 L)) (cut B (k0_pay105 L)) (cut B (k0_pay106 L))) 0
        ∗ ((oK L).view.loc (thr d L) ↦[(oK L).view.set]{fullShare} o) ∗ semVal (thr d L, .dma cc0_scoped1.sem) 0)) : sProp 𝕄)
      ⊢ wp frame (wpE (defs₀ (F := F)) 𝒱₀ (thr d L) none) Set.univ
        (cc0__sc_pool_body L xW (Memref.isWhole_whole _) bW (Memref.isWhole_whole _) oW (Memref.isWhole_whole _) w5 (Memref.isWhole_whole _)
          w6 (Memref.isWhole_whole _) w7 (Memref.isWhole_whole _) cc0_scratch3 cc0_scoped0 cc0_scoped1) (fun _ => tileRes d L q X B O W (gOut X B)) := by
  have hL := g0_lt L
  have h1 : Bnd (tot (cnt B (k0_pay104 L) 625)) (tot (cnt B (k0_pay105 L) 625)) := by
    show Bnd (cut B (k0_pay104 L)) (cut B (k0_pay105 L)); rw [thresh0, thresh1]; exact hb _ (by omega)
  have h2 : Bnd (tot (cnt B (k0_pay105 L) 625)) (tot (cnt B (k0_pay106 L) 625)) := by
    show Bnd (cut B (k0_pay105 L)) (cut B (k0_pay106 L)); rw [thresh1, thresh2]; exact hb _ (by omega)
  have hout : ∀ w, w = outV X (cut B (k0_pay104 L)) (cut B (k0_pay105 L)) (cut B (k0_pay106 L)) →
      ∀ i ∈ (oK L).view.set, (oK L).view.write (Elt F) o w Finset.univ i = gOut X B i := by
    rw [thresh0, thresh1, thresh2]; exact fun w hw => write_out X B o hw
  rw [cc0__sc_pool_body_eq_skeleton]
  refine wp_part ?_
  refine part11 B ?_
  unfold cut at hout ⊢
  generalize cnt B (k0_pay104 L) 625 = n0 at h1 hout ⊢
  generalize cnt B (k0_pay105 L) 625 = n1 at h1 h2 hout ⊢
  generalize cnt B (k0_pay106 L) 625 = n2 at h2 hout ⊢
  refine wp_part ?_
  refine part12 h1 ?_
  refine wp_part ?_
  refine BIBase.Entails.trans (Q := iprop(idle d L q X ∗ Transfers.MayWaits (thr d L) (none : HIx 1) O ∗ owing d L O W
      ∗ filled d L (outV X (tot n0) (tot n1) (tot n2)) 0
      ∗ ((w5.view.loc (thr d L) ↦{fullShare} B) ∗ (bW.view.loc (thr d L) ↦[bW.view.set]{q} B)
      ∗ semVal (thr d L, .dma cc0_scoped0.sem) 0
        ∗ ((oK L).view.loc (thr d L) ↦[(oK L).view.set]{fullShare} o) ∗ semVal (thr d L, .dma cc0_scoped1.sem) 0))) ?_ ?_
  · iintro ⟨⟨Hb, H5, Hs⟩, Hm, HO, Hi, Hf, Ho, Hs'⟩
    isplitl [Hi]; · iexact Hi
    isplitl [Hm]; · iexact Hm
    isplitl [HO]; · iexact HO
    isplitl [Hf]; · iexact Hf
    isplitl [H5]; · iexact H5
    isplitl [Hb]; · iexact Hb
    isplitl [Hs]; · iexact Hs
    isplitl [Ho] <;> iassumption
  refine part13 h1 h2 ?_
  refine to_fill.trans ?_
  refine wp_part ?_
  refine part14 (mid := tot n1) (hi := tot n2) ?_
  refine wp_part ?_
  refine part15 (hi := tot n2) fun v => ?_
  refine wp_part ?_
  refine of_fill.trans ?_
  refine part16 h2 fun v228 v249 v257 => ?_
  refine to_fill.trans ?_
  refine wp_part ?_
  refine part17 h2 ?_
  refine wp_part ?_
  refine part18 ?_
  iterate 2 (refine ld7 fun _ => ?_; refine put1 (by decide) rfl rfl ?_)
  refine BIBase.Entails.trans (Q := iprop(((w7.view.loc (thr d L) ↦[w7.view.set]{fullShare} outV X (tot n0) (tot n1) (tot n2))
      ∗ ((oK L).view.loc (thr d L) ↦[(oK L).view.set]{fullShare} o) ∗ semVal (thr d L, .dma cc0_scoped1.sem) 0)
      ∗ Transfers.MayWaits (thr d L) (none : HIx 1) O ∗ owing d L O W
      ∗ (idle d L q X ∗ (w5.view.loc (thr d L) ↦{fullShare} B) ∗ (bW.view.loc (thr d L) ↦[bW.view.set]{q} B)
      ∗ semVal (thr d L, .dma cc0_scoped0.sem) 0))) ?_ ?_
  · iintro ⟨Hf, Hi, Hm, HO, H5, Hb, Hs, Ho, Hs'⟩
    isplitl [Hf Ho Hs']
    · isplitl [Hf]
      · rw [show (w7.view.set : Finset S2x256.Idx) = Finset.univ from View.set_whole _]
        iapply filled_all; iexact Hf
      isplitl [Ho] <;> iassumption
    isplitl [Hm]; · iexact Hm
    isplitl [HO]; · iexact HO
    isplitl [Hi]; · iexact Hi
    isplitl [H5]; · iexact H5
    isplitl [Hb] <;> iassumption
  refine wp_copy (src := w7) (dst := oK L) (g := gOut X B) (by decide) (Finset.Subset.refl _) (hout _ rfl) ?_
  refine wp_end ?_
  unfold tileRes
  rw [show (w7.view.set : Finset S2x256.Idx) = Finset.univ from View.set_whole _]
  iintro ⟨⟨H7, Ho, Hs'⟩, Hm, HO, Hi, H5, Hb, Hs⟩
  isplitl [Hb H5 Hs]
  · isplitl [Hb]; · iexact Hb
    isplitl [H5]
    · iexists _; iexact H5
    · iexact Hs
  isplitl [Hm]; · iexact Hm
  isplitl [HO]; · iexact HO
  isplitl [Hi]; · iexact Hi
  isplitl [H7]
  · iexists _; iexact H7
  isplitl [Ho] <;> iassumption

/-- The whole body. -/
theorem body_wp (X : S10000x256.Idx → Elt F .f32) (B : S10000.Idx → Elt F .i32) (hb : ∀ s, s < 64 → Bnd (cutAt B s) (cutAt B (s + 1)))
    (q : PosShare TreeShare) (O : CellTallies nD τ sig (HIx 1)) (W : Waits sig (HIx 1)) (o : S64x256.Idx → Elt F .f32) :
    (tileRes d L q X B O W o : sProp 𝕄)
      ⊢ wp frame (wpE (defs₀ (F := F)) 𝒱₀ (thr d L) none) Set.univ
        (cc0__sc_pool_body L xW (Memref.isWhole_whole _) bW (Memref.isWhole_whole _) oW (Memref.isWhole_whole _) w5 (Memref.isWhole_whole _)
          w6 (Memref.isWhole_whole _) w7 (Memref.isWhole_whole _) cc0_scratch3 cc0_scoped0 cc0_scoped1) (fun _ => tileRes d L q X B O W (gOut X B)) := by
  conv => lhs; unfold tileRes
  iintro ⟨⟨Hb, ⟨%f5, H5⟩, Hs⟩, Hm, HO, Hi, H7, Ho, Hs'⟩
  iapply (body_core X B hb q O W o f5)
  isplitl [Hb H5 Hs]
  · isplitl [Hb]; · iexact Hb
    isplitl [H5] <;> iassumption
  isplitl [Hm]; · iexact Hm
  isplitl [HO]; · iexact HO
  isplitl [Hi]; · iexact Hi
  isplitl [H7]
  · iapply filled_none; iexact H7
  isplitl [Ho] <;> iassumption

end Tile

end Cert.Proof.PoolI
-- ==== Proof.CountI.lean ====
module

public import proofs.«01_k».proof.Proof.PartsI

/-! # The cuts: cut `s` is the number of rows whose graph number is below `s`, so the cuts are in order. -/

@[expose] public section

set_option maxHeartbeats 4000000

noncomputable section

namespace Cert.Proof.PoolI

open Cert.KernelIdeal Cert.KernelIdeal.Gen
open Cert.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
/-! ## The number of rows below -/

/-- The graph number of row `r`. -/
def gnum (B : S10000.Idx → Elt F .i32) (r : ℕ) : ℕ := BitVec.toNat (B (bIdx r))

/-- One for a row below `s`, zero for another. -/
def one (B : S10000.Idx → Elt F .i32) (s r : ℕ) : ℕ := if gnum B r < s then 1 else 0

/-- It is at most one. -/
theorem one_le (B : S10000.Idx → Elt F .i32) (s r : ℕ) : one B s r ≤ 1 := by unfold one; split <;> omega

/-- The kernel's word for a graph number `x` and a threshold `s`, `min (max (s - x) 0) 1`, is one exactly when `x` is below `s`. -/
theorem thresh_word {s : ℕ} (hs : s ≤ 64) {x : BitVec 32} (hx : x.toNat < 64) :
    (Scalar.minsi (Scalar.maxsi (Scalar.subi (BitVec.ofNat 32 s) x) 0#32) 1#32).toNat = if x.toNat < s then 1 else 0 := by
  have es : (BitVec.ofNat 32 s).toNat = s := by rw [BitVec.toNat_ofNat]; omega
  by_cases h : x.toNat < s
  · rw [if_pos h]
    have e : (Scalar.subi (BitVec.ofNat 32 s) x).toNat = s - x.toNat := by rw [subi_nat _ _ (by rw [es]; omega), es]
    have m : (Scalar.maxsi (Scalar.subi (BitVec.ofNat 32 s) x) 0#32).toNat = s - x.toNat := by
      rw [maxsi_nat _ _ (by rw [e]; omega) (by decide), e]; exact Nat.max_eq_left (Nat.zero_le _)
    rw [minsi_nat _ _ (by rw [m]; omega) (by decide), m]
    exact Nat.min_eq_right (by show 1 ≤ s - x.toNat; omega)
  · rw [if_neg h]
    have m : Scalar.maxsi (Scalar.subi (BitVec.ofNat 32 s) x) 0#32 = 0#32 := by
      show (if (0#32).slt (BitVec.ofNat 32 s - x) then BitVec.ofNat 32 s - x else 0#32) = 0#32
      by_cases hz : s = x.toNat
      · rw [show BitVec.ofNat 32 s - x = 0#32 by
          apply BitVec.eq_of_toNat_eq; rw [BitVec.toNat_sub, es, hz]; show _ % _ = 0; omega]
        rfl
      · have n : (BitVec.ofNat 32 s - x).toNat = 2 ^ 32 + s - x.toNat := by rw [BitVec.toNat_sub, es]; omega
        rw [if_neg]
        rw [BitVec.slt_eq_decide, BitVec.toInt_eq_toNat_cond (BitVec.ofNat 32 s - x), n]
        simp only [decide_eq_true_eq]
        rw [if_neg (by omega)]
        show ¬ (0 : ℤ) < _
        omega
    rw [m]; rfl

/-- Place `l` of the sixteen. -/
def lane (l : Fin 16) : S16.Idx
  | ⟨0, _⟩ => l

/-- Place `l` of sixteen numbers from `y`: one exactly when number `y + l` is below `s`. -/
theorem below_lane {B : S10000.Idx → Elt F .i32} (hB : ∀ r, gnum B r < 64) {s : ℕ} (hs : s ≤ 64) (y : ℕ) (l : Fin 16) :
    (below (thresh s) (bBlk B y) (lane l)).toNat = one B s (y + l.val) := by
  unfold below k0_pay108
  rw [shapeCast_self]
  exact thresh_word hs (hB (y + l.val))

/-- After `n` sixteens place `l` holds how many of the numbers `l`, `16 + l`, … are below `s`; at most `n`. -/
theorem cnt_lane {B : S10000.Idx → Elt F .i32} (hB : ∀ r, gnum B r < 64) {s : ℕ} (hs : s ≤ 64) (l : Fin 16) (n : ℕ) (hn : n ≤ 625) :
    (cnt B (thresh s) n (lane l)).toNat = ∑ k ∈ Finset.range n, one B s (16 * k + l.val) ∧ ∑ k ∈ Finset.range n, one B s (16 * k + l.val) ≤ n := by
  induction n with
  | zero => exact ⟨rfl, le_rfl⟩
  | succ n ih =>
    obtain ⟨e, le⟩ := ih (by omega)
    have b := below_lane hB hs (16 * n) l
    have o := one_le B s (16 * n + l.val)
    rw [Finset.sum_range_succ]
    refine ⟨?_, by omega⟩
    show (Scalar.addi (cnt B (thresh s) n (lane l)) (below (thresh s) (bBlk B (16 * n)) (lane l))).toNat = _
    rw [addi_nat _ _ (by rw [e, b]; omega), e, b]

/-- A place taken out of the sixteen. -/
theorem take_lane (v : IVec S16 32) (l : ℕ) (h : S16.Slices ![l] S1) (i : S1.Idx) : extractStridedSlice S1 ![l] v h i = v (lane ⟨l, h.2 0⟩) := by
  have hi : (i 0).val < 1 := (i 0).isLt
  refine congrArg v (funext fun a => Fin.ext ?_)
  match a with
  | ⟨0, _⟩ => show l + (i 0).val = l; omega

/-- The sum of sixteen words that do not overflow. -/
theorem tot_nat (v : IVec S16 32) {f : ℕ → ℕ} (hv : ∀ l : Fin 16, (v (lane l)).toNat = f l.val) (hf : ∀ l, l < 16 → f l ≤ 625) :
    (tot v).toNat = ∑ l ∈ Finset.range 16, f l := by
  have add (a b : IVec S1 32) (i : S1.Idx) : addi a b i = a i + b i := rfl
  unfold tot k0_pay112 extractAt
  simp only [add, take_lane, BitVec.toNat_add, hv, Finset.sum_range_succ, Finset.sum_range_zero]
  have h0 := hf 0 (by omega); have h1 := hf 1 (by omega); have h2 := hf 2 (by omega); have h3 := hf 3 (by omega)
  have h4 := hf 4 (by omega); have h5 := hf 5 (by omega); have h6 := hf 6 (by omega); have h7 := hf 7 (by omega)
  have h8 := hf 8 (by omega); have h9 := hf 9 (by omega); have h10 := hf 10 (by omega); have h11 := hf 11 (by omega)
  have h12 := hf 12 (by omega); have h13 := hf 13 (by omega); have h14 := hf 14 (by omega); have h15 := hf 15 (by omega)
  omega

/-- Counting by sixteens counts every row once. -/
theorem by_sixteens (f : ℕ → ℕ) (n : ℕ) : ∑ l ∈ Finset.range 16, ∑ k ∈ Finset.range n, f (16 * k + l) = ∑ r ∈ Finset.range (16 * n), f r := by
  induction n with
  | zero => simp
  | succ n ih => simp only [Finset.sum_range_succ _ n, Finset.sum_add_distrib, ih, Nat.mul_succ, Finset.sum_range_add]

/-- Cut `s` is the number of rows below `s`. -/
theorem cutAt_nat {B : S10000.Idx → Elt F .i32} (hB : ∀ r, gnum B r < 64) {s : ℕ} (hs : s ≤ 64) :
    (cutAt B s).toNat = ∑ r ∈ Finset.range 10000, one B s r := by
  unfold cutAt cut
  rw [tot_nat (f := fun l => ∑ k ∈ Finset.range 625, one B s (16 * k + l)) _ (fun l => (cnt_lane hB hs l 625 le_rfl).1)
    (fun l hl => (cnt_lane hB hs ⟨l, hl⟩ 625 le_rfl).2)]
  exact by_sixteens (one B s) 625

/-- Cuts that follow each other are in order and within the rows. -/
theorem cuts_bnd {B : S10000.Idx → Elt F .i32} (hB : ∀ r, gnum B r < 64) (s : ℕ) (hs : s < 64) : Bnd (cutAt B s) (cutAt B (s + 1)) := by
  unfold Bnd
  rw [cutAt_nat hB (Nat.le_of_lt hs), cutAt_nat hB hs]
  constructor
  · refine Finset.sum_le_sum fun r _ => ?_
    unfold one
    split <;> split <;> omega
  · exact (Finset.sum_le_sum fun r _ => one_le B (s + 1) r).trans (by simp)

end Cert.Proof.PoolI
-- ==== Proof.LaunchI.lean ====
module

public import proofs.«01_k».proof.Proof.BodyI
public import proofs.«01_k».proof.Proof.CountI

/-! # The launch: what the handshakes carry, the tiles' obligation, @main, and the program's run with its value. -/

@[expose] public section

set_option maxHeartbeats 4000000

noncomputable section

namespace Cert.Proof.PoolI

open Cert.KernelIdeal Cert.KernelIdeal.Gen
open Cert.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The rows, the edge list, the numbers and the means, as locations of device `d`. -/
abbrev xLoc (d : Dev nD) : Loc nD τ sig := (SparseCore.T d).loc main_arg0
/-- The edge list, -/
abbrev eLoc (d : Dev nD) : Loc nD τ sig := (SparseCore.T d).loc main_arg1
/-- the graph numbers -/
abbrev bLoc (d : Dev nD) : Loc nD τ sig := (SparseCore.T d).loc main_arg2
/-- and the means. -/
abbrev oLoc (d : Dev nD) : Loc nD τ sig := (SparseCore.T d).loc main_v0

/-! ## The result's rows, dealt to the tiles -/

/-- The two rows of the result that tile `(c, s)` writes. -/
def oSet (p : Fin 2 × Fin 16) : Finset S64x256.Idx := Finset.univ.filter fun i => (i 0).val / 2 = 2 * p.2.val + p.1.val

/-- An element is the tile's exactly when half its row is the tile's number. -/
theorem mem_oSet {p : Fin 2 × Fin 16} {i : S64x256.Idx} : i ∈ oSet p ↔ (i 0).val / 2 = 2 * p.2.val + p.1.val := by simp [oSet]

/-- The tile's number among its core's, and its core's. -/
abbrev tileOf (L : grid0.Coords) : Fin 2 × Fin 16 := (L 0, L 1)

/-- The slice that a tile copies its means to is its two rows. -/
theorem set_oK (L : grid0.Coords) : (oK L).view.set = oSet (tileOf L) := by
  show ((View.whole (main_v0_scv : Ref sig .scVector)).slice _).set = _
  rw [View.set_slice_whole]
  ext i
  rw [Rect.mem_set_unit, mem_oSet, off156]
  have hg : g0 L = ((L 1).val * 2 + (L 0).val) * 2 := rfl
  constructor
  · intro h
    have h1 : g0 L ≤ (i 0).val ∧ (i 0).val < g0 L + 2 := h 0
    show (i 0).val / 2 = 2 * (L 1).val + (L 0).val
    omega
  · intro h ⟨a, ha⟩
    have h' : (i 0).val / 2 = 2 * (L 1).val + (L 0).val := h
    match a, ha with
    | 0, _ => show g0 L ≤ (i 0).val ∧ (i 0).val < g0 L + 2; omega
    | 1, _ => exact ⟨Nat.zero_le _, by have : (i 1).val < 256 := (i 1).isLt; show (i 1).val < 0 + 256; omega⟩

/-- No two tiles have an element in common, -/
theorem oSet_disjoint : ∀ p ∈ (Finset.univ : Finset (Fin 2 × Fin 16)), ∀ p' ∈ (Finset.univ : Finset (Fin 2 × Fin 16)), p ≠ p' → Disjoint (oSet p) (oSet p') := by
  rintro ⟨c, s⟩ - ⟨c', s'⟩ - hne
  refine Finset.disjoint_left.mpr fun i h h' => hne ?_
  rw [mem_oSet] at h h'
  have e : (2 * s.val + c.val) = 2 * s'.val + c'.val := h.symm.trans h'
  have hc := c.isLt; have hc' := c'.isLt
  exact Prod.ext (Fin.ext (by omega)) (Fin.ext (by omega))

/-- and together they have all. -/
theorem oSet_cover : (Finset.univ : Finset (Fin 2 × Fin 16)).biUnion oSet = Finset.univ := by
  ext i
  have h0 : (i 0).val < 64 := (i 0).isLt
  simp only [Finset.mem_biUnion, Finset.mem_univ, true_and, iff_true]
  exact ⟨(⟨(i 0).val / 2 % 2, by omega⟩, ⟨(i 0).val / 2 / 2, by omega⟩), mem_oSet.mpr (by show _ = 2 * ((i 0).val / 2 / 2) + (i 0).val / 2 % 2; omega)⟩

/-- The share at which tile `(c, s)` reads the rows and the numbers. -/
def shOf (c : Fin 2) (s : Fin 16) : PosShare TreeShare := Transfers.dealOf (Transfers.dealOf fullShare Finset.univ c) Finset.univ s

/-- A whole array is the tiles' read shares of it, -/
theorem deal_eq (ℓ : Loc nD τ sig) (f : Buf (Elt F) ℓ) :
    (ℓ ↦{fullShare} f : sProp 𝕄) = bigSep Finset.univ fun c : Fin 2 => bigSep Finset.univ fun s : Fin 16 => ℓ ↦{shOf c s} f := by
  rw [Transfers.pointsTo_deal (Finset.univ : Finset (Fin 2)) ⟨0, Finset.mem_univ _⟩]
  exact bigSep_congr fun c _ => Transfers.pointsTo_deal (Finset.univ : Finset (Fin 16)) ⟨0, Finset.mem_univ _⟩ _

/-- and the result is the tiles' rows of it. -/
theorem rows_eq (d : Dev nD) (f : Buf (Elt F) (oLoc d)) :
    (oLoc d ↦{fullShare} f : sProp 𝕄) = bigSep Finset.univ fun c : Fin 2 => bigSep Finset.univ fun s : Fin 16 => oLoc d ↦[oSet (c, s)]{fullShare} f := by
  rw [← bigSep_univ_prod fun p : Fin 2 × Fin 16 => (oLoc d ↦[oSet p]{fullShare} f : sProp 𝕄),
    ← pointsTo_biUnion Finset.univ (ℓ := oLoc d) oSet oSet_disjoint, oSet_cover]

variable (m : (ℓ : Loc nD τ sig) → Buf (Elt F) ℓ) (ρ : Dev nD → PrngReg)

/-! ## What the handshakes carry -/

/-- Tile `(c, s)`'s pieces: the rows and the numbers to read, and its two rows of the result at `o`. -/
abbrev pay (d : Dev nD) (o : Buf (Elt F) (oLoc d)) (c : Fin 2) (s : Fin 16) : sProp 𝕄 :=
  iprop((xLoc d ↦{shOf c s} m (xLoc d)) ∗ (bLoc d ↦{shOf c s} m (bLoc d)) ∗ oLoc d ↦[oSet (c, s)]{fullShare} o)

/-- A core's: its tiles'. -/
abbrev corePay (d : Dev nD) (o : Buf (Elt F) (oLoc d)) (c : Fin 2) : sProp 𝕄 := bigSep Finset.univ fun s : Fin 16 => pay m d o c s

/-- The three arrays whole are the cores' pieces. -/
theorem pay_eq (d : Dev nD) (o : Buf (Elt F) (oLoc d)) :
    (bigSep Finset.univ fun c : Fin 2 => corePay m d o c)
      = iprop((xLoc d ↦{fullShare} m (xLoc d)) ∗ (bLoc d ↦{fullShare} m (bLoc d)) ∗ oLoc d ↦{fullShare} o) := by
  rw [deal_eq (xLoc d), deal_eq (bLoc d), rows_eq d o, ← bigSep_sep', ← bigSep_sep']
  refine bigSep_congr fun c _ => ?_
  rw [← bigSep_sep', ← bigSep_sep']

variable [FloatOps F]

/-- The result the tiles leave. -/
abbrev res (d : Dev nD) : Buf (Elt F) (oLoc d) := gOut (m (xLoc d)) (m (bLoc d))

/-- The call runs on two cores. -/
theorem nCore_zero : (K (F := F)).nCore 0 = 2 := rfl

/-- What the handshakes of the call carry, from the core to its tiles and back. -/
def P : (K (F := F)).Pay (nD := nD) (Val := Elt F) (Name := ℕ) (U := UU) where
  st := fun q d c => match q with | 0 => corePay m d (m (oLoc d)) (Fin.cast nCore_zero c)
  dn := fun q d c => match q with | 0 => corePay m d (res m d) (Fin.cast nCore_zero c)
  go := fun q d c i => match q with | 0 => pay m d (m (oLoc d)) (Fin.cast nCore_zero c) (Fin.cast nSub_zero i)
  td := fun q d c i => match q with | 0 => pay m d (res m d) (Fin.cast nCore_zero c) (Fin.cast nSub_zero i)
  x := fun _ _ => iprop(emp)

instance P_storable : (P (F := F) m).IsStorable where
  st q d c := match q with
    | 0 => (inferInstance : BI.Storable (upEmb : UEmb _ 𝕄) (corePay m d (m (oLoc d)) (Fin.cast nCore_zero c)))
  dn q d c := match q with
    | 0 => (inferInstance : BI.Storable (upEmb : UEmb _ 𝕄) (corePay m d (res m d) (Fin.cast nCore_zero c)))
  go q d c i := match q with
    | 0 => (inferInstance : BI.Storable (upEmb : UEmb _ 𝕄) (pay m d (m (oLoc d)) (Fin.cast nCore_zero c) (Fin.cast nSub_zero i)))
  td q d c i := match q with
    | 0 => (inferInstance : BI.Storable (upEmb : UEmb _ 𝕄) (pay m d (res m d) (Fin.cast nCore_zero c) (Fin.cast nSub_zero i)))

/-! ## The tile's cells and scratch -/

section Tile

variable (d : Dev nD) (L : grid0.Coords)

/-- The tile's four cells: the numbers', the two slots' and the means'. -/
abbrev cellOf (s : DmaSem sig) : GSem nD τ sig := (thr d L, .dma s)

omit [FloatOps F] in
/-- A tile's semaphores, at zero: the four that it uses, and the others. -/
theorem ownSems0_V :
    (ownSems0 (thr d L) : sProp 𝕄)
      = iprop(semVal (cellOf d L cc0_scoped0.sem) 0 ∗ semVal (cellOf d L (semM (mod2 0))) 0 ∗ semVal (cellOf d L (semM (mod2 1))) 0
          ∗ semVal (cellOf d L cc0_scoped1.sem) 0
          ∗ bigSep (((((ownCells (thr d L)).erase (cellOf d L cc0_scoped0.sem)).erase (cellOf d L (semM (mod2 0)))).erase (cellOf d L (semM (mod2 1)))).erase
              (cellOf d L cc0_scoped1.sem)) fun g => semVal g 0) := by
  have ne {a b : DmaSem sig} (h : a ≠ b) : cellOf d L a ≠ cellOf d L b := fun e => h (SemLoc.dma.inj (Prod.ext_iff.mp e).2)
  have own (a : DmaSem sig) (h : (SemLoc.dma a : SemLoc sig).isScoped .scVector = true) : cellOf d L a ∈ ownCells (thr d L) := mem_ownCells.mpr ⟨rfl, h⟩
  unfold SparseCore.Cfg.ownSems0
  rw [SparseCore.bigSep_erase' (own cc0_scoped0.sem (by decide)),
    SparseCore.bigSep_erase' (Finset.mem_erase.mpr ⟨ne (a := semM (mod2 0)) (by decide), own _ (by decide)⟩),
    SparseCore.bigSep_erase' (Finset.mem_erase.mpr ⟨ne (a := semM (mod2 1)) (by decide), Finset.mem_erase.mpr ⟨ne (by decide), own _ (by decide)⟩⟩),
    SparseCore.bigSep_erase' (Finset.mem_erase.mpr ⟨ne (a := cc0_scoped1.sem) (by decide), Finset.mem_erase.mpr ⟨ne (by decide),
      Finset.mem_erase.mpr ⟨ne (by decide), own _ (by decide)⟩⟩⟩)]

omit [FloatOps F] in
/-- A tile's buffers: the three that it uses, and the others. -/
theorem ownBufs_V :
    (ownBufs (thr d L) : sProp 𝕄)
      = iprop((∃ f, w5.view.loc (thr d L) ↦{fullShare} f) ∗ (∃ f, w6.view.loc (thr d L) ↦{fullShare} f) ∗ (∃ f, w7.view.loc (thr d L) ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have ne {a b : Ref sig .scVector} (h : a ≠ b) : (Proc.scVector (cV L) (jV L)).devRef a ≠ (Proc.scVector (cV L) (jV L)).devRef b :=
    fun e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨ne (a := cc0_scratch1) (by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨ne (a := cc0_scratch2) (by decide), Finset.mem_erase.mpr ⟨ne (by decide),
      SparseCore.Cfg.mem_ownRefs_of_owner (p := Proc.scVector (cV L) (jV L)) (b := (Proc.scVector (cV L) (jV L)).devRef cc0_scratch2) rfl⟩⟩)]

omit [FloatOps F] in
/-- What is not slot 0 is slot 1. -/
theorem slot1_eq : Finset.univ \ slotS 0 = slotS 1 := by
  ext i
  have h0 : (i 0).val < 2 := (i 0).isLt
  rw [Finset.mem_sdiff, mem_slotS, mem_slotS]
  exact ⟨fun h => by have := h.2; omega, fun h => ⟨Finset.mem_univ _, by omega⟩⟩

omit [FloatOps F] in
/-- The window scratch is its two slots, -/
theorem slots_split : (iprop(∃ f, w6.view.loc (thr d L) ↦{fullShare} f) : sProp 𝕄) ⊢ iprop(slotE d L 0 ∗ slotE d L 1) := by
  unfold slotE
  iintro ⟨%f, H⟩
  ihave H2 := (pointsTo_split_subset (Finset.subset_univ (slotS 0))).1 $$ H
  icases H2 with ⟨H0, H1⟩
  isplitl [H0]; · iexists f; iexact H0
  iexists f
  rw [← slot1_eq]
  iexact H1
omit [FloatOps F] in
/-- and its two slots are the scratch, at some contents. -/
theorem slots_join : iprop(slotE d L 0 ∗ slotE d L 1) ⊢ (iprop(∃ f, w6.view.loc (thr d L) ↦{fullShare} f) : sProp 𝕄) := by
  unfold slotE
  iintro ⟨⟨%f, H0⟩, ⟨%g, H1⟩⟩
  iexists (fun i => if i ∈ slotS 0 then f i else g i)
  iapply (pointsTo_split_subset (Finset.subset_univ (slotS 0))).2
  isplitl [H0]
  · iapply (Entails.of_eq (pointsTo_congr (fun i hi => (if_pos hi).symm))); iexact H0
  rw [slot1_eq]
  iapply (Entails.of_eq (pointsTo_congr (fun i hi => (if_neg (fun h => by rw [mem_slotS] at h hi; omega)).symm))); iexact H1

/-- The tile's task: its pieces in, its pieces out with its rows of the result written. -/
theorem tile_body (hb : ∀ s, s < 64 → Bnd (cutAt (m (bLoc d)) s) (cutAt (m (bLoc d)) (s + 1)))
    (O : CellTallies nD τ sig (HIx 1)) (W : Waits sig (HIx 1)) (hO : ∀ g, O g none = 0) :
    iprop(levAts (K (F := F)).L (K (F := F)).lev ∗ emp ∗ pay m d (m (oLoc d)) (L 0) (L 1)
        ∗ scopedBufs (thr d L) ∗ scopedSems0 (thr d L) ∗ owes (thr d L) O W)
      ⊢ wp frame (wpE (defs₀ (F := F)) 𝒱₀ (thr d L) none) Set.univ
          (cc0__sc_pool_body L xW (Memref.isWhole_whole _) bW (Memref.isWhole_whole _) oW (Memref.isWhole_whole _) w5 (Memref.isWhole_whole _)
            w6 (Memref.isWhole_whole _) w7 (Memref.isWhole_whole _) cc0_scratch3 cc0_scoped0 cc0_scoped1)
          fun _ => iprop(pay m d (res m d) (L 0) (L 1) ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V facts d (cV L) (jV L), SparseCore.Cfg.scopedSems0_V (Val := Elt F) d (cV L) (jV L), ownSems0_V, ownBufs_V]
  iintro ⟨#Hlv, -, ⟨Hx, Hb, Ho⟩, ⟨H5, H6, H7, Hbufs⟩, ⟨Hs0, Hw0, Hw1, Hs1, Hsems⟩, HO⟩
  ihave Hmw := (show levAts (K (F := F)).L (K (F := F)).lev ⊢ Transfers.MayWaits (thr d L) (none : HIx 1) O from
    (K (F := F)).mayWaits_none (thr := thr d L) hO) $$ Hlv
  ihave H6' := (slots_split d L) $$ H6
  icases H6' with ⟨Hl0, Hl1⟩
  ihave Hwp := (body_wp (d := d) (L := L) (m (xLoc d)) (m (bLoc d)) hb (shOf (L 0) (L 1)) O W (m (oLoc d))) $$ [Hx Hb Ho H5 Hl0 Hl1 H7 Hs0 Hw0 Hw1 Hs1 HO Hmw]
  · unfold tileRes idle owing
    rw [set_oK]
    isplitl [Hb H5 Hs0]
    · isplitl [Hb]
      · rw [View.set_whole]; iexact Hb
      isplitl [H5] <;> iassumption
    isplitl [Hmw]; · iexact Hmw
    isplitl [HO]
    · iexists W; isplitr
      · ipureintro; exact fun p hp => .inl hp
      iexact HO
    isplitl [Hl0 Hl1 Hw0 Hw1 Hx]
    · isplitl [Hl0]; · iexact Hl0
      isplitl [Hl1]; · iexact Hl1
      isplitl [Hw0]; · iexact Hw0
      isplitl [Hw1]; · iexact Hw1
      iexact Hx
    isplitl [H7]; · iexact H7
    isplitl [Ho]; · iexact Ho
    iexact Hs1
  iapply (wp_wand_r frame (wpE (defs₀ (F := F)) 𝒱₀ (thr d L) none) Set.univ)
  isplitl [Hwp]; · iexact Hwp
  iintro %_ Hr
  unfold tileRes idle owing
  rw [set_oK]
  icases Hr with ⟨⟨Hb, H5, Hs0⟩, -, ⟨%W', %hW, HO⟩, ⟨Hl0, Hl1, Hw0, Hw1, Hx⟩, H7, Ho, Hs1⟩
  ihave H6 := (slots_join d L) $$ [Hl0 Hl1]
  · isplitl [Hl0] <;> iassumption
  isplitl [Hx Hb Ho]
  · isplitl [Hx]; · iexact Hx
    isplitl [Hb]
    · rw [View.set_whole]; iexact Hb
    iexact Ho
  isplitl [H5 H6 H7 Hbufs]
  · isplitl [H5]; · iexact H5
    isplitl [H6]; · iexact H6
    isplitl [H7] <;> iassumption
  isplitl [Hs0 Hw0 Hw1 Hs1 Hsems]
  · isplitl [Hs0]; · iexact Hs0
    isplitl [Hw0]; · iexact Hw0
    isplitl [Hw1]; · iexact Hw1
    isplitl [Hs1] <;> iassumption
  iexists W'; isplitr
  · ipureintro; exact fun p hp => (hW p hp).imp_right .inl
  iexact HO

end Tile

/-! ## The obligation -/

/-- A tile's coordinates. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs is the body at its coordinates. -/
theorem defs₀_vector (c : Fin τ.nSC) (s : Fin τ.nSub) :
    defs₀ (F := F) (.scVector c s) 0 ()
      = SparseCore.onTile hcore0 hsub0 (fun c s => cc0__sc_pool_body (coordsV c s)
          xW (Memref.isWhole_whole _) bW (Memref.isWhole_whole _) oW (Memref.isWhole_whole _) w5 (Memref.isWhole_whole _)
          w6 (Memref.isWhole_whole _) w7 (Memref.isWhole_whole _) cc0_scratch3 cc0_scoped0 cc0_scoped1) ⟨⟩ c s := rfl

/-- The cuts that follow each other are in order, on every device: what the tiles' windows rest on. -/
def Cuts : Prop := ∀ d : Dev nD, ∀ s, s < 64 → Bnd (cutAt (F := F) (m (bLoc d)) s) (cutAt (F := F) (m (bLoc d)) (s + 1))

omit [FloatOps F] in
/-- They are where every graph number is below 64. -/
theorem cuts_of (h : ∀ (d : Dev nD) (i : S10000.Idx), BitVec.toNat (m (bLoc d) i) < 64) : Cuts m :=
  fun d s hs => cuts_bnd (B := m (bLoc d)) (fun r => h d (bIdx r)) s hs

/-- Where the cuts are in order every tile meets its obligation. -/
theorem tileObl (hb : Cuts m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) (hb d) O W hO

/-- A core's pieces are its tiles', in and out. -/
theorem vecSplit : (K (F := F)).VecSplit' (P m) 0 := by
  intro d c
  show corePay m d (m (oLoc d)) (Fin.cast nCore_zero c) ⊢ |={Set.univ}=> iprop(
    (bigSep Finset.univ fun i : Fin ((K (F := F)).nSub 0) => pay m d (m (oLoc d)) (Fin.cast nCore_zero c) (Fin.cast nSub_zero i))
      ∗ ((bigSep Finset.univ fun i : Fin ((K (F := F)).nSub 0) => pay m d (res m d) (Fin.cast nCore_zero c) (Fin.cast nSub_zero i))
          -∗ corePay m d (res m d) (Fin.cast nCore_zero c)))
  iintro H; imodintro
  isplitl [H]; · iexact H
  iintro H; iexact H

/-! ## The launch element and @main -/

/-- The ghost state at the start: the handshakes' tokens. -/
def u₀ : UU := (initOf (K (F := F)).hsCells (K (F := F)).hsToks, 1)

omit [FloatOps F] in
/-- Nothing at all is nothing for each of many. -/
theorem no_pieces {I : Type} (s : Finset I) : (iprop(emp) : sProp 𝕄) = bigSep s fun _ => iprop(emp) := (bigSep_emp_const s).symm

/-- From it come the handshakes' tokens, and nothing for each device. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [← no_pieces]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), ← no_pieces]
  iempintro

omit [FloatOps F] in
/-- @main's buffers: the three arguments and the result. -/
theorem unscopedBufs_eq (d : Dev nD) (W : (b : Ref sig .tc) → Buf (Elt F) ((d.tc : Thread nD τ).loc b)) :
    (unscopedBufs d W : sProp 𝕄)
      = iprop((xLoc d ↦{fullShare} W main_arg0) ∗ (eLoc d ↦{fullShare} W main_arg1) ∗ (bLoc d ↦{fullShare} W main_arg2) ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

/-- What @main ends with: the arguments as they were, and the means. -/
abbrev FIN (d : Dev nD) : sProp 𝕄 :=
  iprop((xLoc d ↦{fullShare} m (xLoc d)) ∗ (eLoc d ↦{fullShare} m (eLoc d)) ∗ (bLoc d ↦{fullShare} m (bLoc d)) ∗ oLoc d ↦{fullShare} res m d)

/-- @main runs: it calls the kernel, and ends with the arguments as they were and the result written. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hbf, ⟨Hx, He, Hb, Ho⟩, Hts, -⟩, -⟩
  iapply ((K (F := F)).wp_run (D (F := F)) 𝒱 (EH := EH) (P := P m) κ d 0) $$ [Hst Hx He Hb Ho Hbf Hts]
  isplitr; · iexact Hctx
  isplitl [Hst]; · iexact Hst
  isplitl [Hx Hb Ho]
  · iapply (Entails.of_eq (show iprop((xLoc d ↦{fullShare} m (xLoc d)) ∗ (bLoc d ↦{fullShare} m (bLoc d)) ∗ oLoc d ↦{fullShare} m (oLoc d))
      = (bigSep Finset.univ fun c : Fin ((K (F := F)).nCore 0) => (P m).st 0 d c : sProp 𝕄) from (pay_eq m d (m (oLoc d))).symm))
    isplitl [Hx]; · iexact Hx
    isplitl [Hb] <;> iassumption
  iintro ⟨Hst, Hdn⟩
  ihave Hdn' := (Entails.of_eq (show (bigSep Finset.univ fun c : Fin ((K (F := F)).nCore 0) => (P m).dn 0 d c : sProp 𝕄)
    = iprop((xLoc d ↦{fullShare} m (xLoc d)) ∗ (bLoc d ↦{fullShare} m (bLoc d)) ∗ oLoc d ↦{fullShare} res m d) from pay_eq m d (res m d))) $$ Hdn
  icases Hdn' with ⟨Hx, Hb, Ho⟩
  imodintro
  isplitl [Hst]; · iexact Hst
  isplitr [Hbf Hts]
  · isplitl [Hx]; · iexact Hx
    isplitl [He]; · iexact He
    isplitl [Hb] <;> iassumption
  isplitl [Hbf] <;> iassumption

/-- What a final state says of device `d`: the arguments as they were, the result the means. -/
def fq (d : Dev nD) (s' : Phys nD τ sig (Elt F)) : Prop :=
  s'.mem.mem (xLoc d) = m (xLoc d) ∧ s'.mem.mem (eLoc d) = m (eLoc d) ∧ s'.mem.mem (bLoc d) = m (bLoc d) ∧ s'.mem.mem (oLoc d) = res m d

omit [FloatOps F] in
/-- What is held of an array is what the memory has there. -/
theorem holds_at {ℓ : Loc nD τ sig} {f : Buf (Elt F) ℓ} {s' : Phys nD τ sig (Elt F)} :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

/-- What @main ends with says it of the final memory. -/
theorem hfin (d : Dev nD) (s' : Phys nD τ sig (Elt F)) : iprop(FIN m d ∗ SI s') ⊢ (⌜fq m d s'⌝ : sProp 𝕄) := by
  iintro ⟨⟨Hx, He, Hb, Ho⟩, HSI⟩
  ihave H := (holds_at (ℓ := xLoc d)) $$ [HSI Hx]
  · isplitl [HSI] <;> iassumption
  icases H with ⟨%hx, HSI⟩
  ihave H := (holds_at (ℓ := eLoc d)) $$ [HSI He]
  · isplitl [HSI] <;> iassumption
  icases H with ⟨%he, HSI⟩
  ihave H := (holds_at (ℓ := bLoc d)) $$ [HSI Hb]
  · isplitl [HSI] <;> iassumption
  icases H with ⟨%hb, HSI⟩
  ihave H := (holds_at (ℓ := oLoc d)) $$ [HSI Ho]
  · isplitl [HSI] <;> iassumption
  icases H with ⟨%ho, -⟩
  ipureintro; exact ⟨hx, he, hb, ho⟩

/-- What the program ends with: that of every device, and every semaphore at zero. -/
def QC : PUnit × MemSt nD τ sig (Elt F) → Prop := fun r =>
  (∀ c : Dev nD, r.2.mem (xLoc c) = m (xLoc c) ∧ r.2.mem (eLoc c) = m (eLoc c) ∧ r.2.mem (bLoc c) = m (bLoc c) ∧ r.2.mem (oLoc c) = res m c)
    ∧ r.2.sem = fun _ => 0

/-- The program runs: the arguments end as they were, the result is the means of the tiles, and every semaphore is back at zero. -/
theorem run_main [∀ e, Nonempty (Elt F e)] (hb : Cuts m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hb)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.PoolI
-- ==== Proof.Pre.lean ====
module

public import proofs.«01_k».proof.Defs
public import proofs.«01_k».proof.Proof.Words

/-! # The preconditions, read: graph numbers in range, and in order. -/

@[expose] public section

noncomputable section

namespace Cert.Proof.Pre

open Idealize.ShloMosaic

instance range_facts : Cert.Pre_graphs_in_range.Facts := ⟨by decide⟩
instance sorted_facts : Cert.Pre_graphs_sorted.Facts := ⟨by decide, by decide, by decide⟩

variable {F : FTy → Type} [FloatOps F]

/-- A word that is signed at least zero and below 64 is below 64. -/
theorem word_range {x : BitVec 32} (h0 : (0#32).sle x = true) (h1 : x.slt 64#32 = true) : x.toNat < 64 := by
  rw [BitVec.sle_eq_decide, decide_eq_true_iff] at h0
  rw [BitVec.slt_eq_decide, decide_eq_true_iff] at h1
  have e0 : (0#32).toInt = 0 := rfl
  have e1 : (64#32).toInt = 64 := rfl
  rw [e0] at h0
  rw [e1] at h1
  rw [BitVec.toInt_eq_toNat_cond] at h0 h1
  have := x.isLt
  split at h1 <;> omega

/-- Of two bits whose conjunction is set both are set. -/
theorem both {a b : Bool} (h : BitVec.ofBool a &&& BitVec.ofBool b = 1#1) : a = true ∧ b = true := by revert h; cases a <;> cases b <;> decide

/-- Row `r`. -/
def row (r : ℕ) (h : r < 10000) : (⟨1, ![10000]⟩ : Shape).Idx
  | ⟨0, _⟩ => ⟨r, h⟩

/-- An index is a row. -/
theorem row_eq (i : (⟨1, ![10000]⟩ : Shape).Idx) : i = row (i 0).val (i 0).isLt := funext fun | ⟨0, _⟩ => rfl

/-- Under the first precondition every graph number is below 64. -/
theorem in_range {x : FVec F ⟨2, ![10000, 256]⟩ .f32} {e : IVec ⟨2, ![2, 160000]⟩ 32} {b : IVec ⟨1, ![10000]⟩ 32}
    (h : Cert.Pre_graphs_in_range.fn (F := F) x e b = fun _ => 1#1) (i : (⟨1, ![10000]⟩ : Shape).Idx) : (b i).toNat < 64 := by
  have hi : BitVec.ofBool ((0#32).sle (b i)) &&& BitVec.ofBool ((b i).slt 64#32) = 1#1 := congrFun h i
  exact word_range (both hi).1 (both hi).2

/-- Under the second, of two rows that follow each other: in range and in order. -/
theorem next {x : FVec F ⟨2, ![10000, 256]⟩ .f32} {e : IVec ⟨2, ![2, 160000]⟩ 32} {b : IVec ⟨1, ![10000]⟩ 32}
    (h : Cert.Pre_graphs_sorted.fn (F := F) x e b = fun _ => 1#1) (r : ℕ) (hr : r + 1 < 10000) :
    (b (row (r + 1) hr)).toNat < 64 ∧ (b (row r (by omega))).toNat ≤ (b (row (r + 1) hr)).toNat := by
  have k (c : ℕ) (hc : c ≤ 1) (a : Fin 1) : (![c] : Fin 1 → ℕ) a + r < (![10000] : Fin 1 → ℕ) a :=
    match a with | ⟨0, _⟩ => show c + r < 10000 by omega
  have e0 : (fun a : Fin 1 => (⟨_, k 0 (by decide) a⟩ : Fin ((![10000] : Fin 1 → ℕ) a))) = row r (by omega) := funext fun | ⟨0, _⟩ => Fin.ext (Nat.zero_add r)
  have e1 : (fun a : Fin 1 => (⟨_, k 1 (by decide) a⟩ : Fin ((![10000] : Fin 1 → ℕ) a))) = row (r + 1) hr := funext fun | ⟨0, _⟩ => Fin.ext (Nat.add_comm 1 r)
  have hj : (BitVec.ofBool ((0#32).sle (b (row r (by omega)))) &&& BitVec.ofBool ((b (row r (by omega))).sle (b (row (r + 1) hr))))
      &&& BitVec.ofBool ((b (row (r + 1) hr)).slt 64#32) = 1#1 := by
    rw [← e0, ← e1]
    exact congrFun h (fun a => ⟨r, match a with | ⟨0, _⟩ => show r < 9999 by omega⟩)
  have hk : ((0#32).sle (b (row r (by omega))) = true ∧ (b (row r (by omega))).sle (b (row (r + 1) hr)) = true) ∧ (b (row (r + 1) hr)).slt 64#32 = true := by
    generalize (0#32).sle (b (row r (by omega))) = p at hj ⊢
    generalize (b (row r (by omega))).sle (b (row (r + 1) hr)) = q at hj ⊢
    generalize (b (row (r + 1) hr)).slt 64#32 = s at hj ⊢
    revert hj; cases p <;> cases q <;> cases s <;> decide
  obtain ⟨⟨h0, h1⟩, h2⟩ := hk
  rw [BitVec.sle_eq_decide, decide_eq_true_iff] at h0 h1
  have hw : (b (row (r + 1) hr)).toNat < 64 := word_range (by
    rw [BitVec.sle_eq_decide, decide_eq_true_iff]; exact h0.trans h1) h2
  refine ⟨hw, ?_⟩
  have e0' : (0#32).toInt = 0 := rfl
  rw [e0'] at h0
  rw [BitVec.toInt_eq_toNat_cond] at h0 h1
  rw [BitVec.toInt_eq_toNat_cond] at h1
  have := (b (row r (by omega))).isLt
  split at h1 <;> split at h1 <;> omega

/-- Under the second precondition every graph number is below 64, -/
theorem sorted_range {x : FVec F ⟨2, ![10000, 256]⟩ .f32} {e : IVec ⟨2, ![2, 160000]⟩ 32} {b : IVec ⟨1, ![10000]⟩ 32}
    (h : Cert.Pre_graphs_sorted.fn (F := F) x e b = fun _ => 1#1) (i : (⟨1, ![10000]⟩ : Shape).Idx) : (b i).toNat < 64 := by
  have all : ∀ (r : ℕ) (hlt : r < 10000), (b (row r hlt)).toNat < 64 := fun r hlt => match r, hlt with
    | 0, _ => lt_of_le_of_lt (next h 0 (by decide)).2 (next h 0 (by decide)).1
    | r + 1, hlt => (next h r hlt).1
  exact (row_eq i).symm ▸ all _ _

/-- and they are in order. -/
theorem sorted_le {x : FVec F ⟨2, ![10000, 256]⟩ .f32} {e : IVec ⟨2, ![2, 160000]⟩ 32} {b : IVec ⟨1, ![10000]⟩ 32}
    (h : Cert.Pre_graphs_sorted.fn (F := F) x e b = fun _ => 1#1) {r r' : ℕ} (hle : r ≤ r') (hr' : r' < 10000) :
    (b (row r (by omega))).toNat ≤ (b (row r' hr')).toNat := by
  induction r', hle using Nat.le_induction with
  | base => exact le_rfl
  | succ n hn ih => exact (ih (by omega)).trans (next h n hr').2

end Cert.Proof.Pre
-- ==== Proof.Frames.lean ====
module

public import proofs.«01_k».proof.Proof.Launch
public import proofs.«01_k».proof.Proof.LaunchI
public import proofs.«01_k».proof.Proof.Pre
public import proofs.«01_k».proof.Proof.Gen.ReferenceIdeal.Run

/-! # The frames: each program runs, its arguments end as they were, and every semaphore is back at zero. -/

@[expose] public section

noncomputable section

namespace Cert.Proof

open Idealize.ShloMosaic Idealize.SL.Sem

/-- The kernel, on graph numbers in range. -/
theorem frame_kernel : Cert.quiescent_Kernel := fun m ρ h =>
  (θ_run Cert.Kernel.defs _ _).mono (fun _ h => ⟨fun c => ⟨(h.1 c).1, (h.1 c).2.1, (h.1 c).2.2.1⟩, h.2⟩)
    (PoolK.run_main (F := Bits) m ρ (PoolK.cuts_of m fun d i => Pre.in_range (h d) i))

/-- The kernel over the extended reals, on graph numbers in range, -/
theorem frame_ideal : Cert.quiescent_KernelIdeal := fun m ρ h =>
  (θ_run Cert.KernelIdeal.defs _ _).mono (fun _ h => ⟨fun c => ⟨(h.1 c).1, (h.1 c).2.1, (h.1 c).2.2.1⟩, h.2⟩)
    (PoolI.run_main (F := Ideal) m ρ (PoolI.cuts_of m fun d i => Pre.in_range (h d) i))

/-- and on sorted ones. -/
theorem frame_ideal_sorted : Cert.quiescent_KernelIdeal_pre_graphs_sorted := fun m ρ h =>
  (θ_run Cert.KernelIdeal.defs _ _).mono (fun _ h => ⟨fun c => ⟨(h.1 c).1, (h.1 c).2.1, (h.1 c).2.2.1⟩, h.2⟩)
    (PoolI.run_main (F := Ideal) m ρ (PoolI.cuts_of m fun d i => Pre.sorted_range (h d) i))

/-- The reference, which declares no semaphore, -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- and on sorted graph numbers. -/
theorem frame_reference_sorted : Cert.quiescent_ReferenceIdeal_pre_graphs_sorted := fun m ρ _ => frame_reference m ρ trivial

end Cert.Proof
-- ==== Proof.Means.lean ====
module

public import proofs.«01_k».proof.Proof.LaunchI
public import Idealize.ShloMosaic.PureOps.Ideal.Laws
public import Idealize.ShloMosaic.Lib.IdealHost
public import Idealize.ShloMosaic.Lib.ValueLayout

/-! # What the kernel computes over the extended reals: at graph `g`, column `c`, the sum of the graph's rows there divided
by their number (by one where there are none). -/

@[expose] public section

set_option maxHeartbeats 1000000

noncomputable section

namespace Cert.Proof.PoolI

open Cert.KernelIdeal Cert.KernelIdeal.Gen
open Cert.Words
open Idealize.ShloMosaic
open Idealize.ShloMosaic.ValueIdx (ix1 ix2 ix3)

/-! ## One graph -/

/-- The sixteen sums, added row by row, are the finite sums. -/
theorem sums_ideal (X : S10000x256.Idx → EReal) (lo z n : ℕ) (l : Fin 16) :
    sums (F := Ideal) X lo z n (ix1 l) = ∑ k ∈ Finset.range n, X (xIdx (lo + k) (z + l.val)) := by
  induction n with
  | zero => exact Ideal.ofBits_zero_f32
  | succ n ih =>
    rw [Finset.sum_range_succ, ← ih]
    show (sums (F := Ideal) X lo z n (ix1 l) : EReal) + blk (F := Ideal) X (lo + n) z (Shape.reshapeEquiv _ (ix1 l)) = _
    rw [Shape.reshapeEquiv_eq_of_rowMajor _ (y := ix3 (0 : Fin 1) (0 : Fin 1) l) (by
      rw [Shape.rowMajor_val_three, Shape.rowMajor_val_one]
      show (0 * 1 + 0) * 16 + l.val = l.val
      omega)]
    rfl

/-- A product with one over a positive number is the quotient. -/
theorem mul_div_one (x : EReal) {n : ℕ} (hn : 1 ≤ n) : x * Ideal.div 1 ((n : ℕ) : EReal) = Ideal.div x ((n : ℕ) : EReal) := by
  have h : ((n : ℕ) : EReal) ≠ 0 := by exact_mod_cast Nat.one_le_iff_ne_zero.1 hn
  unfold Ideal.div
  rw [if_neg h, if_neg h, one_mul]

/-- The number of rows as the kernel converts it. -/
theorem number_ideal {lo hi : BitVec 32} (h : Bnd lo hi) (i : S16.Idx) :
    k0_pay183 (F := Ideal) lo hi i = ((max (hi.toNat - lo.toNat) 1 : ℕ) : EReal) := by
  obtain ⟨h1, h2⟩ := h
  have es : (Scalar.subi hi lo).toNat = hi.toNat - lo.toNat := subi_nat _ _ h1
  have em : (Scalar.maxsi (Scalar.subi hi lo) 1#32).toNat = max (hi.toNat - lo.toNat) 1 := by
    rw [maxsi_nat _ _ (by rw [es]; omega) (by decide), es]; rfl
  have ei : (Scalar.maxsi (Scalar.subi hi lo) 1#32).toInt = ((max (hi.toNat - lo.toNat) 1 : ℕ) : ℤ) := by
    rw [BitVec.toInt_eq_toNat_of_lt (by rw [em]; omega), em]
  show (((Scalar.maxsi (Scalar.subi hi lo) 1#32).toInt : ℝ) : EReal) = _
  rw [ei, Int.cast_natCast]
  rfl

/-- The mean that the kernel stores is the sum of the rows divided by their number. -/
theorem meanAt_ideal (X : S10000x256.Idx → EReal) {lo hi : BitVec 32} (h : Bnd lo hi) (c : ℕ) :
    meanAt (F := Ideal) X lo hi c
      = Ideal.div (∑ k ∈ Finset.range (hi.toNat - lo.toNat), X (xIdx (lo.toNat + k) c)) ((max (hi.toNat - lo.toNat) 1 : ℕ) : EReal) := by
  unfold meanAt meanV k0_pay202
  refine (ValueIdx.shapeCast_a_1a_apply _ _ _ _).trans ?_
  show (sums (F := Ideal) X lo.toNat (c / 16 * 16) (hi.toNat - lo.toNat) (ix1 _) : EReal)
    * Ideal.div (Ideal.ofBits .f32 0x3F800000#32) (k0_pay183 (F := Ideal) lo hi (ix1 _)) = _
  rw [Ideal.ofBits_one_f32, number_ideal h, mul_div_one _ (le_max_right _ _), sums_ideal]
  show Ideal.div (∑ k ∈ Finset.range (hi.toNat - lo.toNat), X (xIdx (lo.toNat + k) (c / 16 * 16 + c % 16))) _ = _
  rw [Nat.div_add_mod']

/-! ## Sorted graph numbers -/

/-- Where a property holds of the first rows only, it holds of as many as it is counted. -/
theorem first_iff {p : ℕ → Prop} [DecidablePred p] {N : ℕ} (down : ∀ r r', r ≤ r' → r' < N → p r' → p r) {r : ℕ} (hr : r < N) :
    p r ↔ r < ∑ k ∈ Finset.range N, if p k then 1 else 0 := by
  rw [← Finset.card_filter]
  constructor
  · intro h
    have sub : Finset.range (r + 1) ⊆ (Finset.range N).filter p := fun k hk => by
      rw [Finset.mem_range] at hk
      exact Finset.mem_filter.2 ⟨Finset.mem_range.2 (by omega), down k r (by omega) hr h⟩
    have := Finset.card_le_card sub
    rw [Finset.card_range] at this
    exact this
  · intro h
    by_contra hn
    have sub : (Finset.range N).filter p ⊆ Finset.range r := fun k hk => by
      obtain ⟨h1, h2⟩ := Finset.mem_filter.1 hk
      rw [Finset.mem_range] at h1 ⊢
      by_contra hk'
      exact hn (down r k (by omega) h1 h2)
    have := Finset.card_le_card sub
    rw [Finset.card_range] at this
    exact lt_irrefl _ (lt_of_lt_of_le h this)

/-- The graph numbers are in order. -/
def InOrder (B : S10000.Idx → BitVec 32) : Prop := ∀ r r', r ≤ r' → r' < 10000 → gnum (F := Ideal) B r ≤ gnum (F := Ideal) B r'

/-- The rows of graph `s`. -/
def rowsOf (B : S10000.Idx → BitVec 32) (s : ℕ) : Finset ℕ := (Finset.range 10000).filter fun r => gnum (F := Ideal) B r = s

variable {B : S10000.Idx → BitVec 32}

/-- A row is below cut `s` exactly when its graph is below `s`. -/
theorem below_cut (hB : ∀ r, gnum (F := Ideal) B r < 64) (ho : InOrder B) {s r : ℕ} (hs : s ≤ 64) (hr : r < 10000) :
    gnum (F := Ideal) B r < s ↔ r < (cutAt (F := Ideal) B s).toNat := by
  rw [cutAt_nat hB hs]
  exact first_iff (p := fun r => gnum (F := Ideal) B r < s) (fun a b hab hb h => lt_of_le_of_lt (ho a b hab hb) h) hr

/-- A sum over the rows of graph `s` is the sum from its cut to the next. -/
theorem sum_rowsOf (hB : ∀ r, gnum (F := Ideal) B r < 64) (ho : InOrder B) {s : ℕ} (hs : s < 64) (f : ℕ → EReal) :
    ∑ r ∈ rowsOf B s, f r
      = ∑ k ∈ Finset.range ((cutAt (F := Ideal) B (s + 1)).toNat - (cutAt (F := Ideal) B s).toNat), f ((cutAt (F := Ideal) B s).toNat + k) := by
  rw [← Finset.sum_Ico_eq_sum_range]
  refine Finset.sum_congr (Finset.ext fun r => ?_) fun _ _ => rfl
  have hc := (cuts_bnd hB s hs).2
  unfold rowsOf
  rw [Finset.mem_filter, Finset.mem_range, Finset.mem_Ico]
  constructor
  · rintro ⟨h1, h2⟩
    have a := below_cut hB ho (Nat.le_of_lt hs) h1
    have b := below_cut hB ho (Nat.succ_le_of_lt hs) h1
    exact ⟨by by_contra hn; have := a.2 (by omega); omega, b.1 (by omega)⟩
  · rintro ⟨h1, h2⟩
    have hr : r < 10000 := lt_of_lt_of_le h2 hc
    have a := below_cut hB ho (Nat.le_of_lt hs) hr
    have b := below_cut hB ho (Nat.succ_le_of_lt hs) hr
    have h3 := b.2 h2
    refine ⟨hr, ?_⟩
    by_contra hn
    have := a.1 (by omega)
    omega

/-- A natural number or one, the greater, as an extended real. -/
theorem one_max (n : ℕ) : ((max 1 n : ℕ) : EReal) = max 1 ((n : ℕ) : EReal) := by
  rcases le_total 1 n with h | h
  · rw [max_eq_right h, max_eq_right (by exact_mod_cast h)]
  · rw [max_eq_left h, max_eq_left (by exact_mod_cast h)]
    exact Nat.cast_one

/-- The kernel's result at a graph and a column: the graph's rows added up there, divided by their number or one. -/
theorem gOut_ideal (X : S10000x256.Idx → EReal) (hB : ∀ r, gnum (F := Ideal) B r < 64) (ho : InOrder B) (i : S64x256.Idx) :
    gOut (F := Ideal) X B i
      = Ideal.div (∑ r ∈ rowsOf B (i 0).val, X (xIdx r (i 1).val)) (max 1 (∑ _r ∈ rowsOf B (i 0).val, (1 : EReal))) := by
  have hs : (i 0).val < 64 := (i 0).isLt
  unfold gOut
  rw [meanAt_ideal X (cuts_bnd hB _ hs), sum_rowsOf hB ho hs, sum_rowsOf hB ho hs, Finset.sum_const, Finset.card_range, nsmul_one, max_comm, one_max]

end Cert.Proof.PoolI
-- ==== Proof.Reference.lean ====
module

public import proofs.«01_k».proof.Proof.Means
public import proofs.«01_k».proof.Proof.Gen.ReferenceIdeal
public import Idealize.ShloMosaic.Lib.Routing.OpsPair

/-! # What the reference computes: its two segment sums, over the extended reals, are sums over the rows of a graph. -/

@[expose] public section

set_option maxHeartbeats 1000000

noncomputable section

namespace Cert.Proof.Ref

open Cert.ReferenceIdeal Cert.ReferenceIdeal.Gen
open Idealize.ShloMosaic
open Cert.Proof.PoolI (gnum rowsOf xIdx bIdx)

variable {B : S10000.Idx → BitVec 32}

/-- The graph numbers as the scatters read them: a column of one. -/
abbrev col (B : S10000.Idx → BitVec 32) : S10000x1.Idx → BitVec 32 := broadcastInDim S10000x1 ![0] bcast_S10000_S10000x1_0 B

/-- The column's element in row `r` is graph number `r`, read signed; it is small. -/
theorem col_int (hB : ∀ r, gnum (F := Ideal) B r < 64) (i : S10000x1.Idx) : (col B i).toInt = (gnum (F := Ideal) B (i 0).val : ℤ) := by
  have hi : (i 0).val < 10000 := (i 0).isLt
  have e : col B i = B (bIdx (i 0).val) := congrArg B (funext fun a => Fin.ext (by
    match a with
    | ⟨0, _⟩ => exact (Nat.mod_eq_of_lt hi).symm))
  have hr : (B (bIdx (i 0).val)).toNat < 64 := hB (i 0).val
  rw [e, BitVec.toInt_eq_toNat_of_lt (by omega)]
  rfl

/-- Element `j` of the rows is added to element `i` of the sums exactly when its row is of graph `i 0` and its column `i 1`. -/
theorem lands_sum (hB : ∀ r, gnum (F := Ideal) B r < 64) (j : S10000x256.Idx) (i : S64x256.Idx) :
    scatter_S64x256_S10000x1_S10000x256_1_0_0_1.resultIdx? j (col B) = some i ↔ gnum (F := Ideal) B (j 0).val = (i 0).val ∧ (j 1).val = (i 1).val := by
  have s0 : scatter_S64x256_S10000x1_S10000x256_1_0_0_1.start j (col B) 0 = (gnum (F := Ideal) B (j 0).val : ℤ) := col_int hB _
  have s1 : scatter_S64x256_S10000x1_S10000x256_1_0_0_1.start j (col B) 1 = 0 := rfl
  have w0 : scatter_S64x256_S10000x1_S10000x256_1_0_0_1.window j 0 = 0 := rfl
  have w1 : scatter_S64x256_S10000x1_S10000x256_1_0_0_1.window j 1 = (j 1).val := rfl
  rw [Routing.resultIdx?_eq_some, Fin.forall_fin_two, s0, s1, w0, w1]
  omega

/-- One is added to count `i` for row `j` exactly when the row is of graph `i`. -/
theorem lands_count (hB : ∀ r, gnum (F := Ideal) B r < 64) (j : S10000.Idx) (i : S64.Idx) :
    scatter_S64_S10000x1_S10000_n_0_0_1.resultIdx? j (col B) = some i ↔ gnum (F := Ideal) B (j 0).val = (i 0).val := by
  have s0 : scatter_S64_S10000x1_S10000_n_0_0_1.start j (col B) 0 = (gnum (F := Ideal) B (j 0).val : ℤ) := col_int hB _
  have w0 : scatter_S64_S10000x1_S10000_n_0_0_1.window j 0 = 0 := rfl
  rw [Routing.resultIdx?_eq_some, Fin.forall_fin_one, s0, w0]
  omega

/-- The segment sum of the rows: at a graph and a column, the sum over the graph's rows. -/
theorem sum_eq (hB : ∀ r, gnum (F := Ideal) B r < 64) (X : S10000x256.Idx → EReal) (i : S64x256.Idx) :
    Ideal.hostScatterAdd scatter_S64x256_S10000x1_S10000x256_1_0_0_1 (fun _ => 0) (col B) X i = ∑ r ∈ rowsOf B (i 0).val, X (xIdx r (i 1).val) := by
  have hc : (i 1).val < 256 := (i 1).isLt
  have idx (j : S10000x256.Idx) (h : (j 1).val = (i 1).val) : xIdx (j 0).val (i 1).val = j := funext fun a => Fin.ext (by
    match a with
    | ⟨0, _⟩ => exact Nat.mod_eq_of_lt (j 0).isLt
    | ⟨1, _⟩ => exact (Nat.mod_eq_of_lt hc).trans h.symm)
  show (0 : EReal) + _ = _
  rw [zero_add]
  refine Finset.sum_nbij' (fun j => (j 0).val) (fun r => xIdx r (i 1).val) ?_ ?_ ?_ ?_ ?_
  · intro j hj
    have h := (lands_sum hB j i).1 (Finset.mem_filter.1 hj).2
    exact Finset.mem_filter.2 ⟨Finset.mem_range.2 (j 0).isLt, h.1⟩
  · intro r hr
    obtain ⟨h1, h2⟩ := Finset.mem_filter.1 hr
    have e : ((xIdx r (i 1).val) 0).val = r := Nat.mod_eq_of_lt (Finset.mem_range.1 h1)
    exact Finset.mem_filter.2 ⟨Finset.mem_univ _, (lands_sum hB _ i).2 ⟨by rw [e]; exact h2, Nat.mod_eq_of_lt hc⟩⟩
  · intro j hj
    exact idx j ((lands_sum hB j i).1 (Finset.mem_filter.1 hj).2).2
  · intro r hr
    exact Nat.mod_eq_of_lt (Finset.mem_range.1 (Finset.mem_filter.1 hr).1)
  · intro j hj
    exact congrArg X (idx j ((lands_sum hB j i).1 (Finset.mem_filter.1 hj).2).2).symm

/-- The segment sum of ones: the number of the graph's rows. -/
theorem count_eq (hB : ∀ r, gnum (F := Ideal) B r < 64) (i : S64.Idx) :
    Ideal.hostScatterAdd scatter_S64_S10000x1_S10000_n_0_0_1 (fun _ => 0) (col B) (fun _ => 1) i = ∑ _r ∈ rowsOf B (i 0).val, (1 : EReal) := by
  show (0 : EReal) + _ = _
  rw [zero_add]
  refine Finset.sum_nbij' (fun j => (j 0).val) (fun r => bIdx r) ?_ ?_ ?_ ?_ ?_
  · intro j hj
    exact Finset.mem_filter.2 ⟨Finset.mem_range.2 (j 0).isLt, (lands_count hB j i).1 (Finset.mem_filter.1 hj).2⟩
  · intro r hr
    obtain ⟨h1, h2⟩ := Finset.mem_filter.1 hr
    have e : ((bIdx r) 0).val = r := Nat.mod_eq_of_lt (Finset.mem_range.1 h1)
    exact Finset.mem_filter.2 ⟨Finset.mem_univ _, (lands_count hB _ i).2 (by rw [e]; exact h2)⟩
  · intro j _
    exact funext fun a => Fin.ext (by
      match a with
      | ⟨0, _⟩ => exact Nat.mod_eq_of_lt (j 0).isLt)
  · intro r hr
    exact Nat.mod_eq_of_lt (Finset.mem_range.1 (Finset.mem_filter.1 hr).1)
  · intro _ _
    rfl

/-- The reference's result, as its operations compose it. -/
abbrev result (X : FVec Ideal S10000x256 .f32) (B : IVec S10000 32) : FVec Ideal S64x256 .f32 :=
  Host.divf (Host.scatterAdd scatter_S64x256_S10000x1_S10000x256_1_0_0_1 (broadcastInDim S64x256 ![] bcast_S_S64x256 (constant S_ .f32 0x00000000#32)) (col B) X)
    (broadcastInDim S64x256 ![0, 1] bcast_S64x1_S64x256_0_1 (broadcastInDim S64x1 ![0] bcast_S64_S64x1_0
      (maximumf (broadcastInDim S64 ![] bcast_S_S64 (id (constant S_ .f32 0x3F800000#32)))
        (Host.scatterAdd scatter_S64_S10000x1_S10000_n_0_0_1 (broadcastInDim S64 ![] bcast_S_S64 (constant S_ .f32 0x00000000#32)) (col B)
          (broadcastInDim S10000 ![] bcast_S_S10000 (constant S_ .f32 0x3F800000#32))))))

/-- The graph of an element of the result. -/
def graph (i : S64x256.Idx) : S64.Idx
  | ⟨0, _⟩ => i 0

/-- The reference's result at a graph and a column: the graph's rows added up there, divided by their number or one. -/
theorem result_eq (hB : ∀ r, gnum (F := Ideal) B r < 64) (X : S10000x256.Idx → EReal) (i : S64x256.Idx) :
    result X B i = Ideal.div (∑ r ∈ rowsOf B (i 0).val, X (xIdx r (i 1).val)) (max 1 (∑ _r ∈ rowsOf B (i 0).val, (1 : EReal))) := by
  have z {s : Shape} (h : S_.BroadcastsInDim s (![] : Fin 0 → Fin s.rank)) :
      (broadcastInDim s ![] h (constant S_ .f32 0x00000000#32 : FVec Ideal S_ .f32) : s.Idx → EReal) = fun _ => 0 := funext fun _ => Ideal.ofBits_zero_f32
  have o {s : Shape} (h : S_.BroadcastsInDim s (![] : Fin 0 → Fin s.rank)) :
      (broadcastInDim s ![] h (constant S_ .f32 0x3F800000#32 : FVec Ideal S_ .f32) : s.Idx → EReal) = fun _ => 1 := funext fun _ => Ideal.ofBits_one_f32
  have n : Host.scatterAdd scatter_S64_S10000x1_S10000_n_0_0_1 (broadcastInDim S64 ![] bcast_S_S64 (constant S_ .f32 0x00000000#32 : FVec Ideal S_ .f32)) (col B)
      (broadcastInDim S10000 ![] bcast_S_S10000 (constant S_ .f32 0x3F800000#32)) = fun k : S64.Idx => (∑ _r ∈ rowsOf B (k 0).val, (1 : EReal)) := funext fun k => by
    show Ideal.hostScatterAdd _ _ _ _ k = _
    rw [z, o]
    exact count_eq hB k
  have t : Host.scatterAdd scatter_S64x256_S10000x1_S10000x256_1_0_0_1 (broadcastInDim S64x256 ![] bcast_S_S64x256 (constant S_ .f32 0x00000000#32 : FVec Ideal S_ .f32))
      (col B) X i = (∑ r ∈ rowsOf B (i 0).val, X (xIdx r (i 1).val) : EReal) := by
    show Ideal.hostScatterAdd _ _ _ _ i = _
    rw [z]
    exact sum_eq hB X i
  have b (v : S64.Idx → EReal) : broadcastInDim S64x256 ![0, 1] bcast_S64x1_S64x256_0_1 (broadcastInDim S64x1 ![0] bcast_S64_S64x1_0 v) i = v (graph i) :=
    congrArg v (funext fun a => Fin.ext (by
      match a with
      | ⟨0, _⟩ => rfl))
  have d : maximumf (F := Ideal) (φ := .f32) (broadcastInDim S64 ![] bcast_S_S64 (id (constant S_ .f32 0x3F800000#32)))
      (fun k : S64.Idx => (∑ _r ∈ rowsOf B (k 0).val, (1 : EReal))) (graph i) = max 1 (∑ _r ∈ rowsOf B (i 0).val, (1 : EReal)) :=
    congrArg (fun x : EReal => max x (∑ _r ∈ rowsOf B (i 0).val, (1 : EReal))) (congrFun (o bcast_S_S64) (graph i))
  have q (x y : FVec Ideal S64x256 .f32) : Host.divf x y i = Ideal.div (x i) (y i) := rfl
  unfold result
  rw [n, q, t, b, d]

end Cert.Proof.Ref
-- ==== Proof.Equation.lean ====
module

public import proofs.«01_k».proof.Proof.Frames
public import proofs.«01_k».proof.Proof.Reference

/-! # The equation: on sorted graph numbers the kernel and the reference, over the extended reals, end with the same means. -/

@[expose] public section

noncomputable section

namespace Cert.Proof

open Idealize.ShloMosaic Idealize.SL.Sem

/-- A wrapped row is the row that the preconditions speak of. -/
theorem row_bIdx {r : ℕ} (h : r < 10000) : PoolI.bIdx r = Pre.row r h := funext fun a => Fin.ext (by
  match a with
  | ⟨0, _⟩ => exact Nat.mod_eq_of_lt h)

/-- Under the second precondition the graph numbers are in order. -/
theorem in_order {x : FVec Ideal ⟨2, ![10000, 256]⟩ .f32} {e : IVec ⟨2, ![2, 160000]⟩ 32} {b : IVec ⟨1, ![10000]⟩ 32}
    (h : Cert.Pre_graphs_sorted.fn (F := Ideal) x e b = fun _ => 1#1) : PoolI.InOrder b := fun r r' hle hr' => by
  unfold PoolI.gnum
  rw [row_bIdx (lt_of_le_of_lt hle hr'), row_bIdx hr']
  exact Pre.sorted_le h hle hr'

/-- On sorted graph numbers the two results are one. -/
theorem result_gOut {x : FVec Ideal ⟨2, ![10000, 256]⟩ .f32} {e : IVec ⟨2, ![2, 160000]⟩ 32} {b : IVec ⟨1, ![10000]⟩ 32}
    (h : Cert.Pre_graphs_sorted.fn (F := Ideal) x e b = fun _ => 1#1) : Ref.result x b = PoolI.gOut (F := Ideal) x b := funext fun i => by
  have hB (r : ℕ) : PoolI.gnum (F := Ideal) b r < 64 := Pre.sorted_range h _
  exact (Ref.result_eq hB x i).trans (PoolI.gOut_ideal x hB (in_order h) i).symm

/-- From memories that agree on the arguments, both programs run and end with equal means. -/
theorem equation : Cert.algebraic_KernelIdeal_ReferenceIdeal_pre_graphs_sorted := fun m ρ m' ρ' h ha =>
  ⟨fun c => PoolI.res m c,
    (θ_run Cert.KernelIdeal.defs _ _).mono (fun _ q c => ⟨(q.1 c).2.2.2, (q.1 c).1, (q.1 c).2.1, (q.1 c).2.2.1⟩)
      (PoolI.run_main (F := Ideal) m ρ (PoolI.cuts_of m fun d i => Pre.sorted_range (h d) i)),
    (θ_run Cert.ReferenceIdeal.defs _ _).mono (fun _ q c => ⟨by
        refine (q c).1.trans ?_
        rw [(ha c).1, (ha c).2.2]
        exact result_gOut (h c), (q c).2⟩)
      (Cert.ReferenceIdeal.Value.run (F := Ideal) m' ρ')⟩

end Cert.Proof
-- ==== Proof.lean ====
/-
  The certificate: the kernel's frame, as printed and over the extended reals; the reference's frame; that
  the idealized kernel is the printed one; and that on sorted graph numbers the kernel and the reference, over the extended
  reals, end with the same means. The modules under `Proof/` hold the proofs.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Equation

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Pre.range_facts, Pre.sorted_facts,
    frame_kernel, frame_ideal, frame_ideal_sorted, frame_reference, frame_reference_sorted, trivial, equation⟩

end Cert.Proof

end
